-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_BwdX (m : (ℓ : Loc Cert.BwdX.nD Cert.BwdX.τ Cert.BwdX.sig) → Buf (Elt Bits) ℓ) : Prop :=
  True

def Pre_BwdXIdeal (m : (ℓ : Loc Cert.BwdXIdeal.nD Cert.BwdXIdeal.τ Cert.BwdXIdeal.sig) → Buf (Elt Ideal) ℓ) : Prop :=
  True

def Pre_BwdXRefIdeal (m : (ℓ : Loc Cert.BwdXRefIdeal.nD Cert.BwdXRefIdeal.τ Cert.BwdXRefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdRefIdeal (m : (ℓ : Loc Cert.ConvBwdRefIdeal.nD Cert.ConvBwdRefIdeal.τ Cert.ConvBwdRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamA (m : (ℓ : Loc Cert.AdamA.nD Cert.AdamA.τ Cert.AdamA.sig) → Buf (Elt Bits) ℓ) : Prop :=
  True

def Pre_AdamAIdeal (m : (ℓ : Loc Cert.AdamAIdeal.nD Cert.AdamAIdeal.τ Cert.AdamAIdeal.sig) → Buf (Elt Ideal) ℓ) : Prop :=
  True

def Pre_AdamARefIdeal (m : (ℓ : Loc Cert.AdamARefIdeal.nD Cert.AdamARefIdeal.τ Cert.AdamARefIdeal.sig) → Buf (Elt Ideal) ℓ) : Prop :=
  True

def Pre_AdamB (m : (ℓ : Loc Cert.AdamB.nD Cert.AdamB.τ Cert.AdamB.sig) → Buf (Elt Bits) ℓ) : Prop :=
  True

def Pre_AdamBIdeal (m : (ℓ : Loc Cert.AdamBIdeal.nD Cert.AdamBIdeal.τ Cert.AdamBIdeal.sig) → Buf (Elt Ideal) ℓ) : Prop :=
  True

def Pre_AdamBRefIdeal (m : (ℓ : Loc Cert.AdamBRefIdeal.nD Cert.AdamBRefIdeal.τ Cert.AdamBRefIdeal.sig) → Buf (Elt Ideal) ℓ) : Prop :=
  True

def Pre_AdamC (m : (ℓ : Loc Cert.AdamC.nD Cert.AdamC.τ Cert.AdamC.sig) → Buf (Elt Bits) ℓ) : Prop :=
  True

def Pre_AdamCIdeal (m : (ℓ : Loc Cert.AdamCIdeal.nD Cert.AdamCIdeal.τ Cert.AdamCIdeal.sig) → Buf (Elt Ideal) ℓ) : Prop :=
  True

def Pre_AdamCRefIdeal (m : (ℓ : Loc Cert.AdamCRefIdeal.nD Cert.AdamCRefIdeal.τ Cert.AdamCRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_BwdX [hBwdX : Cert.BwdX.Facts] : Prop :=
  ∀ (m : (ℓ : Loc Cert.BwdX.nD Cert.BwdX.τ Cert.BwdX.sig) → Buf (Elt Bits) ℓ) (g : Dev Cert.BwdX.nD → PrngReg), Pre_BwdX m →
    θ_run (Cert.BwdX.defs (F := Bits)) (onTc (τ := Cert.BwdX.τ) (Cert.BwdX.main (F := Bits))) ⟨m, fun _ => 0, g⟩ (fun r => (∀ c : Dev Cert.BwdX.nD,
      r.2.mem ((c.tc : Thread Cert.BwdX.nD Cert.BwdX.τ).loc Cert.BwdX.main_arg0) = m ((c.tc : Thread Cert.BwdX.nD Cert.BwdX.τ).loc Cert.BwdX.main_arg0)
      ∧ r.2.mem ((c.tc : Thread Cert.BwdX.nD Cert.BwdX.τ).loc Cert.BwdX.main_arg1) = m ((c.tc : Thread Cert.BwdX.nD Cert.BwdX.τ).loc Cert.BwdX.main_arg1)
      ∧ r.2.mem ((c.tc : Thread Cert.BwdX.nD Cert.BwdX.τ).loc Cert.BwdX.main_arg2) = m ((c.tc : Thread Cert.BwdX.nD Cert.BwdX.τ).loc Cert.BwdX.main_arg2)
      ∧ r.2.mem ((c.tc : Thread Cert.BwdX.nD Cert.BwdX.τ).loc Cert.BwdX.main_arg3) = m ((c.tc : Thread Cert.BwdX.nD Cert.BwdX.τ).loc Cert.BwdX.main_arg3)
      ∧ r.2.mem ((c.tc : Thread Cert.BwdX.nD Cert.BwdX.τ).loc Cert.BwdX.main_arg4) = m ((c.tc : Thread Cert.BwdX.nD Cert.BwdX.τ).loc Cert.BwdX.main_arg4)
      ∧ r.2.mem ((c.tc : Thread Cert.BwdX.nD Cert.BwdX.τ).loc Cert.BwdX.main_arg5) = m ((c.tc : Thread Cert.BwdX.nD Cert.BwdX.τ).loc Cert.BwdX.main_arg5)
      ∧ r.2.mem ((c.tc : Thread Cert.BwdX.nD Cert.BwdX.τ).loc Cert.BwdX.main_arg6) = m ((c.tc : Thread Cert.BwdX.nD Cert.BwdX.τ).loc Cert.BwdX.main_arg6)
      ∧ r.2.mem ((c.tc : Thread Cert.BwdX.nD Cert.BwdX.τ).loc Cert.BwdX.main_arg7) = m ((c.tc : Thread Cert.BwdX.nD Cert.BwdX.τ).loc Cert.BwdX.main_arg7))
      ∧ r.2.sem = fun _ => 0)

def quiescent_BwdXIdeal [hBwdXIdeal : Cert.BwdXIdeal.Facts] : Prop :=
  ∀ (m : (ℓ : Loc Cert.BwdXIdeal.nD Cert.BwdXIdeal.τ Cert.BwdXIdeal.sig) → Buf (Elt Ideal) ℓ) (g : Dev Cert.BwdXIdeal.nD → PrngReg), Pre_BwdXIdeal m →
    θ_run (Cert.BwdXIdeal.defs (F := Ideal)) (onTc (τ := Cert.BwdXIdeal.τ) (Cert.BwdXIdeal.main (F := Ideal))) ⟨m, fun _ => 0, g⟩ (fun r => (∀ c : Dev Cert.BwdXIdeal.nD,
      r.2.mem ((c.tc : Thread Cert.BwdXIdeal.nD Cert.BwdXIdeal.τ).loc Cert.BwdXIdeal.main_arg0) = m ((c.tc : Thread Cert.BwdXIdeal.nD Cert.BwdXIdeal.τ).loc Cert.BwdXIdeal.main_arg0)
      ∧ r.2.mem ((c.tc : Thread Cert.BwdXIdeal.nD Cert.BwdXIdeal.τ).loc Cert.BwdXIdeal.main_arg1) = m ((c.tc : Thread Cert.BwdXIdeal.nD Cert.BwdXIdeal.τ).loc Cert.BwdXIdeal.main_arg1)
      ∧ r.2.mem ((c.tc : Thread Cert.BwdXIdeal.nD Cert.BwdXIdeal.τ).loc Cert.BwdXIdeal.main_arg2) = m ((c.tc : Thread Cert.BwdXIdeal.nD Cert.BwdXIdeal.τ).loc Cert.BwdXIdeal.main_arg2)
      ∧ r.2.mem ((c.tc : Thread Cert.BwdXIdeal.nD Cert.BwdXIdeal.τ).loc Cert.BwdXIdeal.main_arg3) = m ((c.tc : Thread Cert.BwdXIdeal.nD Cert.BwdXIdeal.τ).loc Cert.BwdXIdeal.main_arg3)
      ∧ r.2.mem ((c.tc : Thread Cert.BwdXIdeal.nD Cert.BwdXIdeal.τ).loc Cert.BwdXIdeal.main_arg4) = m ((c.tc : Thread Cert.BwdXIdeal.nD Cert.BwdXIdeal.τ).loc Cert.BwdXIdeal.main_arg4)
      ∧ r.2.mem ((c.tc : Thread Cert.BwdXIdeal.nD Cert.BwdXIdeal.τ).loc Cert.BwdXIdeal.main_arg5) = m ((c.tc : Thread Cert.BwdXIdeal.nD Cert.BwdXIdeal.τ).loc Cert.BwdXIdeal.main_arg5)
      ∧ r.2.mem ((c.tc : Thread Cert.BwdXIdeal.nD Cert.BwdXIdeal.τ).loc Cert.BwdXIdeal.main_arg6) = m ((c.tc : Thread Cert.BwdXIdeal.nD Cert.BwdXIdeal.τ).loc Cert.BwdXIdeal.main_arg6)
      ∧ r.2.mem ((c.tc : Thread Cert.BwdXIdeal.nD Cert.BwdXIdeal.τ).loc Cert.BwdXIdeal.main_arg7) = m ((c.tc : Thread Cert.BwdXIdeal.nD Cert.BwdXIdeal.τ).loc Cert.BwdXIdeal.main_arg7))
      ∧ r.2.sem = fun _ => 0)

def quiescent_BwdXRefIdeal [hBwdXRefIdeal : Cert.BwdXRefIdeal.Facts] : Prop :=
  ∀ (m : (ℓ : Loc Cert.BwdXRefIdeal.nD Cert.BwdXRefIdeal.τ Cert.BwdXRefIdeal.sig) → Buf (Elt Ideal) ℓ) (g : Dev Cert.BwdXRefIdeal.nD → PrngReg), Pre_BwdXRefIdeal m →
    θ_run (Cert.BwdXRefIdeal.defs (F := Ideal)) (onTc (τ := Cert.BwdXRefIdeal.τ) (Cert.BwdXRefIdeal.main (F := Ideal))) ⟨m, fun _ => 0, g⟩ (fun r => (∀ c : Dev Cert.BwdXRefIdeal.nD,
      r.2.mem ((c.tc : Thread Cert.BwdXRefIdeal.nD Cert.BwdXRefIdeal.τ).loc Cert.BwdXRefIdeal.main_arg0) = m ((c.tc : Thread Cert.BwdXRefIdeal.nD Cert.BwdXRefIdeal.τ).loc Cert.BwdXRefIdeal.main_arg0)
      ∧ r.2.mem ((c.tc : Thread Cert.BwdXRefIdeal.nD Cert.BwdXRefIdeal.τ).loc Cert.BwdXRefIdeal.main_arg1) = m ((c.tc : Thread Cert.BwdXRefIdeal.nD Cert.BwdXRefIdeal.τ).loc Cert.BwdXRefIdeal.main_arg1)
      ∧ r.2.mem ((c.tc : Thread Cert.BwdXRefIdeal.nD Cert.BwdXRefIdeal.τ).loc Cert.BwdXRefIdeal.main_arg2) = m ((c.tc : Thread Cert.BwdXRefIdeal.nD Cert.BwdXRefIdeal.τ).loc Cert.BwdXRefIdeal.main_arg2)
      ∧ r.2.mem ((c.tc : Thread Cert.BwdXRefIdeal.nD Cert.BwdXRefIdeal.τ).loc Cert.BwdXRefIdeal.main_arg3) = m ((c.tc : Thread Cert.BwdXRefIdeal.nD Cert.BwdXRefIdeal.τ).loc Cert.BwdXRefIdeal.main_arg3)
      ∧ r.2.mem ((c.tc : Thread Cert.BwdXRefIdeal.nD Cert.BwdXRefIdeal.τ).loc Cert.BwdXRefIdeal.main_arg4) = m ((c.tc : Thread Cert.BwdXRefIdeal.nD Cert.BwdXRefIdeal.τ).loc Cert.BwdXRefIdeal.main_arg4)
      ∧ r.2.mem ((c.tc : Thread Cert.BwdXRefIdeal.nD Cert.BwdXRefIdeal.τ).loc Cert.BwdXRefIdeal.main_arg5) = m ((c.tc : Thread Cert.BwdXRefIdeal.nD Cert.BwdXRefIdeal.τ).loc Cert.BwdXRefIdeal.main_arg5)
      ∧ r.2.mem ((c.tc : Thread Cert.BwdXRefIdeal.nD Cert.BwdXRefIdeal.τ).loc Cert.BwdXRefIdeal.main_arg6) = m ((c.tc : Thread Cert.BwdXRefIdeal.nD Cert.BwdXRefIdeal.τ).loc Cert.BwdXRefIdeal.main_arg6)
      ∧ r.2.mem ((c.tc : Thread Cert.BwdXRefIdeal.nD Cert.BwdXRefIdeal.τ).loc Cert.BwdXRefIdeal.main_arg7) = m ((c.tc : Thread Cert.BwdXRefIdeal.nD Cert.BwdXRefIdeal.τ).loc Cert.BwdXRefIdeal.main_arg7))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3)
      ∧ r.2.mem ((c.tc : Thread Cert.ConvBwd.nD Cert.ConvBwd.τ).loc Cert.ConvBwd.main_arg4) = m ((c.tc : Thread Cert.ConvBwd.nD Cert.ConvBwd.τ).loc Cert.ConvBwd.main_arg4))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3)
      ∧ r.2.mem ((c.tc : Thread Cert.ConvBwdRefIdeal.nD Cert.ConvBwdRefIdeal.τ).loc Cert.ConvBwdRefIdeal.main_arg4) = m ((c.tc : Thread Cert.ConvBwdRefIdeal.nD Cert.ConvBwdRefIdeal.τ).loc Cert.ConvBwdRefIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamA [hAdamA : Cert.AdamA.Facts] : Prop :=
  ∀ (m : (ℓ : Loc Cert.AdamA.nD Cert.AdamA.τ Cert.AdamA.sig) → Buf (Elt Bits) ℓ) (g : Dev Cert.AdamA.nD → PrngReg), Pre_AdamA m →
    θ_run (Cert.AdamA.defs (F := Bits)) (onTc (τ := Cert.AdamA.τ) (Cert.AdamA.main (F := Bits))) ⟨m, fun _ => 0, g⟩ (fun r => (∀ c : Dev Cert.AdamA.nD,
      r.2.mem ((c.tc : Thread Cert.AdamA.nD Cert.AdamA.τ).loc Cert.AdamA.main_arg0) = m ((c.tc : Thread Cert.AdamA.nD Cert.AdamA.τ).loc Cert.AdamA.main_arg0)
      ∧ r.2.mem ((c.tc : Thread Cert.AdamA.nD Cert.AdamA.τ).loc Cert.AdamA.main_arg1) = m ((c.tc : Thread Cert.AdamA.nD Cert.AdamA.τ).loc Cert.AdamA.main_arg1)
      ∧ r.2.mem ((c.tc : Thread Cert.AdamA.nD Cert.AdamA.τ).loc Cert.AdamA.main_arg2) = m ((c.tc : Thread Cert.AdamA.nD Cert.AdamA.τ).loc Cert.AdamA.main_arg2)
      ∧ r.2.mem ((c.tc : Thread Cert.AdamA.nD Cert.AdamA.τ).loc Cert.AdamA.main_arg3) = m ((c.tc : Thread Cert.AdamA.nD Cert.AdamA.τ).loc Cert.AdamA.main_arg3)
      ∧ r.2.mem ((c.tc : Thread Cert.AdamA.nD Cert.AdamA.τ).loc Cert.AdamA.main_arg4) = m ((c.tc : Thread Cert.AdamA.nD Cert.AdamA.τ).loc Cert.AdamA.main_arg4)
      ∧ r.2.mem ((c.tc : Thread Cert.AdamA.nD Cert.AdamA.τ).loc Cert.AdamA.main_arg5) = m ((c.tc : Thread Cert.AdamA.nD Cert.AdamA.τ).loc Cert.AdamA.main_arg5)
      ∧ r.2.mem ((c.tc : Thread Cert.AdamA.nD Cert.AdamA.τ).loc Cert.AdamA.main_arg6) = m ((c.tc : Thread Cert.AdamA.nD Cert.AdamA.τ).loc Cert.AdamA.main_arg6)
      ∧ r.2.mem ((c.tc : Thread Cert.AdamA.nD Cert.AdamA.τ).loc Cert.AdamA.main_arg7) = m ((c.tc : Thread Cert.AdamA.nD Cert.AdamA.τ).loc Cert.AdamA.main_arg7)
      ∧ r.2.mem ((c.tc : Thread Cert.AdamA.nD Cert.AdamA.τ).loc Cert.AdamA.main_arg8) = m ((c.tc : Thread Cert.AdamA.nD Cert.AdamA.τ).loc Cert.AdamA.main_arg8)
      ∧ r.2.mem ((c.tc : Thread Cert.AdamA.nD Cert.AdamA.τ).loc Cert.AdamA.main_arg9) = m ((c.tc : Thread Cert.AdamA.nD Cert.AdamA.τ).loc Cert.AdamA.main_arg9)
      ∧ r.2.mem ((c.tc : Thread Cert.AdamA.nD Cert.AdamA.τ).loc Cert.AdamA.main_arg10) = m ((c.tc : Thread Cert.AdamA.nD Cert.AdamA.τ).loc Cert.AdamA.main_arg10)
      ∧ r.2.mem ((c.tc : Thread Cert.AdamA.nD Cert.AdamA.τ).loc Cert.AdamA.main_arg11) = m ((c.tc : Thread Cert.AdamA.nD Cert.AdamA.τ).loc Cert.AdamA.main_arg11)
      ∧ r.2.mem ((c.tc : Thread Cert.AdamA.nD Cert.AdamA.τ).loc Cert.AdamA.main_arg12) = m ((c.tc : Thread Cert.AdamA.nD Cert.AdamA.τ).loc Cert.AdamA.main_arg12)
      ∧ r.2.mem ((c.tc : Thread Cert.AdamA.nD Cert.AdamA.τ).loc Cert.AdamA.main_arg13) = m ((c.tc : Thread Cert.AdamA.nD Cert.AdamA.τ).loc Cert.AdamA.main_arg13)
      ∧ r.2.mem ((c.tc : Thread Cert.AdamA.nD Cert.AdamA.τ).loc Cert.AdamA.main_arg14) = m ((c.tc : Thread Cert.AdamA.nD Cert.AdamA.τ).loc Cert.AdamA.main_arg14)
      ∧ r.2.mem ((c.tc : Thread Cert.AdamA.nD Cert.AdamA.τ).loc Cert.AdamA.main_arg15) = m ((c.tc : Thread Cert.AdamA.nD Cert.AdamA.τ).loc Cert.AdamA.main_arg15))
      ∧ r.2.sem = fun _ => 0)

def quiescent_AdamAIdeal [hAdamAIdeal : Cert.AdamAIdeal.Facts] : Prop :=
  ∀ (m : (ℓ : Loc Cert.AdamAIdeal.nD Cert.AdamAIdeal.τ Cert.AdamAIdeal.sig) → Buf (Elt Ideal) ℓ) (g : Dev Cert.AdamAIdeal.nD → PrngReg), Pre_AdamAIdeal m →
    θ_run (Cert.AdamAIdeal.defs (F := Ideal)) (onTc (τ := Cert.AdamAIdeal.τ) (Cert.AdamAIdeal.main (F := Ideal))) ⟨m, fun _ => 0, g⟩ (fun r => (∀ c : Dev Cert.AdamAIdeal.nD,
      r.2.mem ((c.tc : Thread Cert.AdamAIdeal.nD Cert.AdamAIdeal.τ).loc Cert.AdamAIdeal.main_arg0) = m ((c.tc : Thread Cert.AdamAIdeal.nD Cert.AdamAIdeal.τ).loc Cert.AdamAIdeal.main_arg0)
      ∧ r.2.mem ((c.tc : Thread Cert.AdamAIdeal.nD Cert.AdamAIdeal.τ).loc Cert.AdamAIdeal.main_arg1) = m ((c.tc : Thread Cert.AdamAIdeal.nD Cert.AdamAIdeal.τ).loc Cert.AdamAIdeal.main_arg1)
      ∧ r.2.mem ((c.tc : Thread Cert.AdamAIdeal.nD Cert.AdamAIdeal.τ).loc Cert.AdamAIdeal.main_arg2) = m ((c.tc : Thread Cert.AdamAIdeal.nD Cert.AdamAIdeal.τ).loc Cert.AdamAIdeal.main_arg2)
      ∧ r.2.mem ((c.tc : Thread Cert.AdamAIdeal.nD Cert.AdamAIdeal.τ).loc Cert.AdamAIdeal.main_arg3) = m ((c.tc : Thread Cert.AdamAIdeal.nD Cert.AdamAIdeal.τ).loc Cert.AdamAIdeal.main_arg3)
      ∧ r.2.mem ((c.tc : Thread Cert.AdamAIdeal.nD Cert.AdamAIdeal.τ).loc Cert.AdamAIdeal.main_arg4) = m ((c.tc : Thread Cert.AdamAIdeal.nD Cert.AdamAIdeal.τ).loc Cert.AdamAIdeal.main_arg4)
      ∧ r.2.mem ((c.tc : Thread Cert.AdamAIdeal.nD Cert.AdamAIdeal.τ).loc Cert.AdamAIdeal.main_arg5) = m ((c.tc : Thread Cert.AdamAIdeal.nD Cert.AdamAIdeal.τ).loc Cert.AdamAIdeal.main_arg5)
      ∧ r.2.mem ((c.tc : Thread Cert.AdamAIdeal.nD Cert.AdamAIdeal.τ).loc Cert.AdamAIdeal.main_arg6) = m ((c.tc : Thread Cert.AdamAIdeal.nD Cert.AdamAIdeal.τ).loc Cert.AdamAIdeal.main_arg6)
      ∧ r.2.mem ((c.tc : Thread Cert.AdamAIdeal.nD Cert.AdamAIdeal.τ).loc Cert.AdamAIdeal.main_arg7) = m ((c.tc : Thread Cert.AdamAIdeal.nD Cert.AdamAIdeal.τ).loc Cert.AdamAIdeal.main_arg7)
      ∧ r.2.mem ((c.tc : Thread Cert.AdamAIdeal.nD Cert.AdamAIdeal.τ).loc Cert.AdamAIdeal.main_arg8) = m ((c.tc : Thread Cert.AdamAIdeal.nD Cert.AdamAIdeal.τ).loc Cert.AdamAIdeal.main_arg8)
      ∧ r.2.mem ((c.tc : Thread Cert.AdamAIdeal.nD Cert.AdamAIdeal.τ).loc Cert.AdamAIdeal.main_arg9) = m ((c.tc : Thread Cert.AdamAIdeal.nD Cert.AdamAIdeal.τ).loc Cert.AdamAIdeal.main_arg9)
      ∧ r.2.mem ((c.tc : Thread Cert.AdamAIdeal.nD Cert.AdamAIdeal.τ).loc Cert.AdamAIdeal.main_arg10) = m ((c.tc : Thread Cert.AdamAIdeal.nD Cert.AdamAIdeal.τ).loc Cert.AdamAIdeal.main_arg10)
      ∧ r.2.mem ((c.tc : Thread Cert.AdamAIdeal.nD Cert.AdamAIdeal.τ).loc Cert.AdamAIdeal.main_arg11) = m ((c.tc : Thread Cert.AdamAIdeal.nD Cert.AdamAIdeal.τ).loc Cert.AdamAIdeal.main_arg11)
      ∧ r.2.mem ((c.tc : Thread Cert.AdamAIdeal.nD Cert.AdamAIdeal.τ).loc Cert.AdamAIdeal.main_arg12) = m ((c.tc : Thread Cert.AdamAIdeal.nD Cert.AdamAIdeal.τ).loc Cert.AdamAIdeal.main_arg12)
      ∧ r.2.mem ((c.tc : Thread Cert.AdamAIdeal.nD Cert.AdamAIdeal.τ).loc Cert.AdamAIdeal.main_arg13) = m ((c.tc : Thread Cert.AdamAIdeal.nD Cert.AdamAIdeal.τ).loc Cert.AdamAIdeal.main_arg13)
      ∧ r.2.mem ((c.tc : Thread Cert.AdamAIdeal.nD Cert.AdamAIdeal.τ).loc Cert.AdamAIdeal.main_arg14) = m ((c.tc : Thread Cert.AdamAIdeal.nD Cert.AdamAIdeal.τ).loc Cert.AdamAIdeal.main_arg14)
      ∧ r.2.mem ((c.tc : Thread Cert.AdamAIdeal.nD Cert.AdamAIdeal.τ).loc Cert.AdamAIdeal.main_arg15) = m ((c.tc : Thread Cert.AdamAIdeal.nD Cert.AdamAIdeal.τ).loc Cert.AdamAIdeal.main_arg15))
      ∧ r.2.sem = fun _ => 0)

def quiescent_AdamARefIdeal [hAdamARefIdeal : Cert.AdamARefIdeal.Facts] : Prop :=
  ∀ (m : (ℓ : Loc Cert.AdamARefIdeal.nD Cert.AdamARefIdeal.τ Cert.AdamARefIdeal.sig) → Buf (Elt Ideal) ℓ) (g : Dev Cert.AdamARefIdeal.nD → PrngReg), Pre_AdamARefIdeal m →
    θ_run (Cert.AdamARefIdeal.defs (F := Ideal)) (onTc (τ := Cert.AdamARefIdeal.τ) (Cert.AdamARefIdeal.main (F := Ideal))) ⟨m, fun _ => 0, g⟩ (fun r => (∀ c : Dev Cert.AdamARefIdeal.nD,
      r.2.mem ((c.tc : Thread Cert.AdamARefIdeal.nD Cert.AdamARefIdeal.τ).loc Cert.AdamARefIdeal.main_arg0) = m ((c.tc : Thread Cert.AdamARefIdeal.nD Cert.AdamARefIdeal.τ).loc Cert.AdamARefIdeal.main_arg0)
      ∧ r.2.mem ((c.tc : Thread Cert.AdamARefIdeal.nD Cert.AdamARefIdeal.τ).loc Cert.AdamARefIdeal.main_arg1) = m ((c.tc : Thread Cert.AdamARefIdeal.nD Cert.AdamARefIdeal.τ).loc Cert.AdamARefIdeal.main_arg1)
      ∧ r.2.mem ((c.tc : Thread Cert.AdamARefIdeal.nD Cert.AdamARefIdeal.τ).loc Cert.AdamARefIdeal.main_arg2) = m ((c.tc : Thread Cert.AdamARefIdeal.nD Cert.AdamARefIdeal.τ).loc Cert.AdamARefIdeal.main_arg2)
      ∧ r.2.mem ((c.tc : Thread Cert.AdamARefIdeal.nD Cert.AdamARefIdeal.τ).loc Cert.AdamARefIdeal.main_arg3) = m ((c.tc : Thread Cert.AdamARefIdeal.nD Cert.AdamARefIdeal.τ).loc Cert.AdamARefIdeal.main_arg3)
      ∧ r.2.mem ((c.tc : Thread Cert.AdamARefIdeal.nD Cert.AdamARefIdeal.τ).loc Cert.AdamARefIdeal.main_arg4) = m ((c.tc : Thread Cert.AdamARefIdeal.nD Cert.AdamARefIdeal.τ).loc Cert.AdamARefIdeal.main_arg4)
      ∧ r.2.mem ((c.tc : Thread Cert.AdamARefIdeal.nD Cert.AdamARefIdeal.τ).loc Cert.AdamARefIdeal.main_arg5) = m ((c.tc : Thread Cert.AdamARefIdeal.nD Cert.AdamARefIdeal.τ).loc Cert.AdamARefIdeal.main_arg5)
      ∧ r.2.mem ((c.tc : Thread Cert.AdamARefIdeal.nD Cert.AdamARefIdeal.τ).loc Cert.AdamARefIdeal.main_arg6) = m ((c.tc : Thread Cert.AdamARefIdeal.nD Cert.AdamARefIdeal.τ).loc Cert.AdamARefIdeal.main_arg6)
      ∧ r.2.mem ((c.tc : Thread Cert.AdamARefIdeal.nD Cert.AdamARefIdeal.τ).loc Cert.AdamARefIdeal.main_arg7) = m ((c.tc : Thread Cert.AdamARefIdeal.nD Cert.AdamARefIdeal.τ).loc Cert.AdamARefIdeal.main_arg7)
      ∧ r.2.mem ((c.tc : Thread Cert.AdamARefIdeal.nD Cert.AdamARefIdeal.τ).loc Cert.AdamARefIdeal.main_arg8) = m ((c.tc : Thread Cert.AdamARefIdeal.nD Cert.AdamARefIdeal.τ).loc Cert.AdamARefIdeal.main_arg8)
      ∧ r.2.mem ((c.tc : Thread Cert.AdamARefIdeal.nD Cert.AdamARefIdeal.τ).loc Cert.AdamARefIdeal.main_arg9) = m ((c.tc : Thread Cert.AdamARefIdeal.nD Cert.AdamARefIdeal.τ).loc Cert.AdamARefIdeal.main_arg9)
      ∧ r.2.mem ((c.tc : Thread Cert.AdamARefIdeal.nD Cert.AdamARefIdeal.τ).loc Cert.AdamARefIdeal.main_arg10) = m ((c.tc : Thread Cert.AdamARefIdeal.nD Cert.AdamARefIdeal.τ).loc Cert.AdamARefIdeal.main_arg10)
      ∧ r.2.mem ((c.tc : Thread Cert.AdamARefIdeal.nD Cert.AdamARefIdeal.τ).loc Cert.AdamARefIdeal.main_arg11) = m ((c.tc : Thread Cert.AdamARefIdeal.nD Cert.AdamARefIdeal.τ).loc Cert.AdamARefIdeal.main_arg11)
      ∧ r.2.mem ((c.tc : Thread Cert.AdamARefIdeal.nD Cert.AdamARefIdeal.τ).loc Cert.AdamARefIdeal.main_arg12) = m ((c.tc : Thread Cert.AdamARefIdeal.nD Cert.AdamARefIdeal.τ).loc Cert.AdamARefIdeal.main_arg12)
      ∧ r.2.mem ((c.tc : Thread Cert.AdamARefIdeal.nD Cert.AdamARefIdeal.τ).loc Cert.AdamARefIdeal.main_arg13) = m ((c.tc : Thread Cert.AdamARefIdeal.nD Cert.AdamARefIdeal.τ).loc Cert.AdamARefIdeal.main_arg13)
      ∧ r.2.mem ((c.tc : Thread Cert.AdamARefIdeal.nD Cert.AdamARefIdeal.τ).loc Cert.AdamARefIdeal.main_arg14) = m ((c.tc : Thread Cert.AdamARefIdeal.nD Cert.AdamARefIdeal.τ).loc Cert.AdamARefIdeal.main_arg14)
      ∧ r.2.mem ((c.tc : Thread Cert.AdamARefIdeal.nD Cert.AdamARefIdeal.τ).loc Cert.AdamARefIdeal.main_arg15) = m ((c.tc : Thread Cert.AdamARefIdeal.nD Cert.AdamARefIdeal.τ).loc Cert.AdamARefIdeal.main_arg15))
      ∧ r.2.sem = fun _ => 0)

def quiescent_AdamB [hAdamB : Cert.AdamB.Facts] : Prop :=
  ∀ (m : (ℓ : Loc Cert.AdamB.nD Cert.AdamB.τ Cert.AdamB.sig) → Buf (Elt Bits) ℓ) (g : Dev Cert.AdamB.nD → PrngReg), Pre_AdamB m →
    θ_run (Cert.AdamB.defs (F := Bits)) (onTc (τ := Cert.AdamB.τ) (Cert.AdamB.main (F := Bits))) ⟨m, fun _ => 0, g⟩ (fun r => (∀ c : Dev Cert.AdamB.nD,
      r.2.mem ((c.tc : Thread Cert.AdamB.nD Cert.AdamB.τ).loc Cert.AdamB.main_arg0) = m ((c.tc : Thread Cert.AdamB.nD Cert.AdamB.τ).loc Cert.AdamB.main_arg0)
      ∧ r.2.mem ((c.tc : Thread Cert.AdamB.nD Cert.AdamB.τ).loc Cert.AdamB.main_arg1) = m ((c.tc : Thread Cert.AdamB.nD Cert.AdamB.τ).loc Cert.AdamB.main_arg1)
      ∧ r.2.mem ((c.tc : Thread Cert.AdamB.nD Cert.AdamB.τ).loc Cert.AdamB.main_arg2) = m ((c.tc : Thread Cert.AdamB.nD Cert.AdamB.τ).loc Cert.AdamB.main_arg2)
      ∧ r.2.mem ((c.tc : Thread Cert.AdamB.nD Cert.AdamB.τ).loc Cert.AdamB.main_arg3) = m ((c.tc : Thread Cert.AdamB.nD Cert.AdamB.τ).loc Cert.AdamB.main_arg3)
      ∧ r.2.mem ((c.tc : Thread Cert.AdamB.nD Cert.AdamB.τ).loc Cert.AdamB.main_arg4) = m ((c.tc : Thread Cert.AdamB.nD Cert.AdamB.τ).loc Cert.AdamB.main_arg4)
      ∧ r.2.mem ((c.tc : Thread Cert.AdamB.nD Cert.AdamB.τ).loc Cert.AdamB.main_arg5) = m ((c.tc : Thread Cert.AdamB.nD Cert.AdamB.τ).loc Cert.AdamB.main_arg5)
      ∧ r.2.mem ((c.tc : Thread Cert.AdamB.nD Cert.AdamB.τ).loc Cert.AdamB.main_arg6) = m ((c.tc : Thread Cert.AdamB.nD Cert.AdamB.τ).loc Cert.AdamB.main_arg6)
      ∧ r.2.mem ((c.tc : Thread Cert.AdamB.nD Cert.AdamB.τ).loc Cert.AdamB.main_arg7) = m ((c.tc : Thread Cert.AdamB.nD Cert.AdamB.τ).loc Cert.AdamB.main_arg7)
      ∧ r.2.mem ((c.tc : Thread Cert.AdamB.nD Cert.AdamB.τ).loc Cert.AdamB.main_arg8) = m ((c.tc : Thread Cert.AdamB.nD Cert.AdamB.τ).loc Cert.AdamB.main_arg8)
      ∧ r.2.mem ((c.tc : Thread Cert.AdamB.nD Cert.AdamB.τ).loc Cert.AdamB.main_arg9) = m ((c.tc : Thread Cert.AdamB.nD Cert.AdamB.τ).loc Cert.AdamB.main_arg9)
      ∧ r.2.mem ((c.tc : Thread Cert.AdamB.nD Cert.AdamB.τ).loc Cert.AdamB.main_arg10) = m ((c.tc : Thread Cert.AdamB.nD Cert.AdamB.τ).loc Cert.AdamB.main_arg10)
      ∧ r.2.mem ((c.tc : Thread Cert.AdamB.nD Cert.AdamB.τ).loc Cert.AdamB.main_arg11) = m ((c.tc : Thread Cert.AdamB.nD Cert.AdamB.τ).loc Cert.AdamB.main_arg11)
      ∧ r.2.mem ((c.tc : Thread Cert.AdamB.nD Cert.AdamB.τ).loc Cert.AdamB.main_arg12) = m ((c.tc : Thread Cert.AdamB.nD Cert.AdamB.τ).loc Cert.AdamB.main_arg12)
      ∧ r.2.mem ((c.tc : Thread Cert.AdamB.nD Cert.AdamB.τ).loc Cert.AdamB.main_arg13) = m ((c.tc : Thread Cert.AdamB.nD Cert.AdamB.τ).loc Cert.AdamB.main_arg13)
      ∧ r.2.mem ((c.tc : Thread Cert.AdamB.nD Cert.AdamB.τ).loc Cert.AdamB.main_arg14) = m ((c.tc : Thread Cert.AdamB.nD Cert.AdamB.τ).loc Cert.AdamB.main_arg14)
      ∧ r.2.mem ((c.tc : Thread Cert.AdamB.nD Cert.AdamB.τ).loc Cert.AdamB.main_arg15) = m ((c.tc : Thread Cert.AdamB.nD Cert.AdamB.τ).loc Cert.AdamB.main_arg15))
      ∧ r.2.sem = fun _ => 0)

def quiescent_AdamBIdeal [hAdamBIdeal : Cert.AdamBIdeal.Facts] : Prop :=
  ∀ (m : (ℓ : Loc Cert.AdamBIdeal.nD Cert.AdamBIdeal.τ Cert.AdamBIdeal.sig) → Buf (Elt Ideal) ℓ) (g : Dev Cert.AdamBIdeal.nD → PrngReg), Pre_AdamBIdeal m →
    θ_run (Cert.AdamBIdeal.defs (F := Ideal)) (onTc (τ := Cert.AdamBIdeal.τ) (Cert.AdamBIdeal.main (F := Ideal))) ⟨m, fun _ => 0, g⟩ (fun r => (∀ c : Dev Cert.AdamBIdeal.nD,
      r.2.mem ((c.tc : Thread Cert.AdamBIdeal.nD Cert.AdamBIdeal.τ).loc Cert.AdamBIdeal.main_arg0) = m ((c.tc : Thread Cert.AdamBIdeal.nD Cert.AdamBIdeal.τ).loc Cert.AdamBIdeal.main_arg0)
      ∧ r.2.mem ((c.tc : Thread Cert.AdamBIdeal.nD Cert.AdamBIdeal.τ).loc Cert.AdamBIdeal.main_arg1) = m ((c.tc : Thread Cert.AdamBIdeal.nD Cert.AdamBIdeal.τ).loc Cert.AdamBIdeal.main_arg1)
      ∧ r.2.mem ((c.tc : Thread Cert.AdamBIdeal.nD Cert.AdamBIdeal.τ).loc Cert.AdamBIdeal.main_arg2) = m ((c.tc : Thread Cert.AdamBIdeal.nD Cert.AdamBIdeal.τ).loc Cert.AdamBIdeal.main_arg2)
      ∧ r.2.mem ((c.tc : Thread Cert.AdamBIdeal.nD Cert.AdamBIdeal.τ).loc Cert.AdamBIdeal.main_arg3) = m ((c.tc : Thread Cert.AdamBIdeal.nD Cert.AdamBIdeal.τ).loc Cert.AdamBIdeal.main_arg3)
      ∧ r.2.mem ((c.tc : Thread Cert.AdamBIdeal.nD Cert.AdamBIdeal.τ).loc Cert.AdamBIdeal.main_arg4) = m ((c.tc : Thread Cert.AdamBIdeal.nD Cert.AdamBIdeal.τ).loc Cert.AdamBIdeal.main_arg4)
      ∧ r.2.mem ((c.tc : Thread Cert.AdamBIdeal.nD Cert.AdamBIdeal.τ).loc Cert.AdamBIdeal.main_arg5) = m ((c.tc : Thread Cert.AdamBIdeal.nD Cert.AdamBIdeal.τ).loc Cert.AdamBIdeal.main_arg5)
      ∧ r.2.mem ((c.tc : Thread Cert.AdamBIdeal.nD Cert.AdamBIdeal.τ).loc Cert.AdamBIdeal.main_arg6) = m ((c.tc : Thread Cert.AdamBIdeal.nD Cert.AdamBIdeal.τ).loc Cert.AdamBIdeal.main_arg6)
      ∧ r.2.mem ((c.tc : Thread Cert.AdamBIdeal.nD Cert.AdamBIdeal.τ).loc Cert.AdamBIdeal.main_arg7) = m ((c.tc : Thread Cert.AdamBIdeal.nD Cert.AdamBIdeal.τ).loc Cert.AdamBIdeal.main_arg7)
      ∧ r.2.mem ((c.tc : Thread Cert.AdamBIdeal.nD Cert.AdamBIdeal.τ).loc Cert.AdamBIdeal.main_arg8) = m ((c.tc : Thread Cert.AdamBIdeal.nD Cert.AdamBIdeal.τ).loc Cert.AdamBIdeal.main_arg8)
      ∧ r.2.mem ((c.tc : Thread Cert.AdamBIdeal.nD Cert.AdamBIdeal.τ).loc Cert.AdamBIdeal.main_arg9) = m ((c.tc : Thread Cert.AdamBIdeal.nD Cert.AdamBIdeal.τ).loc Cert.AdamBIdeal.main_arg9)
      ∧ r.2.mem ((c.tc : Thread Cert.AdamBIdeal.nD Cert.AdamBIdeal.τ).loc Cert.AdamBIdeal.main_arg10) = m ((c.tc : Thread Cert.AdamBIdeal.nD Cert.AdamBIdeal.τ).loc Cert.AdamBIdeal.main_arg10)
      ∧ r.2.mem ((c.tc : Thread Cert.AdamBIdeal.nD Cert.AdamBIdeal.τ).loc Cert.AdamBIdeal.main_arg11) = m ((c.tc : Thread Cert.AdamBIdeal.nD Cert.AdamBIdeal.τ).loc Cert.AdamBIdeal.main_arg11)
      ∧ r.2.mem ((c.tc : Thread Cert.AdamBIdeal.nD Cert.AdamBIdeal.τ).loc Cert.AdamBIdeal.main_arg12) = m ((c.tc : Thread Cert.AdamBIdeal.nD Cert.AdamBIdeal.τ).loc Cert.AdamBIdeal.main_arg12)
      ∧ r.2.mem ((c.tc : Thread Cert.AdamBIdeal.nD Cert.AdamBIdeal.τ).loc Cert.AdamBIdeal.main_arg13) = m ((c.tc : Thread Cert.AdamBIdeal.nD Cert.AdamBIdeal.τ).loc Cert.AdamBIdeal.main_arg13)
      ∧ r.2.mem ((c.tc : Thread Cert.AdamBIdeal.nD Cert.AdamBIdeal.τ).loc Cert.AdamBIdeal.main_arg14) = m ((c.tc : Thread Cert.AdamBIdeal.nD Cert.AdamBIdeal.τ).loc Cert.AdamBIdeal.main_arg14)
      ∧ r.2.mem ((c.tc : Thread Cert.AdamBIdeal.nD Cert.AdamBIdeal.τ).loc Cert.AdamBIdeal.main_arg15) = m ((c.tc : Thread Cert.AdamBIdeal.nD Cert.AdamBIdeal.τ).loc Cert.AdamBIdeal.main_arg15))
      ∧ r.2.sem = fun _ => 0)

def quiescent_AdamBRefIdeal [hAdamBRefIdeal : Cert.AdamBRefIdeal.Facts] : Prop :=
  ∀ (m : (ℓ : Loc Cert.AdamBRefIdeal.nD Cert.AdamBRefIdeal.τ Cert.AdamBRefIdeal.sig) → Buf (Elt Ideal) ℓ) (g : Dev Cert.AdamBRefIdeal.nD → PrngReg), Pre_AdamBRefIdeal m →
    θ_run (Cert.AdamBRefIdeal.defs (F := Ideal)) (onTc (τ := Cert.AdamBRefIdeal.τ) (Cert.AdamBRefIdeal.main (F := Ideal))) ⟨m, fun _ => 0, g⟩ (fun r => (∀ c : Dev Cert.AdamBRefIdeal.nD,
      r.2.mem ((c.tc : Thread Cert.AdamBRefIdeal.nD Cert.AdamBRefIdeal.τ).loc Cert.AdamBRefIdeal.main_arg0) = m ((c.tc : Thread Cert.AdamBRefIdeal.nD Cert.AdamBRefIdeal.τ).loc Cert.AdamBRefIdeal.main_arg0)
      ∧ r.2.mem ((c.tc : Thread Cert.AdamBRefIdeal.nD Cert.AdamBRefIdeal.τ).loc Cert.AdamBRefIdeal.main_arg1) = m ((c.tc : Thread Cert.AdamBRefIdeal.nD Cert.AdamBRefIdeal.τ).loc Cert.AdamBRefIdeal.main_arg1)
      ∧ r.2.mem ((c.tc : Thread Cert.AdamBRefIdeal.nD Cert.AdamBRefIdeal.τ).loc Cert.AdamBRefIdeal.main_arg2) = m ((c.tc : Thread Cert.AdamBRefIdeal.nD Cert.AdamBRefIdeal.τ).loc Cert.AdamBRefIdeal.main_arg2)
      ∧ r.2.mem ((c.tc : Thread Cert.AdamBRefIdeal.nD Cert.AdamBRefIdeal.τ).loc Cert.AdamBRefIdeal.main_arg3) = m ((c.tc : Thread Cert.AdamBRefIdeal.nD Cert.AdamBRefIdeal.τ).loc Cert.AdamBRefIdeal.main_arg3)
      ∧ r.2.mem ((c.tc : Thread Cert.AdamBRefIdeal.nD Cert.AdamBRefIdeal.τ).loc Cert.AdamBRefIdeal.main_arg4) = m ((c.tc : Thread Cert.AdamBRefIdeal.nD Cert.AdamBRefIdeal.τ).loc Cert.AdamBRefIdeal.main_arg4)
      ∧ r.2.mem ((c.tc : Thread Cert.AdamBRefIdeal.nD Cert.AdamBRefIdeal.τ).loc Cert.AdamBRefIdeal.main_arg5) = m ((c.tc : Thread Cert.AdamBRefIdeal.nD Cert.AdamBRefIdeal.τ).loc Cert.AdamBRefIdeal.main_arg5)
      ∧ r.2.mem ((c.tc : Thread Cert.AdamBRefIdeal.nD Cert.AdamBRefIdeal.τ).loc Cert.AdamBRefIdeal.main_arg6) = m ((c.tc : Thread Cert.AdamBRefIdeal.nD Cert.AdamBRefIdeal.τ).loc Cert.AdamBRefIdeal.main_arg6)
      ∧ r.2.mem ((c.tc : Thread Cert.AdamBRefIdeal.nD Cert.AdamBRefIdeal.τ).loc Cert.AdamBRefIdeal.main_arg7) = m ((c.tc : Thread Cert.AdamBRefIdeal.nD Cert.AdamBRefIdeal.τ).loc Cert.AdamBRefIdeal.main_arg7)
      ∧ r.2.mem ((c.tc : Thread Cert.AdamBRefIdeal.nD Cert.AdamBRefIdeal.τ).loc Cert.AdamBRefIdeal.main_arg8) = m ((c.tc : Thread Cert.AdamBRefIdeal.nD Cert.AdamBRefIdeal.τ).loc Cert.AdamBRefIdeal.main_arg8)
      ∧ r.2.mem ((c.tc : Thread Cert.AdamBRefIdeal.nD Cert.AdamBRefIdeal.τ).loc Cert.AdamBRefIdeal.main_arg9) = m ((c.tc : Thread Cert.AdamBRefIdeal.nD Cert.AdamBRefIdeal.τ).loc Cert.AdamBRefIdeal.main_arg9)
      ∧ r.2.mem ((c.tc : Thread Cert.AdamBRefIdeal.nD Cert.AdamBRefIdeal.τ).loc Cert.AdamBRefIdeal.main_arg10) = m ((c.tc : Thread Cert.AdamBRefIdeal.nD Cert.AdamBRefIdeal.τ).loc Cert.AdamBRefIdeal.main_arg10)
      ∧ r.2.mem ((c.tc : Thread Cert.AdamBRefIdeal.nD Cert.AdamBRefIdeal.τ).loc Cert.AdamBRefIdeal.main_arg11) = m ((c.tc : Thread Cert.AdamBRefIdeal.nD Cert.AdamBRefIdeal.τ).loc Cert.AdamBRefIdeal.main_arg11)
      ∧ r.2.mem ((c.tc : Thread Cert.AdamBRefIdeal.nD Cert.AdamBRefIdeal.τ).loc Cert.AdamBRefIdeal.main_arg12) = m ((c.tc : Thread Cert.AdamBRefIdeal.nD Cert.AdamBRefIdeal.τ).loc Cert.AdamBRefIdeal.main_arg12)
      ∧ r.2.mem ((c.tc : Thread Cert.AdamBRefIdeal.nD Cert.AdamBRefIdeal.τ).loc Cert.AdamBRefIdeal.main_arg13) = m ((c.tc : Thread Cert.AdamBRefIdeal.nD Cert.AdamBRefIdeal.τ).loc Cert.AdamBRefIdeal.main_arg13)
      ∧ r.2.mem ((c.tc : Thread Cert.AdamBRefIdeal.nD Cert.AdamBRefIdeal.τ).loc Cert.AdamBRefIdeal.main_arg14) = m ((c.tc : Thread Cert.AdamBRefIdeal.nD Cert.AdamBRefIdeal.τ).loc Cert.AdamBRefIdeal.main_arg14)
      ∧ r.2.mem ((c.tc : Thread Cert.AdamBRefIdeal.nD Cert.AdamBRefIdeal.τ).loc Cert.AdamBRefIdeal.main_arg15) = m ((c.tc : Thread Cert.AdamBRefIdeal.nD Cert.AdamBRefIdeal.τ).loc Cert.AdamBRefIdeal.main_arg15))
      ∧ r.2.sem = fun _ => 0)

def quiescent_AdamC [hAdamC : Cert.AdamC.Facts] : Prop :=
  ∀ (m : (ℓ : Loc Cert.AdamC.nD Cert.AdamC.τ Cert.AdamC.sig) → Buf (Elt Bits) ℓ) (g : Dev Cert.AdamC.nD → PrngReg), Pre_AdamC m →
    θ_run (Cert.AdamC.defs (F := Bits)) (onTc (τ := Cert.AdamC.τ) (Cert.AdamC.main (F := Bits))) ⟨m, fun _ => 0, g⟩ (fun r => (∀ c : Dev Cert.AdamC.nD,
      r.2.mem ((c.tc : Thread Cert.AdamC.nD Cert.AdamC.τ).loc Cert.AdamC.main_arg0) = m ((c.tc : Thread Cert.AdamC.nD Cert.AdamC.τ).loc Cert.AdamC.main_arg0)
      ∧ r.2.mem ((c.tc : Thread Cert.AdamC.nD Cert.AdamC.τ).loc Cert.AdamC.main_arg1) = m ((c.tc : Thread Cert.AdamC.nD Cert.AdamC.τ).loc Cert.AdamC.main_arg1)
      ∧ r.2.mem ((c.tc : Thread Cert.AdamC.nD Cert.AdamC.τ).loc Cert.AdamC.main_arg2) = m ((c.tc : Thread Cert.AdamC.nD Cert.AdamC.τ).loc Cert.AdamC.main_arg2)
      ∧ r.2.mem ((c.tc : Thread Cert.AdamC.nD Cert.AdamC.τ).loc Cert.AdamC.main_arg3) = m ((c.tc : Thread Cert.AdamC.nD Cert.AdamC.τ).loc Cert.AdamC.main_arg3)
      ∧ r.2.mem ((c.tc : Thread Cert.AdamC.nD Cert.AdamC.τ).loc Cert.AdamC.main_arg4) = m ((c.tc : Thread Cert.AdamC.nD Cert.AdamC.τ).loc Cert.AdamC.main_arg4)
      ∧ r.2.mem ((c.tc : Thread Cert.AdamC.nD Cert.AdamC.τ).loc Cert.AdamC.main_arg5) = m ((c.tc : Thread Cert.AdamC.nD Cert.AdamC.τ).loc Cert.AdamC.main_arg5)
      ∧ r.2.mem ((c.tc : Thread Cert.AdamC.nD Cert.AdamC.τ).loc Cert.AdamC.main_arg6) = m ((c.tc : Thread Cert.AdamC.nD Cert.AdamC.τ).loc Cert.AdamC.main_arg6)
      ∧ r.2.mem ((c.tc : Thread Cert.AdamC.nD Cert.AdamC.τ).loc Cert.AdamC.main_arg7) = m ((c.tc : Thread Cert.AdamC.nD Cert.AdamC.τ).loc Cert.AdamC.main_arg7)
      ∧ r.2.mem ((c.tc : Thread Cert.AdamC.nD Cert.AdamC.τ).loc Cert.AdamC.main_arg8) = m ((c.tc : Thread Cert.AdamC.nD Cert.AdamC.τ).loc Cert.AdamC.main_arg8)
      ∧ r.2.mem ((c.tc : Thread Cert.AdamC.nD Cert.AdamC.τ).loc Cert.AdamC.main_arg9) = m ((c.tc : Thread Cert.AdamC.nD Cert.AdamC.τ).loc Cert.AdamC.main_arg9)
      ∧ r.2.mem ((c.tc : Thread Cert.AdamC.nD Cert.AdamC.τ).loc Cert.AdamC.main_arg10) = m ((c.tc : Thread Cert.AdamC.nD Cert.AdamC.τ).loc Cert.AdamC.main_arg10)
      ∧ r.2.mem ((c.tc : Thread Cert.AdamC.nD Cert.AdamC.τ).loc Cert.AdamC.main_arg11) = m ((c.tc : Thread Cert.AdamC.nD Cert.AdamC.τ).loc Cert.AdamC.main_arg11)
      ∧ r.2.mem ((c.tc : Thread Cert.AdamC.nD Cert.AdamC.τ).loc Cert.AdamC.main_arg12) = m ((c.tc : Thread Cert.AdamC.nD Cert.AdamC.τ).loc Cert.AdamC.main_arg12)
      ∧ r.2.mem ((c.tc : Thread Cert.AdamC.nD Cert.AdamC.τ).loc Cert.AdamC.main_arg13) = m ((c.tc : Thread Cert.AdamC.nD Cert.AdamC.τ).loc Cert.AdamC.main_arg13)
      ∧ r.2.mem ((c.tc : Thread Cert.AdamC.nD Cert.AdamC.τ).loc Cert.AdamC.main_arg14) = m ((c.tc : Thread Cert.AdamC.nD Cert.AdamC.τ).loc Cert.AdamC.main_arg14)
      ∧ r.2.mem ((c.tc : Thread Cert.AdamC.nD Cert.AdamC.τ).loc Cert.AdamC.main_arg15) = m ((c.tc : Thread Cert.AdamC.nD Cert.AdamC.τ).loc Cert.AdamC.main_arg15))
      ∧ r.2.sem = fun _ => 0)

def quiescent_AdamCIdeal [hAdamCIdeal : Cert.AdamCIdeal.Facts] : Prop :=
  ∀ (m : (ℓ : Loc Cert.AdamCIdeal.nD Cert.AdamCIdeal.τ Cert.AdamCIdeal.sig) → Buf (Elt Ideal) ℓ) (g : Dev Cert.AdamCIdeal.nD → PrngReg), Pre_AdamCIdeal m →
    θ_run (Cert.AdamCIdeal.defs (F := Ideal)) (onTc (τ := Cert.AdamCIdeal.τ) (Cert.AdamCIdeal.main (F := Ideal))) ⟨m, fun _ => 0, g⟩ (fun r => (∀ c : Dev Cert.AdamCIdeal.nD,
      r.2.mem ((c.tc : Thread Cert.AdamCIdeal.nD Cert.AdamCIdeal.τ).loc Cert.AdamCIdeal.main_arg0) = m ((c.tc : Thread Cert.AdamCIdeal.nD Cert.AdamCIdeal.τ).loc Cert.AdamCIdeal.main_arg0)
      ∧ r.2.mem ((c.tc : Thread Cert.AdamCIdeal.nD Cert.AdamCIdeal.τ).loc Cert.AdamCIdeal.main_arg1) = m ((c.tc : Thread Cert.AdamCIdeal.nD Cert.AdamCIdeal.τ).loc Cert.AdamCIdeal.main_arg1)
      ∧ r.2.mem ((c.tc : Thread Cert.AdamCIdeal.nD Cert.AdamCIdeal.τ).loc Cert.AdamCIdeal.main_arg2) = m ((c.tc : Thread Cert.AdamCIdeal.nD Cert.AdamCIdeal.τ).loc Cert.AdamCIdeal.main_arg2)
      ∧ r.2.mem ((c.tc : Thread Cert.AdamCIdeal.nD Cert.AdamCIdeal.τ).loc Cert.AdamCIdeal.main_arg3) = m ((c.tc : Thread Cert.AdamCIdeal.nD Cert.AdamCIdeal.τ).loc Cert.AdamCIdeal.main_arg3)
      ∧ r.2.mem ((c.tc : Thread Cert.AdamCIdeal.nD Cert.AdamCIdeal.τ).loc Cert.AdamCIdeal.main_arg4) = m ((c.tc : Thread Cert.AdamCIdeal.nD Cert.AdamCIdeal.τ).loc Cert.AdamCIdeal.main_arg4)
      ∧ r.2.mem ((c.tc : Thread Cert.AdamCIdeal.nD Cert.AdamCIdeal.τ).loc Cert.AdamCIdeal.main_arg5) = m ((c.tc : Thread Cert.AdamCIdeal.nD Cert.AdamCIdeal.τ).loc Cert.AdamCIdeal.main_arg5)
      ∧ r.2.mem ((c.tc : Thread Cert.AdamCIdeal.nD Cert.AdamCIdeal.τ).loc Cert.AdamCIdeal.main_arg6) = m ((c.tc : Thread Cert.AdamCIdeal.nD Cert.AdamCIdeal.τ).loc Cert.AdamCIdeal.main_arg6)
      ∧ r.2.mem ((c.tc : Thread Cert.AdamCIdeal.nD Cert.AdamCIdeal.τ).loc Cert.AdamCIdeal.main_arg7) = m ((c.tc : Thread Cert.AdamCIdeal.nD Cert.AdamCIdeal.τ).loc Cert.AdamCIdeal.main_arg7)
      ∧ r.2.mem ((c.tc : Thread Cert.AdamCIdeal.nD Cert.AdamCIdeal.τ).loc Cert.AdamCIdeal.main_arg8) = m ((c.tc : Thread Cert.AdamCIdeal.nD Cert.AdamCIdeal.τ).loc Cert.AdamCIdeal.main_arg8)
      ∧ r.2.mem ((c.tc : Thread Cert.AdamCIdeal.nD Cert.AdamCIdeal.τ).loc Cert.AdamCIdeal.main_arg9) = m ((c.tc : Thread Cert.AdamCIdeal.nD Cert.AdamCIdeal.τ).loc Cert.AdamCIdeal.main_arg9)
      ∧ r.2.mem ((c.tc : Thread Cert.AdamCIdeal.nD Cert.AdamCIdeal.τ).loc Cert.AdamCIdeal.main_arg10) = m ((c.tc : Thread Cert.AdamCIdeal.nD Cert.AdamCIdeal.τ).loc Cert.AdamCIdeal.main_arg10)
      ∧ r.2.mem ((c.tc : Thread Cert.AdamCIdeal.nD Cert.AdamCIdeal.τ).loc Cert.AdamCIdeal.main_arg11) = m ((c.tc : Thread Cert.AdamCIdeal.nD Cert.AdamCIdeal.τ).loc Cert.AdamCIdeal.main_arg11)
      ∧ r.2.mem ((c.tc : Thread Cert.AdamCIdeal.nD Cert.AdamCIdeal.τ).loc Cert.AdamCIdeal.main_arg12) = m ((c.tc : Thread Cert.AdamCIdeal.nD Cert.AdamCIdeal.τ).loc Cert.AdamCIdeal.main_arg12)
      ∧ r.2.mem ((c.tc : Thread Cert.AdamCIdeal.nD Cert.AdamCIdeal.τ).loc Cert.AdamCIdeal.main_arg13) = m ((c.tc : Thread Cert.AdamCIdeal.nD Cert.AdamCIdeal.τ).loc Cert.AdamCIdeal.main_arg13)
      ∧ r.2.mem ((c.tc : Thread Cert.AdamCIdeal.nD Cert.AdamCIdeal.τ).loc Cert.AdamCIdeal.main_arg14) = m ((c.tc : Thread Cert.AdamCIdeal.nD Cert.AdamCIdeal.τ).loc Cert.AdamCIdeal.main_arg14)
      ∧ r.2.mem ((c.tc : Thread Cert.AdamCIdeal.nD Cert.AdamCIdeal.τ).loc Cert.AdamCIdeal.main_arg15) = m ((c.tc : Thread Cert.AdamCIdeal.nD Cert.AdamCIdeal.τ).loc Cert.AdamCIdeal.main_arg15))
      ∧ r.2.sem = fun _ => 0)

def quiescent_AdamCRefIdeal [hAdamCRefIdeal : Cert.AdamCRefIdeal.Facts] : Prop :=
  ∀ (m : (ℓ : Loc Cert.AdamCRefIdeal.nD Cert.AdamCRefIdeal.τ Cert.AdamCRefIdeal.sig) → Buf (Elt Ideal) ℓ) (g : Dev Cert.AdamCRefIdeal.nD → PrngReg), Pre_AdamCRefIdeal m →
    θ_run (Cert.AdamCRefIdeal.defs (F := Ideal)) (onTc (τ := Cert.AdamCRefIdeal.τ) (Cert.AdamCRefIdeal.main (F := Ideal))) ⟨m, fun _ => 0, g⟩ (fun r => (∀ c : Dev Cert.AdamCRefIdeal.nD,
      r.2.mem ((c.tc : Thread Cert.AdamCRefIdeal.nD Cert.AdamCRefIdeal.τ).loc Cert.AdamCRefIdeal.main_arg0) = m ((c.tc : Thread Cert.AdamCRefIdeal.nD Cert.AdamCRefIdeal.τ).loc Cert.AdamCRefIdeal.main_arg0)
      ∧ r.2.mem ((c.tc : Thread Cert.AdamCRefIdeal.nD Cert.AdamCRefIdeal.τ).loc Cert.AdamCRefIdeal.main_arg1) = m ((c.tc : Thread Cert.AdamCRefIdeal.nD Cert.AdamCRefIdeal.τ).loc Cert.AdamCRefIdeal.main_arg1)
      ∧ r.2.mem ((c.tc : Thread Cert.AdamCRefIdeal.nD Cert.AdamCRefIdeal.τ).loc Cert.AdamCRefIdeal.main_arg2) = m ((c.tc : Thread Cert.AdamCRefIdeal.nD Cert.AdamCRefIdeal.τ).loc Cert.AdamCRefIdeal.main_arg2)
      ∧ r.2.mem ((c.tc : Thread Cert.AdamCRefIdeal.nD Cert.AdamCRefIdeal.τ).loc Cert.AdamCRefIdeal.main_arg3) = m ((c.tc : Thread Cert.AdamCRefIdeal.nD Cert.AdamCRefIdeal.τ).loc Cert.AdamCRefIdeal.main_arg3)
      ∧ r.2.mem ((c.tc : Thread Cert.AdamCRefIdeal.nD Cert.AdamCRefIdeal.τ).loc Cert.AdamCRefIdeal.main_arg4) = m ((c.tc : Thread Cert.AdamCRefIdeal.nD Cert.AdamCRefIdeal.τ).loc Cert.AdamCRefIdeal.main_arg4)
      ∧ r.2.mem ((c.tc : Thread Cert.AdamCRefIdeal.nD Cert.AdamCRefIdeal.τ).loc Cert.AdamCRefIdeal.main_arg5) = m ((c.tc : Thread Cert.AdamCRefIdeal.nD Cert.AdamCRefIdeal.τ).loc Cert.AdamCRefIdeal.main_arg5)
      ∧ r.2.mem ((c.tc : Thread Cert.AdamCRefIdeal.nD Cert.AdamCRefIdeal.τ).loc Cert.AdamCRefIdeal.main_arg6) = m ((c.tc : Thread Cert.AdamCRefIdeal.nD Cert.AdamCRefIdeal.τ).loc Cert.AdamCRefIdeal.main_arg6)
      ∧ r.2.mem ((c.tc : Thread Cert.AdamCRefIdeal.nD Cert.AdamCRefIdeal.τ).loc Cert.AdamCRefIdeal.main_arg7) = m ((c.tc : Thread Cert.AdamCRefIdeal.nD Cert.AdamCRefIdeal.τ).loc Cert.AdamCRefIdeal.main_arg7)
      ∧ r.2.mem ((c.tc : Thread Cert.AdamCRefIdeal.nD Cert.AdamCRefIdeal.τ).loc Cert.AdamCRefIdeal.main_arg8) = m ((c.tc : Thread Cert.AdamCRefIdeal.nD Cert.AdamCRefIdeal.τ).loc Cert.AdamCRefIdeal.main_arg8)
      ∧ r.2.mem ((c.tc : Thread Cert.AdamCRefIdeal.nD Cert.AdamCRefIdeal.τ).loc Cert.AdamCRefIdeal.main_arg9) = m ((c.tc : Thread Cert.AdamCRefIdeal.nD Cert.AdamCRefIdeal.τ).loc Cert.AdamCRefIdeal.main_arg9)
      ∧ r.2.mem ((c.tc : Thread Cert.AdamCRefIdeal.nD Cert.AdamCRefIdeal.τ).loc Cert.AdamCRefIdeal.main_arg10) = m ((c.tc : Thread Cert.AdamCRefIdeal.nD Cert.AdamCRefIdeal.τ).loc Cert.AdamCRefIdeal.main_arg10)
      ∧ r.2.mem ((c.tc : Thread Cert.AdamCRefIdeal.nD Cert.AdamCRefIdeal.τ).loc Cert.AdamCRefIdeal.main_arg11) = m ((c.tc : Thread Cert.AdamCRefIdeal.nD Cert.AdamCRefIdeal.τ).loc Cert.AdamCRefIdeal.main_arg11)
      ∧ r.2.mem ((c.tc : Thread Cert.AdamCRefIdeal.nD Cert.AdamCRefIdeal.τ).loc Cert.AdamCRefIdeal.main_arg12) = m ((c.tc : Thread Cert.AdamCRefIdeal.nD Cert.AdamCRefIdeal.τ).loc Cert.AdamCRefIdeal.main_arg12)
      ∧ r.2.mem ((c.tc : Thread Cert.AdamCRefIdeal.nD Cert.AdamCRefIdeal.τ).loc Cert.AdamCRefIdeal.main_arg13) = m ((c.tc : Thread Cert.AdamCRefIdeal.nD Cert.AdamCRefIdeal.τ).loc Cert.AdamCRefIdeal.main_arg13)
      ∧ r.2.mem ((c.tc : Thread Cert.AdamCRefIdeal.nD Cert.AdamCRefIdeal.τ).loc Cert.AdamCRefIdeal.main_arg14) = m ((c.tc : Thread Cert.AdamCRefIdeal.nD Cert.AdamCRefIdeal.τ).loc Cert.AdamCRefIdeal.main_arg14)
      ∧ r.2.mem ((c.tc : Thread Cert.AdamCRefIdeal.nD Cert.AdamCRefIdeal.τ).loc Cert.AdamCRefIdeal.main_arg15) = m ((c.tc : Thread Cert.AdamCRefIdeal.nD Cert.AdamCRefIdeal.τ).loc Cert.AdamCRefIdeal.main_arg15))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v59) = v3 c
          ∧ r.2.mem ((c.tc : Thread Cert.ReferenceIdeal.nD Cert.ReferenceIdeal.τ).loc Cert.ReferenceIdeal.main_v56) = v4 c
          ∧ r.2.mem ((c.tc : Thread Cert.ReferenceIdeal.nD Cert.ReferenceIdeal.τ).loc Cert.ReferenceIdeal.main_v38) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_BwdX_BwdXIdeal : Prop :=
  True

def algebraic_BwdXIdeal_BwdXRefIdeal [hBwdXIdeal : Cert.BwdXIdeal.Facts] [hBwdXRefIdeal : Cert.BwdXRefIdeal.Facts] : Prop :=
  ∀ (m : (ℓ : Loc Cert.BwdXIdeal.nD Cert.BwdXIdeal.τ Cert.BwdXIdeal.sig) → Buf (Elt Ideal) ℓ) (g : Dev Cert.BwdXIdeal.nD → PrngReg)
    (m' : (ℓ : Loc Cert.BwdXRefIdeal.nD Cert.BwdXRefIdeal.τ Cert.BwdXRefIdeal.sig) → Buf (Elt Ideal) ℓ) (g' : Dev Cert.BwdXRefIdeal.nD → PrngReg), Pre_BwdXIdeal m →
    (∀ c : Dev Cert.BwdXIdeal.nD,
      m' ((c.tc : Thread Cert.BwdXRefIdeal.nD Cert.BwdXRefIdeal.τ).loc Cert.BwdXRefIdeal.main_arg0) = m ((c.tc : Thread Cert.BwdXIdeal.nD Cert.BwdXIdeal.τ).loc Cert.BwdXIdeal.main_arg0)
      ∧ m' ((c.tc : Thread Cert.BwdXRefIdeal.nD Cert.BwdXRefIdeal.τ).loc Cert.BwdXRefIdeal.main_arg1) = m ((c.tc : Thread Cert.BwdXIdeal.nD Cert.BwdXIdeal.τ).loc Cert.BwdXIdeal.main_arg1)
      ∧ m' ((c.tc : Thread Cert.BwdXRefIdeal.nD Cert.BwdXRefIdeal.τ).loc Cert.BwdXRefIdeal.main_arg2) = m ((c.tc : Thread Cert.BwdXIdeal.nD Cert.BwdXIdeal.τ).loc Cert.BwdXIdeal.main_arg2)
      ∧ m' ((c.tc : Thread Cert.BwdXRefIdeal.nD Cert.BwdXRefIdeal.τ).loc Cert.BwdXRefIdeal.main_arg3) = m ((c.tc : Thread Cert.BwdXIdeal.nD Cert.BwdXIdeal.τ).loc Cert.BwdXIdeal.main_arg3)
      ∧ m' ((c.tc : Thread Cert.BwdXRefIdeal.nD Cert.BwdXRefIdeal.τ).loc Cert.BwdXRefIdeal.main_arg4) = m ((c.tc : Thread Cert.BwdXIdeal.nD Cert.BwdXIdeal.τ).loc Cert.BwdXIdeal.main_arg4)
      ∧ m' ((c.tc : Thread Cert.BwdXRefIdeal.nD Cert.BwdXRefIdeal.τ).loc Cert.BwdXRefIdeal.main_arg5) = m ((c.tc : Thread Cert.BwdXIdeal.nD Cert.BwdXIdeal.τ).loc Cert.BwdXIdeal.main_arg5)
      ∧ m' ((c.tc : Thread Cert.BwdXRefIdeal.nD Cert.BwdXRefIdeal.τ).loc Cert.BwdXRefIdeal.main_arg6) = m ((c.tc : Thread Cert.BwdXIdeal.nD Cert.BwdXIdeal.τ).loc Cert.BwdXIdeal.main_arg6)
      ∧ m' ((c.tc : Thread Cert.BwdXRefIdeal.nD Cert.BwdXRefIdeal.τ).loc Cert.BwdXRefIdeal.main_arg7) = m ((c.tc : Thread Cert.BwdXIdeal.nD Cert.BwdXIdeal.τ).loc Cert.BwdXIdeal.main_arg7)) →
    ∃ (v0 : (c : Dev Cert.BwdXIdeal.nD) → Buf (Elt Ideal) ((c.tc : Thread Cert.BwdXIdeal.nD Cert.BwdXIdeal.τ).loc Cert.BwdXIdeal.main_v9_0)) (v1 : (c : Dev Cert.BwdXIdeal.nD) → Buf (Elt Ideal) ((c.tc : Thread Cert.BwdXIdeal.nD Cert.BwdXIdeal.τ).loc Cert.BwdXIdeal.main_v9_1)),
      θ_run (Cert.BwdXIdeal.defs (F := Ideal)) (onTc (τ := Cert.BwdXIdeal.τ) (Cert.BwdXIdeal.main (F := Ideal))) ⟨m, fun _ => 0, g⟩ (fun r => ∀ c : Dev Cert.BwdXIdeal.nD,
          r.2.mem ((c.tc : Thread Cert.BwdXIdeal.nD Cert.BwdXIdeal.τ).loc Cert.BwdXIdeal.main_v9_0) = v0 c
          ∧ r.2.mem ((c.tc : Thread Cert.BwdXIdeal.nD Cert.BwdXIdeal.τ).loc Cert.BwdXIdeal.main_v9_1) = v1 c
          ∧ r.2.mem ((c.tc : Thread Cert.BwdXIdeal.nD Cert.BwdXIdeal.τ).loc Cert.BwdXIdeal.main_arg0) = m ((c.tc : Thread Cert.BwdXIdeal.nD Cert.BwdXIdeal.τ).loc Cert.BwdXIdeal.main_arg0)
          ∧ r.2.mem ((c.tc : Thread Cert.BwdXIdeal.nD Cert.BwdXIdeal.τ).loc Cert.BwdXIdeal.main_arg1) = m ((c.tc : Thread Cert.BwdXIdeal.nD Cert.BwdXIdeal.τ).loc Cert.BwdXIdeal.main_arg1)
          ∧ r.2.mem ((c.tc : Thread Cert.BwdXIdeal.nD Cert.BwdXIdeal.τ).loc Cert.BwdXIdeal.main_arg2) = m ((c.tc : Thread Cert.BwdXIdeal.nD Cert.BwdXIdeal.τ).loc Cert.BwdXIdeal.main_arg2)
          ∧ r.2.mem ((c.tc : Thread Cert.BwdXIdeal.nD Cert.BwdXIdeal.τ).loc Cert.BwdXIdeal.main_arg3) = m ((c.tc : Thread Cert.BwdXIdeal.nD Cert.BwdXIdeal.τ).loc Cert.BwdXIdeal.main_arg3)
          ∧ r.2.mem ((c.tc : Thread Cert.BwdXIdeal.nD Cert.BwdXIdeal.τ).loc Cert.BwdXIdeal.main_arg4) = m ((c.tc : Thread Cert.BwdXIdeal.nD Cert.BwdXIdeal.τ).loc Cert.BwdXIdeal.main_arg4)
          ∧ r.2.mem ((c.tc : Thread Cert.BwdXIdeal.nD Cert.BwdXIdeal.τ).loc Cert.BwdXIdeal.main_arg5) = m ((c.tc : Thread Cert.BwdXIdeal.nD Cert.BwdXIdeal.τ).loc Cert.BwdXIdeal.main_arg5)
          ∧ r.2.mem ((c.tc : Thread Cert.BwdXIdeal.nD Cert.BwdXIdeal.τ).loc Cert.BwdXIdeal.main_arg6) = m ((c.tc : Thread Cert.BwdXIdeal.nD Cert.BwdXIdeal.τ).loc Cert.BwdXIdeal.main_arg6)
          ∧ r.2.mem ((c.tc : Thread Cert.BwdXIdeal.nD Cert.BwdXIdeal.τ).loc Cert.BwdXIdeal.main_arg7) = m ((c.tc : Thread Cert.BwdXIdeal.nD Cert.BwdXIdeal.τ).loc Cert.BwdXIdeal.main_arg7))
      ∧ θ_run (Cert.BwdXRefIdeal.defs (F := Ideal)) (onTc (τ := Cert.BwdXRefIdeal.τ) (Cert.BwdXRefIdeal.main (F := Ideal))) ⟨m', fun _ => 0, g'⟩ (fun r => ∀ c : Dev Cert.BwdXRefIdeal.nD,
          r.2.mem ((c.tc : Thread Cert.BwdXRefIdeal.nD Cert.BwdXRefIdeal.τ).loc Cert.BwdXRefIdeal.main_v53) = v0 c
          ∧ r.2.mem ((c.tc : Thread Cert.BwdXRefIdeal.nD Cert.BwdXRefIdeal.τ).loc Cert.BwdXRefIdeal.main_v36) = v1 c
          ∧ r.2.mem ((c.tc : Thread Cert.BwdXRefIdeal.nD Cert.BwdXRefIdeal.τ).loc Cert.BwdXRefIdeal.main_arg0) = m' ((c.tc : Thread Cert.BwdXRefIdeal.nD Cert.BwdXRefIdeal.τ).loc Cert.BwdXRefIdeal.main_arg0)
          ∧ r.2.mem ((c.tc : Thread Cert.BwdXRefIdeal.nD Cert.BwdXRefIdeal.τ).loc Cert.BwdXRefIdeal.main_arg1) = m' ((c.tc : Thread Cert.BwdXRefIdeal.nD Cert.BwdXRefIdeal.τ).loc Cert.BwdXRefIdeal.main_arg1)
          ∧ r.2.mem ((c.tc : Thread Cert.BwdXRefIdeal.nD Cert.BwdXRefIdeal.τ).loc Cert.BwdXRefIdeal.main_arg2) = m' ((c.tc : Thread Cert.BwdXRefIdeal.nD Cert.BwdXRefIdeal.τ).loc Cert.BwdXRefIdeal.main_arg2)
          ∧ r.2.mem ((c.tc : Thread Cert.BwdXRefIdeal.nD Cert.BwdXRefIdeal.τ).loc Cert.BwdXRefIdeal.main_arg3) = m' ((c.tc : Thread Cert.BwdXRefIdeal.nD Cert.BwdXRefIdeal.τ).loc Cert.BwdXRefIdeal.main_arg3)
          ∧ r.2.mem ((c.tc : Thread Cert.BwdXRefIdeal.nD Cert.BwdXRefIdeal.τ).loc Cert.BwdXRefIdeal.main_arg4) = m' ((c.tc : Thread Cert.BwdXRefIdeal.nD Cert.BwdXRefIdeal.τ).loc Cert.BwdXRefIdeal.main_arg4)
          ∧ r.2.mem ((c.tc : Thread Cert.BwdXRefIdeal.nD Cert.BwdXRefIdeal.τ).loc Cert.BwdXRefIdeal.main_arg5) = m' ((c.tc : Thread Cert.BwdXRefIdeal.nD Cert.BwdXRefIdeal.τ).loc Cert.BwdXRefIdeal.main_arg5)
          ∧ r.2.mem ((c.tc : Thread Cert.BwdXRefIdeal.nD Cert.BwdXRefIdeal.τ).loc Cert.BwdXRefIdeal.main_arg6) = m' ((c.tc : Thread Cert.BwdXRefIdeal.nD Cert.BwdXRefIdeal.τ).loc Cert.BwdXRefIdeal.main_arg6)
          ∧ r.2.mem ((c.tc : Thread Cert.BwdXRefIdeal.nD Cert.BwdXRefIdeal.τ).loc Cert.BwdXRefIdeal.main_arg7) = m' ((c.tc : Thread Cert.BwdXRefIdeal.nD Cert.BwdXRefIdeal.τ).loc Cert.BwdXRefIdeal.main_arg7))

def preserves_ConvBwd_ConvBwdIdeal : Prop :=
  True

def algebraic_ConvBwdIdeal_ConvBwdRefIdeal [hConvBwdIdeal : Cert.ConvBwdIdeal.Facts] [hConvBwdRefIdeal : Cert.ConvBwdRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)
      ∧ m' ((c.tc : Thread Cert.ConvBwdRefIdeal.nD Cert.ConvBwdRefIdeal.τ).loc Cert.ConvBwdRefIdeal.main_arg3) = m ((c.tc : Thread Cert.ConvBwdIdeal.nD Cert.ConvBwdIdeal.τ).loc Cert.ConvBwdIdeal.main_arg3)
      ∧ m' ((c.tc : Thread Cert.ConvBwdRefIdeal.nD Cert.ConvBwdRefIdeal.τ).loc Cert.ConvBwdRefIdeal.main_arg4) = m ((c.tc : Thread Cert.ConvBwdIdeal.nD Cert.ConvBwdIdeal.τ).loc Cert.ConvBwdIdeal.main_arg4)) →
    ∃ (v0 : (c : Dev Cert.ConvBwdIdeal.nD) → Buf (Elt Ideal) ((c.tc : Thread Cert.ConvBwdIdeal.nD Cert.ConvBwdIdeal.τ).loc Cert.ConvBwdIdeal.main_v13_0)) (v1 : (c : Dev Cert.ConvBwdIdeal.nD) → Buf (Elt Ideal) ((c.tc : Thread Cert.ConvBwdIdeal.nD Cert.ConvBwdIdeal.τ).loc Cert.ConvBwdIdeal.main_v13_1)) (v2 : (c : Dev Cert.ConvBwdIdeal.nD) → Buf (Elt Ideal) ((c.tc : Thread Cert.ConvBwdIdeal.nD Cert.ConvBwdIdeal.τ).loc Cert.ConvBwdIdeal.main_v13_2)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v13_0) = v0 c
          ∧ r.2.mem ((c.tc : Thread Cert.ConvBwdIdeal.nD Cert.ConvBwdIdeal.τ).loc Cert.ConvBwdIdeal.main_v13_1) = v1 c
          ∧ r.2.mem ((c.tc : Thread Cert.ConvBwdIdeal.nD Cert.ConvBwdIdeal.τ).loc Cert.ConvBwdIdeal.main_v13_2) = v2 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
          ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v80) = v0 c
          ∧ r.2.mem ((c.tc : Thread Cert.ConvBwdRefIdeal.nD Cert.ConvBwdRefIdeal.τ).loc Cert.ConvBwdRefIdeal.main_v82) = v1 c
          ∧ r.2.mem ((c.tc : Thread Cert.ConvBwdRefIdeal.nD Cert.ConvBwdRefIdeal.τ).loc Cert.ConvBwdRefIdeal.main_v84) = v2 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2)
          ∧ r.2.mem ((c.tc : Thread Cert.ConvBwdRefIdeal.nD Cert.ConvBwdRefIdeal.τ).loc Cert.ConvBwdRefIdeal.main_arg3) = m' ((c.tc : Thread Cert.ConvBwdRefIdeal.nD Cert.ConvBwdRefIdeal.τ).loc Cert.ConvBwdRefIdeal.main_arg3)
          ∧ r.2.mem ((c.tc : Thread Cert.ConvBwdRefIdeal.nD Cert.ConvBwdRefIdeal.τ).loc Cert.ConvBwdRefIdeal.main_arg4) = m' ((c.tc : Thread Cert.ConvBwdRefIdeal.nD Cert.ConvBwdRefIdeal.τ).loc Cert.ConvBwdRefIdeal.main_arg4))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamA_AdamAIdeal : Prop :=
  True

def algebraic_AdamAIdeal_AdamARefIdeal [hAdamAIdeal : Cert.AdamAIdeal.Facts] [hAdamARefIdeal : Cert.AdamARefIdeal.Facts] : Prop :=
  ∀ (m : (ℓ : Loc Cert.AdamAIdeal.nD Cert.AdamAIdeal.τ Cert.AdamAIdeal.sig) → Buf (Elt Ideal) ℓ) (g : Dev Cert.AdamAIdeal.nD → PrngReg)
    (m' : (ℓ : Loc Cert.AdamARefIdeal.nD Cert.AdamARefIdeal.τ Cert.AdamARefIdeal.sig) → Buf (Elt Ideal) ℓ) (g' : Dev Cert.AdamARefIdeal.nD → PrngReg), Pre_AdamAIdeal m →
    (∀ c : Dev Cert.AdamAIdeal.nD,
      m' ((c.tc : Thread Cert.AdamARefIdeal.nD Cert.AdamARefIdeal.τ).loc Cert.AdamARefIdeal.main_arg0) = m ((c.tc : Thread Cert.AdamAIdeal.nD Cert.AdamAIdeal.τ).loc Cert.AdamAIdeal.main_arg0)
      ∧ m' ((c.tc : Thread Cert.AdamARefIdeal.nD Cert.AdamARefIdeal.τ).loc Cert.AdamARefIdeal.main_arg1) = m ((c.tc : Thread Cert.AdamAIdeal.nD Cert.AdamAIdeal.τ).loc Cert.AdamAIdeal.main_arg1)
      ∧ m' ((c.tc : Thread Cert.AdamARefIdeal.nD Cert.AdamARefIdeal.τ).loc Cert.AdamARefIdeal.main_arg2) = m ((c.tc : Thread Cert.AdamAIdeal.nD Cert.AdamAIdeal.τ).loc Cert.AdamAIdeal.main_arg2)
      ∧ m' ((c.tc : Thread Cert.AdamARefIdeal.nD Cert.AdamARefIdeal.τ).loc Cert.AdamARefIdeal.main_arg3) = m ((c.tc : Thread Cert.AdamAIdeal.nD Cert.AdamAIdeal.τ).loc Cert.AdamAIdeal.main_arg3)
      ∧ m' ((c.tc : Thread Cert.AdamARefIdeal.nD Cert.AdamARefIdeal.τ).loc Cert.AdamARefIdeal.main_arg4) = m ((c.tc : Thread Cert.AdamAIdeal.nD Cert.AdamAIdeal.τ).loc Cert.AdamAIdeal.main_arg4)
      ∧ m' ((c.tc : Thread Cert.AdamARefIdeal.nD Cert.AdamARefIdeal.τ).loc Cert.AdamARefIdeal.main_arg5) = m ((c.tc : Thread Cert.AdamAIdeal.nD Cert.AdamAIdeal.τ).loc Cert.AdamAIdeal.main_arg5)
      ∧ m' ((c.tc : Thread Cert.AdamARefIdeal.nD Cert.AdamARefIdeal.τ).loc Cert.AdamARefIdeal.main_arg6) = m ((c.tc : Thread Cert.AdamAIdeal.nD Cert.AdamAIdeal.τ).loc Cert.AdamAIdeal.main_arg6)
      ∧ m' ((c.tc : Thread Cert.AdamARefIdeal.nD Cert.AdamARefIdeal.τ).loc Cert.AdamARefIdeal.main_arg7) = m ((c.tc : Thread Cert.AdamAIdeal.nD Cert.AdamAIdeal.τ).loc Cert.AdamAIdeal.main_arg7)
      ∧ m' ((c.tc : Thread Cert.AdamARefIdeal.nD Cert.AdamARefIdeal.τ).loc Cert.AdamARefIdeal.main_arg8) = m ((c.tc : Thread Cert.AdamAIdeal.nD Cert.AdamAIdeal.τ).loc Cert.AdamAIdeal.main_arg8)
      ∧ m' ((c.tc : Thread Cert.AdamARefIdeal.nD Cert.AdamARefIdeal.τ).loc Cert.AdamARefIdeal.main_arg9) = m ((c.tc : Thread Cert.AdamAIdeal.nD Cert.AdamAIdeal.τ).loc Cert.AdamAIdeal.main_arg9)
      ∧ m' ((c.tc : Thread Cert.AdamARefIdeal.nD Cert.AdamARefIdeal.τ).loc Cert.AdamARefIdeal.main_arg10) = m ((c.tc : Thread Cert.AdamAIdeal.nD Cert.AdamAIdeal.τ).loc Cert.AdamAIdeal.main_arg10)
      ∧ m' ((c.tc : Thread Cert.AdamARefIdeal.nD Cert.AdamARefIdeal.τ).loc Cert.AdamARefIdeal.main_arg11) = m ((c.tc : Thread Cert.AdamAIdeal.nD Cert.AdamAIdeal.τ).loc Cert.AdamAIdeal.main_arg11)
      ∧ m' ((c.tc : Thread Cert.AdamARefIdeal.nD Cert.AdamARefIdeal.τ).loc Cert.AdamARefIdeal.main_arg12) = m ((c.tc : Thread Cert.AdamAIdeal.nD Cert.AdamAIdeal.τ).loc Cert.AdamAIdeal.main_arg12)
      ∧ m' ((c.tc : Thread Cert.AdamARefIdeal.nD Cert.AdamARefIdeal.τ).loc Cert.AdamARefIdeal.main_arg13) = m ((c.tc : Thread Cert.AdamAIdeal.nD Cert.AdamAIdeal.τ).loc Cert.AdamAIdeal.main_arg13)
      ∧ m' ((c.tc : Thread Cert.AdamARefIdeal.nD Cert.AdamARefIdeal.τ).loc Cert.AdamARefIdeal.main_arg14) = m ((c.tc : Thread Cert.AdamAIdeal.nD Cert.AdamAIdeal.τ).loc Cert.AdamAIdeal.main_arg14)
      ∧ m' ((c.tc : Thread Cert.AdamARefIdeal.nD Cert.AdamARefIdeal.τ).loc Cert.AdamARefIdeal.main_arg15) = m ((c.tc : Thread Cert.AdamAIdeal.nD Cert.AdamAIdeal.τ).loc Cert.AdamAIdeal.main_arg15)) →
    ∃ (v0 : (c : Dev Cert.AdamAIdeal.nD) → Buf (Elt Ideal) ((c.tc : Thread Cert.AdamAIdeal.nD Cert.AdamAIdeal.τ).loc Cert.AdamAIdeal.main_v0_0)) (v1 : (c : Dev Cert.AdamAIdeal.nD) → Buf (Elt Ideal) ((c.tc : Thread Cert.AdamAIdeal.nD Cert.AdamAIdeal.τ).loc Cert.AdamAIdeal.main_v0_1)) (v2 : (c : Dev Cert.AdamAIdeal.nD) → Buf (Elt Ideal) ((c.tc : Thread Cert.AdamAIdeal.nD Cert.AdamAIdeal.τ).loc Cert.AdamAIdeal.main_v0_2)) (v3 : (c : Dev Cert.AdamAIdeal.nD) → Buf (Elt Ideal) ((c.tc : Thread Cert.AdamAIdeal.nD Cert.AdamAIdeal.τ).loc Cert.AdamAIdeal.main_v0_3)) (v4 : (c : Dev Cert.AdamAIdeal.nD) → Buf (Elt Ideal) ((c.tc : Thread Cert.AdamAIdeal.nD Cert.AdamAIdeal.τ).loc Cert.AdamAIdeal.main_v0_4)) (v5 : (c : Dev Cert.AdamAIdeal.nD) → Buf (Elt Ideal) ((c.tc : Thread Cert.AdamAIdeal.nD Cert.AdamAIdeal.τ).loc Cert.AdamAIdeal.main_v0_5)) (v6 : (c : Dev Cert.AdamAIdeal.nD) → Buf (Elt Ideal) ((c.tc : Thread Cert.AdamAIdeal.nD Cert.AdamAIdeal.τ).loc Cert.AdamAIdeal.main_v0_6)) (v7 : (c : Dev Cert.AdamAIdeal.nD) → Buf (Elt Ideal) ((c.tc : Thread Cert.AdamAIdeal.nD Cert.AdamAIdeal.τ).loc Cert.AdamAIdeal.main_v0_7)) (v8 : (c : Dev Cert.AdamAIdeal.nD) → Buf (Elt Ideal) ((c.tc : Thread Cert.AdamAIdeal.nD Cert.AdamAIdeal.τ).loc Cert.AdamAIdeal.main_v0_8)) (v9 : (c : Dev Cert.AdamAIdeal.nD) → Buf (Elt Ideal) ((c.tc : Thread Cert.AdamAIdeal.nD Cert.AdamAIdeal.τ).loc Cert.AdamAIdeal.main_v0_9)) (v10 : (c : Dev Cert.AdamAIdeal.nD) → Buf (Elt Ideal) ((c.tc : Thread Cert.AdamAIdeal.nD Cert.AdamAIdeal.τ).loc Cert.AdamAIdeal.main_v0_10)) (v11 : (c : Dev Cert.AdamAIdeal.nD) → Buf (Elt Ideal) ((c.tc : Thread Cert.AdamAIdeal.nD Cert.AdamAIdeal.τ).loc Cert.AdamAIdeal.main_v0_11)),
      θ_run (Cert.AdamAIdeal.defs (F := Ideal)) (onTc (τ := Cert.AdamAIdeal.τ) (Cert.AdamAIdeal.main (F := Ideal))) ⟨m, fun _ => 0, g⟩ (fun r => ∀ c : Dev Cert.AdamAIdeal.nD,
          r.2.mem ((c.tc : Thread Cert.AdamAIdeal.nD Cert.AdamAIdeal.τ).loc Cert.AdamAIdeal.main_v0_0) = v0 c
          ∧ r.2.mem ((c.tc : Thread Cert.AdamAIdeal.nD Cert.AdamAIdeal.τ).loc Cert.AdamAIdeal.main_v0_1) = v1 c
          ∧ r.2.mem ((c.tc : Thread Cert.AdamAIdeal.nD Cert.AdamAIdeal.τ).loc Cert.AdamAIdeal.main_v0_2) = v2 c
          ∧ r.2.mem ((c.tc : Thread Cert.AdamAIdeal.nD Cert.AdamAIdeal.τ).loc Cert.AdamAIdeal.main_v0_3) = v3 c
          ∧ r.2.mem ((c.tc : Thread Cert.AdamAIdeal.nD Cert.AdamAIdeal.τ).loc Cert.AdamAIdeal.main_v0_4) = v4 c
          ∧ r.2.mem ((c.tc : Thread Cert.AdamAIdeal.nD Cert.AdamAIdeal.τ).loc Cert.AdamAIdeal.main_v0_5) = v5 c
          ∧ r.2.mem ((c.tc : Thread Cert.AdamAIdeal.nD Cert.AdamAIdeal.τ).loc Cert.AdamAIdeal.main_v0_6) = v6 c
          ∧ r.2.mem ((c.tc : Thread Cert.AdamAIdeal.nD Cert.AdamAIdeal.τ).loc Cert.AdamAIdeal.main_v0_7) = v7 c
          ∧ r.2.mem ((c.tc : Thread Cert.AdamAIdeal.nD Cert.AdamAIdeal.τ).loc Cert.AdamAIdeal.main_v0_8) = v8 c
          ∧ r.2.mem ((c.tc : Thread Cert.AdamAIdeal.nD Cert.AdamAIdeal.τ).loc Cert.AdamAIdeal.main_v0_9) = v9 c
          ∧ r.2.mem ((c.tc : Thread Cert.AdamAIdeal.nD Cert.AdamAIdeal.τ).loc Cert.AdamAIdeal.main_v0_10) = v10 c
          ∧ r.2.mem ((c.tc : Thread Cert.AdamAIdeal.nD Cert.AdamAIdeal.τ).loc Cert.AdamAIdeal.main_v0_11) = v11 c
          ∧ r.2.mem ((c.tc : Thread Cert.AdamAIdeal.nD Cert.AdamAIdeal.τ).loc Cert.AdamAIdeal.main_arg0) = m ((c.tc : Thread Cert.AdamAIdeal.nD Cert.AdamAIdeal.τ).loc Cert.AdamAIdeal.main_arg0)
          ∧ r.2.mem ((c.tc : Thread Cert.AdamAIdeal.nD Cert.AdamAIdeal.τ).loc Cert.AdamAIdeal.main_arg1) = m ((c.tc : Thread Cert.AdamAIdeal.nD Cert.AdamAIdeal.τ).loc Cert.AdamAIdeal.main_arg1)
          ∧ r.2.mem ((c.tc : Thread Cert.AdamAIdeal.nD Cert.AdamAIdeal.τ).loc Cert.AdamAIdeal.main_arg2) = m ((c.tc : Thread Cert.AdamAIdeal.nD Cert.AdamAIdeal.τ).loc Cert.AdamAIdeal.main_arg2)
          ∧ r.2.mem ((c.tc : Thread Cert.AdamAIdeal.nD Cert.AdamAIdeal.τ).loc Cert.AdamAIdeal.main_arg3) = m ((c.tc : Thread Cert.AdamAIdeal.nD Cert.AdamAIdeal.τ).loc Cert.AdamAIdeal.main_arg3)
          ∧ r.2.mem ((c.tc : Thread Cert.AdamAIdeal.nD Cert.AdamAIdeal.τ).loc Cert.AdamAIdeal.main_arg4) = m ((c.tc : Thread Cert.AdamAIdeal.nD Cert.AdamAIdeal.τ).loc Cert.AdamAIdeal.main_arg4)
          ∧ r.2.mem ((c.tc : Thread Cert.AdamAIdeal.nD Cert.AdamAIdeal.τ).loc Cert.AdamAIdeal.main_arg5) = m ((c.tc : Thread Cert.AdamAIdeal.nD Cert.AdamAIdeal.τ).loc Cert.AdamAIdeal.main_arg5)
          ∧ r.2.mem ((c.tc : Thread Cert.AdamAIdeal.nD Cert.AdamAIdeal.τ).loc Cert.AdamAIdeal.main_arg6) = m ((c.tc : Thread Cert.AdamAIdeal.nD Cert.AdamAIdeal.τ).loc Cert.AdamAIdeal.main_arg6)
          ∧ r.2.mem ((c.tc : Thread Cert.AdamAIdeal.nD Cert.AdamAIdeal.τ).loc Cert.AdamAIdeal.main_arg7) = m ((c.tc : Thread Cert.AdamAIdeal.nD Cert.AdamAIdeal.τ).loc Cert.AdamAIdeal.main_arg7)
          ∧ r.2.mem ((c.tc : Thread Cert.AdamAIdeal.nD Cert.AdamAIdeal.τ).loc Cert.AdamAIdeal.main_arg8) = m ((c.tc : Thread Cert.AdamAIdeal.nD Cert.AdamAIdeal.τ).loc Cert.AdamAIdeal.main_arg8)
          ∧ r.2.mem ((c.tc : Thread Cert.AdamAIdeal.nD Cert.AdamAIdeal.τ).loc Cert.AdamAIdeal.main_arg9) = m ((c.tc : Thread Cert.AdamAIdeal.nD Cert.AdamAIdeal.τ).loc Cert.AdamAIdeal.main_arg9)
          ∧ r.2.mem ((c.tc : Thread Cert.AdamAIdeal.nD Cert.AdamAIdeal.τ).loc Cert.AdamAIdeal.main_arg10) = m ((c.tc : Thread Cert.AdamAIdeal.nD Cert.AdamAIdeal.τ).loc Cert.AdamAIdeal.main_arg10)
          ∧ r.2.mem ((c.tc : Thread Cert.AdamAIdeal.nD Cert.AdamAIdeal.τ).loc Cert.AdamAIdeal.main_arg11) = m ((c.tc : Thread Cert.AdamAIdeal.nD Cert.AdamAIdeal.τ).loc Cert.AdamAIdeal.main_arg11)
          ∧ r.2.mem ((c.tc : Thread Cert.AdamAIdeal.nD Cert.AdamAIdeal.τ).loc Cert.AdamAIdeal.main_arg12) = m ((c.tc : Thread Cert.AdamAIdeal.nD Cert.AdamAIdeal.τ).loc Cert.AdamAIdeal.main_arg12)
          ∧ r.2.mem ((c.tc : Thread Cert.AdamAIdeal.nD Cert.AdamAIdeal.τ).loc Cert.AdamAIdeal.main_arg13) = m ((c.tc : Thread Cert.AdamAIdeal.nD Cert.AdamAIdeal.τ).loc Cert.AdamAIdeal.main_arg13)
          ∧ r.2.mem ((c.tc : Thread Cert.AdamAIdeal.nD Cert.AdamAIdeal.τ).loc Cert.AdamAIdeal.main_arg14) = m ((c.tc : Thread Cert.AdamAIdeal.nD Cert.AdamAIdeal.τ).loc Cert.AdamAIdeal.main_arg14)
          ∧ r.2.mem ((c.tc : Thread Cert.AdamAIdeal.nD Cert.AdamAIdeal.τ).loc Cert.AdamAIdeal.main_arg15) = m ((c.tc : Thread Cert.AdamAIdeal.nD Cert.AdamAIdeal.τ).loc Cert.AdamAIdeal.main_arg15))
      ∧ θ_run (Cert.AdamARefIdeal.defs (F := Ideal)) (onTc (τ := Cert.AdamARefIdeal.τ) (Cert.AdamARefIdeal.main (F := Ideal))) ⟨m', fun _ => 0, g'⟩ (fun r => ∀ c : Dev Cert.AdamARefIdeal.nD,
          r.2.mem ((c.tc : Thread Cert.AdamARefIdeal.nD Cert.AdamARefIdeal.τ).loc Cert.AdamARefIdeal.main_v23) = v0 c
          ∧ r.2.mem ((c.tc : Thread Cert.AdamARefIdeal.nD Cert.AdamARefIdeal.τ).loc Cert.AdamARefIdeal.main_v47) = v1 c
          ∧ r.2.mem ((c.tc : Thread Cert.AdamARefIdeal.nD Cert.AdamARefIdeal.τ).loc Cert.AdamARefIdeal.main_v71) = v2 c
          ∧ r.2.mem ((c.tc : Thread Cert.AdamARefIdeal.nD Cert.AdamARefIdeal.τ).loc Cert.AdamARefIdeal.main_v95) = v3 c
          ∧ r.2.mem ((c.tc : Thread Cert.AdamARefIdeal.nD Cert.AdamARefIdeal.τ).loc Cert.AdamARefIdeal.main_v4) = v4 c
          ∧ r.2.mem ((c.tc : Thread Cert.AdamARefIdeal.nD Cert.AdamARefIdeal.τ).loc Cert.AdamARefIdeal.main_v28) = v5 c
          ∧ r.2.mem ((c.tc : Thread Cert.AdamARefIdeal.nD Cert.AdamARefIdeal.τ).loc Cert.AdamARefIdeal.main_v52) = v6 c
          ∧ r.2.mem ((c.tc : Thread Cert.AdamARefIdeal.nD Cert.AdamARefIdeal.τ).loc Cert.AdamARefIdeal.main_v76) = v7 c
          ∧ r.2.mem ((c.tc : Thread Cert.AdamARefIdeal.nD Cert.AdamARefIdeal.τ).loc Cert.AdamARefIdeal.main_v10) = v8 c
          ∧ r.2.mem ((c.tc : Thread Cert.AdamARefIdeal.nD Cert.AdamARefIdeal.τ).loc Cert.AdamARefIdeal.main_v34) = v9 c
          ∧ r.2.mem ((c.tc : Thread Cert.AdamARefIdeal.nD Cert.AdamARefIdeal.τ).loc Cert.AdamARefIdeal.main_v58) = v10 c
          ∧ r.2.mem ((c.tc : Thread Cert.AdamARefIdeal.nD Cert.AdamARefIdeal.τ).loc Cert.AdamARefIdeal.main_v82) = v11 c
          ∧ r.2.mem ((c.tc : Thread Cert.AdamARefIdeal.nD Cert.AdamARefIdeal.τ).loc Cert.AdamARefIdeal.main_arg0) = m' ((c.tc : Thread Cert.AdamARefIdeal.nD Cert.AdamARefIdeal.τ).loc Cert.AdamARefIdeal.main_arg0)
          ∧ r.2.mem ((c.tc : Thread Cert.AdamARefIdeal.nD Cert.AdamARefIdeal.τ).loc Cert.AdamARefIdeal.main_arg1) = m' ((c.tc : Thread Cert.AdamARefIdeal.nD Cert.AdamARefIdeal.τ).loc Cert.AdamARefIdeal.main_arg1)
          ∧ r.2.mem ((c.tc : Thread Cert.AdamARefIdeal.nD Cert.AdamARefIdeal.τ).loc Cert.AdamARefIdeal.main_arg2) = m' ((c.tc : Thread Cert.AdamARefIdeal.nD Cert.AdamARefIdeal.τ).loc Cert.AdamARefIdeal.main_arg2)
          ∧ r.2.mem ((c.tc : Thread Cert.AdamARefIdeal.nD Cert.AdamARefIdeal.τ).loc Cert.AdamARefIdeal.main_arg3) = m' ((c.tc : Thread Cert.AdamARefIdeal.nD Cert.AdamARefIdeal.τ).loc Cert.AdamARefIdeal.main_arg3)
          ∧ r.2.mem ((c.tc : Thread Cert.AdamARefIdeal.nD Cert.AdamARefIdeal.τ).loc Cert.AdamARefIdeal.main_arg4) = m' ((c.tc : Thread Cert.AdamARefIdeal.nD Cert.AdamARefIdeal.τ).loc Cert.AdamARefIdeal.main_arg4)
          ∧ r.2.mem ((c.tc : Thread Cert.AdamARefIdeal.nD Cert.AdamARefIdeal.τ).loc Cert.AdamARefIdeal.main_arg5) = m' ((c.tc : Thread Cert.AdamARefIdeal.nD Cert.AdamARefIdeal.τ).loc Cert.AdamARefIdeal.main_arg5)
          ∧ r.2.mem ((c.tc : Thread Cert.AdamARefIdeal.nD Cert.AdamARefIdeal.τ).loc Cert.AdamARefIdeal.main_arg6) = m' ((c.tc : Thread Cert.AdamARefIdeal.nD Cert.AdamARefIdeal.τ).loc Cert.AdamARefIdeal.main_arg6)
          ∧ r.2.mem ((c.tc : Thread Cert.AdamARefIdeal.nD Cert.AdamARefIdeal.τ).loc Cert.AdamARefIdeal.main_arg7) = m' ((c.tc : Thread Cert.AdamARefIdeal.nD Cert.AdamARefIdeal.τ).loc Cert.AdamARefIdeal.main_arg7)
          ∧ r.2.mem ((c.tc : Thread Cert.AdamARefIdeal.nD Cert.AdamARefIdeal.τ).loc Cert.AdamARefIdeal.main_arg8) = m' ((c.tc : Thread Cert.AdamARefIdeal.nD Cert.AdamARefIdeal.τ).loc Cert.AdamARefIdeal.main_arg8)
          ∧ r.2.mem ((c.tc : Thread Cert.AdamARefIdeal.nD Cert.AdamARefIdeal.τ).loc Cert.AdamARefIdeal.main_arg9) = m' ((c.tc : Thread Cert.AdamARefIdeal.nD Cert.AdamARefIdeal.τ).loc Cert.AdamARefIdeal.main_arg9)
          ∧ r.2.mem ((c.tc : Thread Cert.AdamARefIdeal.nD Cert.AdamARefIdeal.τ).loc Cert.AdamARefIdeal.main_arg10) = m' ((c.tc : Thread Cert.AdamARefIdeal.nD Cert.AdamARefIdeal.τ).loc Cert.AdamARefIdeal.main_arg10)
          ∧ r.2.mem ((c.tc : Thread Cert.AdamARefIdeal.nD Cert.AdamARefIdeal.τ).loc Cert.AdamARefIdeal.main_arg11) = m' ((c.tc : Thread Cert.AdamARefIdeal.nD Cert.AdamARefIdeal.τ).loc Cert.AdamARefIdeal.main_arg11)
          ∧ r.2.mem ((c.tc : Thread Cert.AdamARefIdeal.nD Cert.AdamARefIdeal.τ).loc Cert.AdamARefIdeal.main_arg12) = m' ((c.tc : Thread Cert.AdamARefIdeal.nD Cert.AdamARefIdeal.τ).loc Cert.AdamARefIdeal.main_arg12)
          ∧ r.2.mem ((c.tc : Thread Cert.AdamARefIdeal.nD Cert.AdamARefIdeal.τ).loc Cert.AdamARefIdeal.main_arg13) = m' ((c.tc : Thread Cert.AdamARefIdeal.nD Cert.AdamARefIdeal.τ).loc Cert.AdamARefIdeal.main_arg13)
          ∧ r.2.mem ((c.tc : Thread Cert.AdamARefIdeal.nD Cert.AdamARefIdeal.τ).loc Cert.AdamARefIdeal.main_arg14) = m' ((c.tc : Thread Cert.AdamARefIdeal.nD Cert.AdamARefIdeal.τ).loc Cert.AdamARefIdeal.main_arg14)
          ∧ r.2.mem ((c.tc : Thread Cert.AdamARefIdeal.nD Cert.AdamARefIdeal.τ).loc Cert.AdamARefIdeal.main_arg15) = m' ((c.tc : Thread Cert.AdamARefIdeal.nD Cert.AdamARefIdeal.τ).loc Cert.AdamARefIdeal.main_arg15))

def preserves_AdamB_AdamBIdeal : Prop :=
  True

def algebraic_AdamBIdeal_AdamBRefIdeal [hAdamBIdeal : Cert.AdamBIdeal.Facts] [hAdamBRefIdeal : Cert.AdamBRefIdeal.Facts] : Prop :=
  ∀ (m : (ℓ : Loc Cert.AdamBIdeal.nD Cert.AdamBIdeal.τ Cert.AdamBIdeal.sig) → Buf (Elt Ideal) ℓ) (g : Dev Cert.AdamBIdeal.nD → PrngReg)
    (m' : (ℓ : Loc Cert.AdamBRefIdeal.nD Cert.AdamBRefIdeal.τ Cert.AdamBRefIdeal.sig) → Buf (Elt Ideal) ℓ) (g' : Dev Cert.AdamBRefIdeal.nD → PrngReg), Pre_AdamBIdeal m →
    (∀ c : Dev Cert.AdamBIdeal.nD,
      m' ((c.tc : Thread Cert.AdamBRefIdeal.nD Cert.AdamBRefIdeal.τ).loc Cert.AdamBRefIdeal.main_arg0) = m ((c.tc : Thread Cert.AdamBIdeal.nD Cert.AdamBIdeal.τ).loc Cert.AdamBIdeal.main_arg0)
      ∧ m' ((c.tc : Thread Cert.AdamBRefIdeal.nD Cert.AdamBRefIdeal.τ).loc Cert.AdamBRefIdeal.main_arg1) = m ((c.tc : Thread Cert.AdamBIdeal.nD Cert.AdamBIdeal.τ).loc Cert.AdamBIdeal.main_arg1)
      ∧ m' ((c.tc : Thread Cert.AdamBRefIdeal.nD Cert.AdamBRefIdeal.τ).loc Cert.AdamBRefIdeal.main_arg2) = m ((c.tc : Thread Cert.AdamBIdeal.nD Cert.AdamBIdeal.τ).loc Cert.AdamBIdeal.main_arg2)
      ∧ m' ((c.tc : Thread Cert.AdamBRefIdeal.nD Cert.AdamBRefIdeal.τ).loc Cert.AdamBRefIdeal.main_arg3) = m ((c.tc : Thread Cert.AdamBIdeal.nD Cert.AdamBIdeal.τ).loc Cert.AdamBIdeal.main_arg3)
      ∧ m' ((c.tc : Thread Cert.AdamBRefIdeal.nD Cert.AdamBRefIdeal.τ).loc Cert.AdamBRefIdeal.main_arg4) = m ((c.tc : Thread Cert.AdamBIdeal.nD Cert.AdamBIdeal.τ).loc Cert.AdamBIdeal.main_arg4)
      ∧ m' ((c.tc : Thread Cert.AdamBRefIdeal.nD Cert.AdamBRefIdeal.τ).loc Cert.AdamBRefIdeal.main_arg5) = m ((c.tc : Thread Cert.AdamBIdeal.nD Cert.AdamBIdeal.τ).loc Cert.AdamBIdeal.main_arg5)
      ∧ m' ((c.tc : Thread Cert.AdamBRefIdeal.nD Cert.AdamBRefIdeal.τ).loc Cert.AdamBRefIdeal.main_arg6) = m ((c.tc : Thread Cert.AdamBIdeal.nD Cert.AdamBIdeal.τ).loc Cert.AdamBIdeal.main_arg6)
      ∧ m' ((c.tc : Thread Cert.AdamBRefIdeal.nD Cert.AdamBRefIdeal.τ).loc Cert.AdamBRefIdeal.main_arg7) = m ((c.tc : Thread Cert.AdamBIdeal.nD Cert.AdamBIdeal.τ).loc Cert.AdamBIdeal.main_arg7)
      ∧ m' ((c.tc : Thread Cert.AdamBRefIdeal.nD Cert.AdamBRefIdeal.τ).loc Cert.AdamBRefIdeal.main_arg8) = m ((c.tc : Thread Cert.AdamBIdeal.nD Cert.AdamBIdeal.τ).loc Cert.AdamBIdeal.main_arg8)
      ∧ m' ((c.tc : Thread Cert.AdamBRefIdeal.nD Cert.AdamBRefIdeal.τ).loc Cert.AdamBRefIdeal.main_arg9) = m ((c.tc : Thread Cert.AdamBIdeal.nD Cert.AdamBIdeal.τ).loc Cert.AdamBIdeal.main_arg9)
      ∧ m' ((c.tc : Thread Cert.AdamBRefIdeal.nD Cert.AdamBRefIdeal.τ).loc Cert.AdamBRefIdeal.main_arg10) = m ((c.tc : Thread Cert.AdamBIdeal.nD Cert.AdamBIdeal.τ).loc Cert.AdamBIdeal.main_arg10)
      ∧ m' ((c.tc : Thread Cert.AdamBRefIdeal.nD Cert.AdamBRefIdeal.τ).loc Cert.AdamBRefIdeal.main_arg11) = m ((c.tc : Thread Cert.AdamBIdeal.nD Cert.AdamBIdeal.τ).loc Cert.AdamBIdeal.main_arg11)
      ∧ m' ((c.tc : Thread Cert.AdamBRefIdeal.nD Cert.AdamBRefIdeal.τ).loc Cert.AdamBRefIdeal.main_arg12) = m ((c.tc : Thread Cert.AdamBIdeal.nD Cert.AdamBIdeal.τ).loc Cert.AdamBIdeal.main_arg12)
      ∧ m' ((c.tc : Thread Cert.AdamBRefIdeal.nD Cert.AdamBRefIdeal.τ).loc Cert.AdamBRefIdeal.main_arg13) = m ((c.tc : Thread Cert.AdamBIdeal.nD Cert.AdamBIdeal.τ).loc Cert.AdamBIdeal.main_arg13)
      ∧ m' ((c.tc : Thread Cert.AdamBRefIdeal.nD Cert.AdamBRefIdeal.τ).loc Cert.AdamBRefIdeal.main_arg14) = m ((c.tc : Thread Cert.AdamBIdeal.nD Cert.AdamBIdeal.τ).loc Cert.AdamBIdeal.main_arg14)
      ∧ m' ((c.tc : Thread Cert.AdamBRefIdeal.nD Cert.AdamBRefIdeal.τ).loc Cert.AdamBRefIdeal.main_arg15) = m ((c.tc : Thread Cert.AdamBIdeal.nD Cert.AdamBIdeal.τ).loc Cert.AdamBIdeal.main_arg15)) →
    ∃ (v0 : (c : Dev Cert.AdamBIdeal.nD) → Buf (Elt Ideal) ((c.tc : Thread Cert.AdamBIdeal.nD Cert.AdamBIdeal.τ).loc Cert.AdamBIdeal.main_v0_0)) (v1 : (c : Dev Cert.AdamBIdeal.nD) → Buf (Elt Ideal) ((c.tc : Thread Cert.AdamBIdeal.nD Cert.AdamBIdeal.τ).loc Cert.AdamBIdeal.main_v0_1)) (v2 : (c : Dev Cert.AdamBIdeal.nD) → Buf (Elt Ideal) ((c.tc : Thread Cert.AdamBIdeal.nD Cert.AdamBIdeal.τ).loc Cert.AdamBIdeal.main_v0_2)) (v3 : (c : Dev Cert.AdamBIdeal.nD) → Buf (Elt Ideal) ((c.tc : Thread Cert.AdamBIdeal.nD Cert.AdamBIdeal.τ).loc Cert.AdamBIdeal.main_v0_3)) (v4 : (c : Dev Cert.AdamBIdeal.nD) → Buf (Elt Ideal) ((c.tc : Thread Cert.AdamBIdeal.nD Cert.AdamBIdeal.τ).loc Cert.AdamBIdeal.main_v0_4)) (v5 : (c : Dev Cert.AdamBIdeal.nD) → Buf (Elt Ideal) ((c.tc : Thread Cert.AdamBIdeal.nD Cert.AdamBIdeal.τ).loc Cert.AdamBIdeal.main_v0_5)) (v6 : (c : Dev Cert.AdamBIdeal.nD) → Buf (Elt Ideal) ((c.tc : Thread Cert.AdamBIdeal.nD Cert.AdamBIdeal.τ).loc Cert.AdamBIdeal.main_v0_6)) (v7 : (c : Dev Cert.AdamBIdeal.nD) → Buf (Elt Ideal) ((c.tc : Thread Cert.AdamBIdeal.nD Cert.AdamBIdeal.τ).loc Cert.AdamBIdeal.main_v0_7)) (v8 : (c : Dev Cert.AdamBIdeal.nD) → Buf (Elt Ideal) ((c.tc : Thread Cert.AdamBIdeal.nD Cert.AdamBIdeal.τ).loc Cert.AdamBIdeal.main_v0_8)) (v9 : (c : Dev Cert.AdamBIdeal.nD) → Buf (Elt Ideal) ((c.tc : Thread Cert.AdamBIdeal.nD Cert.AdamBIdeal.τ).loc Cert.AdamBIdeal.main_v0_9)) (v10 : (c : Dev Cert.AdamBIdeal.nD) → Buf (Elt Ideal) ((c.tc : Thread Cert.AdamBIdeal.nD Cert.AdamBIdeal.τ).loc Cert.AdamBIdeal.main_v0_10)) (v11 : (c : Dev Cert.AdamBIdeal.nD) → Buf (Elt Ideal) ((c.tc : Thread Cert.AdamBIdeal.nD Cert.AdamBIdeal.τ).loc Cert.AdamBIdeal.main_v0_11)),
      θ_run (Cert.AdamBIdeal.defs (F := Ideal)) (onTc (τ := Cert.AdamBIdeal.τ) (Cert.AdamBIdeal.main (F := Ideal))) ⟨m, fun _ => 0, g⟩ (fun r => ∀ c : Dev Cert.AdamBIdeal.nD,
          r.2.mem ((c.tc : Thread Cert.AdamBIdeal.nD Cert.AdamBIdeal.τ).loc Cert.AdamBIdeal.main_v0_0) = v0 c
          ∧ r.2.mem ((c.tc : Thread Cert.AdamBIdeal.nD Cert.AdamBIdeal.τ).loc Cert.AdamBIdeal.main_v0_1) = v1 c
          ∧ r.2.mem ((c.tc : Thread Cert.AdamBIdeal.nD Cert.AdamBIdeal.τ).loc Cert.AdamBIdeal.main_v0_2) = v2 c
          ∧ r.2.mem ((c.tc : Thread Cert.AdamBIdeal.nD Cert.AdamBIdeal.τ).loc Cert.AdamBIdeal.main_v0_3) = v3 c
          ∧ r.2.mem ((c.tc : Thread Cert.AdamBIdeal.nD Cert.AdamBIdeal.τ).loc Cert.AdamBIdeal.main_v0_4) = v4 c
          ∧ r.2.mem ((c.tc : Thread Cert.AdamBIdeal.nD Cert.AdamBIdeal.τ).loc Cert.AdamBIdeal.main_v0_5) = v5 c
          ∧ r.2.mem ((c.tc : Thread Cert.AdamBIdeal.nD Cert.AdamBIdeal.τ).loc Cert.AdamBIdeal.main_v0_6) = v6 c
          ∧ r.2.mem ((c.tc : Thread Cert.AdamBIdeal.nD Cert.AdamBIdeal.τ).loc Cert.AdamBIdeal.main_v0_7) = v7 c
          ∧ r.2.mem ((c.tc : Thread Cert.AdamBIdeal.nD Cert.AdamBIdeal.τ).loc Cert.AdamBIdeal.main_v0_8) = v8 c
          ∧ r.2.mem ((c.tc : Thread Cert.AdamBIdeal.nD Cert.AdamBIdeal.τ).loc Cert.AdamBIdeal.main_v0_9) = v9 c
          ∧ r.2.mem ((c.tc : Thread Cert.AdamBIdeal.nD Cert.AdamBIdeal.τ).loc Cert.AdamBIdeal.main_v0_10) = v10 c
          ∧ r.2.mem ((c.tc : Thread Cert.AdamBIdeal.nD Cert.AdamBIdeal.τ).loc Cert.AdamBIdeal.main_v0_11) = v11 c
          ∧ r.2.mem ((c.tc : Thread Cert.AdamBIdeal.nD Cert.AdamBIdeal.τ).loc Cert.AdamBIdeal.main_arg0) = m ((c.tc : Thread Cert.AdamBIdeal.nD Cert.AdamBIdeal.τ).loc Cert.AdamBIdeal.main_arg0)
          ∧ r.2.mem ((c.tc : Thread Cert.AdamBIdeal.nD Cert.AdamBIdeal.τ).loc Cert.AdamBIdeal.main_arg1) = m ((c.tc : Thread Cert.AdamBIdeal.nD Cert.AdamBIdeal.τ).loc Cert.AdamBIdeal.main_arg1)
          ∧ r.2.mem ((c.tc : Thread Cert.AdamBIdeal.nD Cert.AdamBIdeal.τ).loc Cert.AdamBIdeal.main_arg2) = m ((c.tc : Thread Cert.AdamBIdeal.nD Cert.AdamBIdeal.τ).loc Cert.AdamBIdeal.main_arg2)
          ∧ r.2.mem ((c.tc : Thread Cert.AdamBIdeal.nD Cert.AdamBIdeal.τ).loc Cert.AdamBIdeal.main_arg3) = m ((c.tc : Thread Cert.AdamBIdeal.nD Cert.AdamBIdeal.τ).loc Cert.AdamBIdeal.main_arg3)
          ∧ r.2.mem ((c.tc : Thread Cert.AdamBIdeal.nD Cert.AdamBIdeal.τ).loc Cert.AdamBIdeal.main_arg4) = m ((c.tc : Thread Cert.AdamBIdeal.nD Cert.AdamBIdeal.τ).loc Cert.AdamBIdeal.main_arg4)
          ∧ r.2.mem ((c.tc : Thread Cert.AdamBIdeal.nD Cert.AdamBIdeal.τ).loc Cert.AdamBIdeal.main_arg5) = m ((c.tc : Thread Cert.AdamBIdeal.nD Cert.AdamBIdeal.τ).loc Cert.AdamBIdeal.main_arg5)
          ∧ r.2.mem ((c.tc : Thread Cert.AdamBIdeal.nD Cert.AdamBIdeal.τ).loc Cert.AdamBIdeal.main_arg6) = m ((c.tc : Thread Cert.AdamBIdeal.nD Cert.AdamBIdeal.τ).loc Cert.AdamBIdeal.main_arg6)
          ∧ r.2.mem ((c.tc : Thread Cert.AdamBIdeal.nD Cert.AdamBIdeal.τ).loc Cert.AdamBIdeal.main_arg7) = m ((c.tc : Thread Cert.AdamBIdeal.nD Cert.AdamBIdeal.τ).loc Cert.AdamBIdeal.main_arg7)
          ∧ r.2.mem ((c.tc : Thread Cert.AdamBIdeal.nD Cert.AdamBIdeal.τ).loc Cert.AdamBIdeal.main_arg8) = m ((c.tc : Thread Cert.AdamBIdeal.nD Cert.AdamBIdeal.τ).loc Cert.AdamBIdeal.main_arg8)
          ∧ r.2.mem ((c.tc : Thread Cert.AdamBIdeal.nD Cert.AdamBIdeal.τ).loc Cert.AdamBIdeal.main_arg9) = m ((c.tc : Thread Cert.AdamBIdeal.nD Cert.AdamBIdeal.τ).loc Cert.AdamBIdeal.main_arg9)
          ∧ r.2.mem ((c.tc : Thread Cert.AdamBIdeal.nD Cert.AdamBIdeal.τ).loc Cert.AdamBIdeal.main_arg10) = m ((c.tc : Thread Cert.AdamBIdeal.nD Cert.AdamBIdeal.τ).loc Cert.AdamBIdeal.main_arg10)
          ∧ r.2.mem ((c.tc : Thread Cert.AdamBIdeal.nD Cert.AdamBIdeal.τ).loc Cert.AdamBIdeal.main_arg11) = m ((c.tc : Thread Cert.AdamBIdeal.nD Cert.AdamBIdeal.τ).loc Cert.AdamBIdeal.main_arg11)
          ∧ r.2.mem ((c.tc : Thread Cert.AdamBIdeal.nD Cert.AdamBIdeal.τ).loc Cert.AdamBIdeal.main_arg12) = m ((c.tc : Thread Cert.AdamBIdeal.nD Cert.AdamBIdeal.τ).loc Cert.AdamBIdeal.main_arg12)
          ∧ r.2.mem ((c.tc : Thread Cert.AdamBIdeal.nD Cert.AdamBIdeal.τ).loc Cert.AdamBIdeal.main_arg13) = m ((c.tc : Thread Cert.AdamBIdeal.nD Cert.AdamBIdeal.τ).loc Cert.AdamBIdeal.main_arg13)
          ∧ r.2.mem ((c.tc : Thread Cert.AdamBIdeal.nD Cert.AdamBIdeal.τ).loc Cert.AdamBIdeal.main_arg14) = m ((c.tc : Thread Cert.AdamBIdeal.nD Cert.AdamBIdeal.τ).loc Cert.AdamBIdeal.main_arg14)
          ∧ r.2.mem ((c.tc : Thread Cert.AdamBIdeal.nD Cert.AdamBIdeal.τ).loc Cert.AdamBIdeal.main_arg15) = m ((c.tc : Thread Cert.AdamBIdeal.nD Cert.AdamBIdeal.τ).loc Cert.AdamBIdeal.main_arg15))
      ∧ θ_run (Cert.AdamBRefIdeal.defs (F := Ideal)) (onTc (τ := Cert.AdamBRefIdeal.τ) (Cert.AdamBRefIdeal.main (F := Ideal))) ⟨m', fun _ => 0, g'⟩ (fun r => ∀ c : Dev Cert.AdamBRefIdeal.nD,
          r.2.mem ((c.tc : Thread Cert.AdamBRefIdeal.nD Cert.AdamBRefIdeal.τ).loc Cert.AdamBRefIdeal.main_v23) = v0 c
          ∧ r.2.mem ((c.tc : Thread Cert.AdamBRefIdeal.nD Cert.AdamBRefIdeal.τ).loc Cert.AdamBRefIdeal.main_v47) = v1 c
          ∧ r.2.mem ((c.tc : Thread Cert.AdamBRefIdeal.nD Cert.AdamBRefIdeal.τ).loc Cert.AdamBRefIdeal.main_v71) = v2 c
          ∧ r.2.mem ((c.tc : Thread Cert.AdamBRefIdeal.nD Cert.AdamBRefIdeal.τ).loc Cert.AdamBRefIdeal.main_v95) = v3 c
          ∧ r.2.mem ((c.tc : Thread Cert.AdamBRefIdeal.nD Cert.AdamBRefIdeal.τ).loc Cert.AdamBRefIdeal.main_v4) = v4 c
          ∧ r.2.mem ((c.tc : Thread Cert.AdamBRefIdeal.nD Cert.AdamBRefIdeal.τ).loc Cert.AdamBRefIdeal.main_v28) = v5 c
          ∧ r.2.mem ((c.tc : Thread Cert.AdamBRefIdeal.nD Cert.AdamBRefIdeal.τ).loc Cert.AdamBRefIdeal.main_v52) = v6 c
          ∧ r.2.mem ((c.tc : Thread Cert.AdamBRefIdeal.nD Cert.AdamBRefIdeal.τ).loc Cert.AdamBRefIdeal.main_v76) = v7 c
          ∧ r.2.mem ((c.tc : Thread Cert.AdamBRefIdeal.nD Cert.AdamBRefIdeal.τ).loc Cert.AdamBRefIdeal.main_v10) = v8 c
          ∧ r.2.mem ((c.tc : Thread Cert.AdamBRefIdeal.nD Cert.AdamBRefIdeal.τ).loc Cert.AdamBRefIdeal.main_v34) = v9 c
          ∧ r.2.mem ((c.tc : Thread Cert.AdamBRefIdeal.nD Cert.AdamBRefIdeal.τ).loc Cert.AdamBRefIdeal.main_v58) = v10 c
          ∧ r.2.mem ((c.tc : Thread Cert.AdamBRefIdeal.nD Cert.AdamBRefIdeal.τ).loc Cert.AdamBRefIdeal.main_v82) = v11 c
          ∧ r.2.mem ((c.tc : Thread Cert.AdamBRefIdeal.nD Cert.AdamBRefIdeal.τ).loc Cert.AdamBRefIdeal.main_arg0) = m' ((c.tc : Thread Cert.AdamBRefIdeal.nD Cert.AdamBRefIdeal.τ).loc Cert.AdamBRefIdeal.main_arg0)
          ∧ r.2.mem ((c.tc : Thread Cert.AdamBRefIdeal.nD Cert.AdamBRefIdeal.τ).loc Cert.AdamBRefIdeal.main_arg1) = m' ((c.tc : Thread Cert.AdamBRefIdeal.nD Cert.AdamBRefIdeal.τ).loc Cert.AdamBRefIdeal.main_arg1)
          ∧ r.2.mem ((c.tc : Thread Cert.AdamBRefIdeal.nD Cert.AdamBRefIdeal.τ).loc Cert.AdamBRefIdeal.main_arg2) = m' ((c.tc : Thread Cert.AdamBRefIdeal.nD Cert.AdamBRefIdeal.τ).loc Cert.AdamBRefIdeal.main_arg2)
          ∧ r.2.mem ((c.tc : Thread Cert.AdamBRefIdeal.nD Cert.AdamBRefIdeal.τ).loc Cert.AdamBRefIdeal.main_arg3) = m' ((c.tc : Thread Cert.AdamBRefIdeal.nD Cert.AdamBRefIdeal.τ).loc Cert.AdamBRefIdeal.main_arg3)
          ∧ r.2.mem ((c.tc : Thread Cert.AdamBRefIdeal.nD Cert.AdamBRefIdeal.τ).loc Cert.AdamBRefIdeal.main_arg4) = m' ((c.tc : Thread Cert.AdamBRefIdeal.nD Cert.AdamBRefIdeal.τ).loc Cert.AdamBRefIdeal.main_arg4)
          ∧ r.2.mem ((c.tc : Thread Cert.AdamBRefIdeal.nD Cert.AdamBRefIdeal.τ).loc Cert.AdamBRefIdeal.main_arg5) = m' ((c.tc : Thread Cert.AdamBRefIdeal.nD Cert.AdamBRefIdeal.τ).loc Cert.AdamBRefIdeal.main_arg5)
          ∧ r.2.mem ((c.tc : Thread Cert.AdamBRefIdeal.nD Cert.AdamBRefIdeal.τ).loc Cert.AdamBRefIdeal.main_arg6) = m' ((c.tc : Thread Cert.AdamBRefIdeal.nD Cert.AdamBRefIdeal.τ).loc Cert.AdamBRefIdeal.main_arg6)
          ∧ r.2.mem ((c.tc : Thread Cert.AdamBRefIdeal.nD Cert.AdamBRefIdeal.τ).loc Cert.AdamBRefIdeal.main_arg7) = m' ((c.tc : Thread Cert.AdamBRefIdeal.nD Cert.AdamBRefIdeal.τ).loc Cert.AdamBRefIdeal.main_arg7)
          ∧ r.2.mem ((c.tc : Thread Cert.AdamBRefIdeal.nD Cert.AdamBRefIdeal.τ).loc Cert.AdamBRefIdeal.main_arg8) = m' ((c.tc : Thread Cert.AdamBRefIdeal.nD Cert.AdamBRefIdeal.τ).loc Cert.AdamBRefIdeal.main_arg8)
          ∧ r.2.mem ((c.tc : Thread Cert.AdamBRefIdeal.nD Cert.AdamBRefIdeal.τ).loc Cert.AdamBRefIdeal.main_arg9) = m' ((c.tc : Thread Cert.AdamBRefIdeal.nD Cert.AdamBRefIdeal.τ).loc Cert.AdamBRefIdeal.main_arg9)
          ∧ r.2.mem ((c.tc : Thread Cert.AdamBRefIdeal.nD Cert.AdamBRefIdeal.τ).loc Cert.AdamBRefIdeal.main_arg10) = m' ((c.tc : Thread Cert.AdamBRefIdeal.nD Cert.AdamBRefIdeal.τ).loc Cert.AdamBRefIdeal.main_arg10)
          ∧ r.2.mem ((c.tc : Thread Cert.AdamBRefIdeal.nD Cert.AdamBRefIdeal.τ).loc Cert.AdamBRefIdeal.main_arg11) = m' ((c.tc : Thread Cert.AdamBRefIdeal.nD Cert.AdamBRefIdeal.τ).loc Cert.AdamBRefIdeal.main_arg11)
          ∧ r.2.mem ((c.tc : Thread Cert.AdamBRefIdeal.nD Cert.AdamBRefIdeal.τ).loc Cert.AdamBRefIdeal.main_arg12) = m' ((c.tc : Thread Cert.AdamBRefIdeal.nD Cert.AdamBRefIdeal.τ).loc Cert.AdamBRefIdeal.main_arg12)
          ∧ r.2.mem ((c.tc : Thread Cert.AdamBRefIdeal.nD Cert.AdamBRefIdeal.τ).loc Cert.AdamBRefIdeal.main_arg13) = m' ((c.tc : Thread Cert.AdamBRefIdeal.nD Cert.AdamBRefIdeal.τ).loc Cert.AdamBRefIdeal.main_arg13)
          ∧ r.2.mem ((c.tc : Thread Cert.AdamBRefIdeal.nD Cert.AdamBRefIdeal.τ).loc Cert.AdamBRefIdeal.main_arg14) = m' ((c.tc : Thread Cert.AdamBRefIdeal.nD Cert.AdamBRefIdeal.τ).loc Cert.AdamBRefIdeal.main_arg14)
          ∧ r.2.mem ((c.tc : Thread Cert.AdamBRefIdeal.nD Cert.AdamBRefIdeal.τ).loc Cert.AdamBRefIdeal.main_arg15) = m' ((c.tc : Thread Cert.AdamBRefIdeal.nD Cert.AdamBRefIdeal.τ).loc Cert.AdamBRefIdeal.main_arg15))

def preserves_AdamC_AdamCIdeal : Prop :=
  True

def algebraic_AdamCIdeal_AdamCRefIdeal [hAdamCIdeal : Cert.AdamCIdeal.Facts] [hAdamCRefIdeal : Cert.AdamCRefIdeal.Facts] : Prop :=
  ∀ (m : (ℓ : Loc Cert.AdamCIdeal.nD Cert.AdamCIdeal.τ Cert.AdamCIdeal.sig) → Buf (Elt Ideal) ℓ) (g : Dev Cert.AdamCIdeal.nD → PrngReg)
    (m' : (ℓ : Loc Cert.AdamCRefIdeal.nD Cert.AdamCRefIdeal.τ Cert.AdamCRefIdeal.sig) → Buf (Elt Ideal) ℓ) (g' : Dev Cert.AdamCRefIdeal.nD → PrngReg), Pre_AdamCIdeal m →
    (∀ c : Dev Cert.AdamCIdeal.nD,
      m' ((c.tc : Thread Cert.AdamCRefIdeal.nD Cert.AdamCRefIdeal.τ).loc Cert.AdamCRefIdeal.main_arg0) = m ((c.tc : Thread Cert.AdamCIdeal.nD Cert.AdamCIdeal.τ).loc Cert.AdamCIdeal.main_arg0)
      ∧ m' ((c.tc : Thread Cert.AdamCRefIdeal.nD Cert.AdamCRefIdeal.τ).loc Cert.AdamCRefIdeal.main_arg1) = m ((c.tc : Thread Cert.AdamCIdeal.nD Cert.AdamCIdeal.τ).loc Cert.AdamCIdeal.main_arg1)
      ∧ m' ((c.tc : Thread Cert.AdamCRefIdeal.nD Cert.AdamCRefIdeal.τ).loc Cert.AdamCRefIdeal.main_arg2) = m ((c.tc : Thread Cert.AdamCIdeal.nD Cert.AdamCIdeal.τ).loc Cert.AdamCIdeal.main_arg2)
      ∧ m' ((c.tc : Thread Cert.AdamCRefIdeal.nD Cert.AdamCRefIdeal.τ).loc Cert.AdamCRefIdeal.main_arg3) = m ((c.tc : Thread Cert.AdamCIdeal.nD Cert.AdamCIdeal.τ).loc Cert.AdamCIdeal.main_arg3)
      ∧ m' ((c.tc : Thread Cert.AdamCRefIdeal.nD Cert.AdamCRefIdeal.τ).loc Cert.AdamCRefIdeal.main_arg4) = m ((c.tc : Thread Cert.AdamCIdeal.nD Cert.AdamCIdeal.τ).loc Cert.AdamCIdeal.main_arg4)
      ∧ m' ((c.tc : Thread Cert.AdamCRefIdeal.nD Cert.AdamCRefIdeal.τ).loc Cert.AdamCRefIdeal.main_arg5) = m ((c.tc : Thread Cert.AdamCIdeal.nD Cert.AdamCIdeal.τ).loc Cert.AdamCIdeal.main_arg5)
      ∧ m' ((c.tc : Thread Cert.AdamCRefIdeal.nD Cert.AdamCRefIdeal.τ).loc Cert.AdamCRefIdeal.main_arg6) = m ((c.tc : Thread Cert.AdamCIdeal.nD Cert.AdamCIdeal.τ).loc Cert.AdamCIdeal.main_arg6)
      ∧ m' ((c.tc : Thread Cert.AdamCRefIdeal.nD Cert.AdamCRefIdeal.τ).loc Cert.AdamCRefIdeal.main_arg7) = m ((c.tc : Thread Cert.AdamCIdeal.nD Cert.AdamCIdeal.τ).loc Cert.AdamCIdeal.main_arg7)
      ∧ m' ((c.tc : Thread Cert.AdamCRefIdeal.nD Cert.AdamCRefIdeal.τ).loc Cert.AdamCRefIdeal.main_arg8) = m ((c.tc : Thread Cert.AdamCIdeal.nD Cert.AdamCIdeal.τ).loc Cert.AdamCIdeal.main_arg8)
      ∧ m' ((c.tc : Thread Cert.AdamCRefIdeal.nD Cert.AdamCRefIdeal.τ).loc Cert.AdamCRefIdeal.main_arg9) = m ((c.tc : Thread Cert.AdamCIdeal.nD Cert.AdamCIdeal.τ).loc Cert.AdamCIdeal.main_arg9)
      ∧ m' ((c.tc : Thread Cert.AdamCRefIdeal.nD Cert.AdamCRefIdeal.τ).loc Cert.AdamCRefIdeal.main_arg10) = m ((c.tc : Thread Cert.AdamCIdeal.nD Cert.AdamCIdeal.τ).loc Cert.AdamCIdeal.main_arg10)
      ∧ m' ((c.tc : Thread Cert.AdamCRefIdeal.nD Cert.AdamCRefIdeal.τ).loc Cert.AdamCRefIdeal.main_arg11) = m ((c.tc : Thread Cert.AdamCIdeal.nD Cert.AdamCIdeal.τ).loc Cert.AdamCIdeal.main_arg11)
      ∧ m' ((c.tc : Thread Cert.AdamCRefIdeal.nD Cert.AdamCRefIdeal.τ).loc Cert.AdamCRefIdeal.main_arg12) = m ((c.tc : Thread Cert.AdamCIdeal.nD Cert.AdamCIdeal.τ).loc Cert.AdamCIdeal.main_arg12)
      ∧ m' ((c.tc : Thread Cert.AdamCRefIdeal.nD Cert.AdamCRefIdeal.τ).loc Cert.AdamCRefIdeal.main_arg13) = m ((c.tc : Thread Cert.AdamCIdeal.nD Cert.AdamCIdeal.τ).loc Cert.AdamCIdeal.main_arg13)
      ∧ m' ((c.tc : Thread Cert.AdamCRefIdeal.nD Cert.AdamCRefIdeal.τ).loc Cert.AdamCRefIdeal.main_arg14) = m ((c.tc : Thread Cert.AdamCIdeal.nD Cert.AdamCIdeal.τ).loc Cert.AdamCIdeal.main_arg14)
      ∧ m' ((c.tc : Thread Cert.AdamCRefIdeal.nD Cert.AdamCRefIdeal.τ).loc Cert.AdamCRefIdeal.main_arg15) = m ((c.tc : Thread Cert.AdamCIdeal.nD Cert.AdamCIdeal.τ).loc Cert.AdamCIdeal.main_arg15)) →
    ∃ (v0 : (c : Dev Cert.AdamCIdeal.nD) → Buf (Elt Ideal) ((c.tc : Thread Cert.AdamCIdeal.nD Cert.AdamCIdeal.τ).loc Cert.AdamCIdeal.main_v0_0)) (v1 : (c : Dev Cert.AdamCIdeal.nD) → Buf (Elt Ideal) ((c.tc : Thread Cert.AdamCIdeal.nD Cert.AdamCIdeal.τ).loc Cert.AdamCIdeal.main_v0_1)) (v2 : (c : Dev Cert.AdamCIdeal.nD) → Buf (Elt Ideal) ((c.tc : Thread Cert.AdamCIdeal.nD Cert.AdamCIdeal.τ).loc Cert.AdamCIdeal.main_v0_2)) (v3 : (c : Dev Cert.AdamCIdeal.nD) → Buf (Elt Ideal) ((c.tc : Thread Cert.AdamCIdeal.nD Cert.AdamCIdeal.τ).loc Cert.AdamCIdeal.main_v0_3)) (v4 : (c : Dev Cert.AdamCIdeal.nD) → Buf (Elt Ideal) ((c.tc : Thread Cert.AdamCIdeal.nD Cert.AdamCIdeal.τ).loc Cert.AdamCIdeal.main_v0_4)) (v5 : (c : Dev Cert.AdamCIdeal.nD) → Buf (Elt Ideal) ((c.tc : Thread Cert.AdamCIdeal.nD Cert.AdamCIdeal.τ).loc Cert.AdamCIdeal.main_v0_5)) (v6 : (c : Dev Cert.AdamCIdeal.nD) → Buf (Elt Ideal) ((c.tc : Thread Cert.AdamCIdeal.nD Cert.AdamCIdeal.τ).loc Cert.AdamCIdeal.main_v0_6)) (v7 : (c : Dev Cert.AdamCIdeal.nD) → Buf (Elt Ideal) ((c.tc : Thread Cert.AdamCIdeal.nD Cert.AdamCIdeal.τ).loc Cert.AdamCIdeal.main_v0_7)) (v8 : (c : Dev Cert.AdamCIdeal.nD) → Buf (Elt Ideal) ((c.tc : Thread Cert.AdamCIdeal.nD Cert.AdamCIdeal.τ).loc Cert.AdamCIdeal.main_v0_8)) (v9 : (c : Dev Cert.AdamCIdeal.nD) → Buf (Elt Ideal) ((c.tc : Thread Cert.AdamCIdeal.nD Cert.AdamCIdeal.τ).loc Cert.AdamCIdeal.main_v0_9)) (v10 : (c : Dev Cert.AdamCIdeal.nD) → Buf (Elt Ideal) ((c.tc : Thread Cert.AdamCIdeal.nD Cert.AdamCIdeal.τ).loc Cert.AdamCIdeal.main_v0_10)) (v11 : (c : Dev Cert.AdamCIdeal.nD) → Buf (Elt Ideal) ((c.tc : Thread Cert.AdamCIdeal.nD Cert.AdamCIdeal.τ).loc Cert.AdamCIdeal.main_v0_11)),
      θ_run (Cert.AdamCIdeal.defs (F := Ideal)) (onTc (τ := Cert.AdamCIdeal.τ) (Cert.AdamCIdeal.main (F := Ideal))) ⟨m, fun _ => 0, g⟩ (fun r => ∀ c : Dev Cert.AdamCIdeal.nD,
          r.2.mem ((c.tc : Thread Cert.AdamCIdeal.nD Cert.AdamCIdeal.τ).loc Cert.AdamCIdeal.main_v0_0) = v0 c
          ∧ r.2.mem ((c.tc : Thread Cert.AdamCIdeal.nD Cert.AdamCIdeal.τ).loc Cert.AdamCIdeal.main_v0_1) = v1 c
          ∧ r.2.mem ((c.tc : Thread Cert.AdamCIdeal.nD Cert.AdamCIdeal.τ).loc Cert.AdamCIdeal.main_v0_2) = v2 c
          ∧ r.2.mem ((c.tc : Thread Cert.AdamCIdeal.nD Cert.AdamCIdeal.τ).loc Cert.AdamCIdeal.main_v0_3) = v3 c
          ∧ r.2.mem ((c.tc : Thread Cert.AdamCIdeal.nD Cert.AdamCIdeal.τ).loc Cert.AdamCIdeal.main_v0_4) = v4 c
          ∧ r.2.mem ((c.tc : Thread Cert.AdamCIdeal.nD Cert.AdamCIdeal.τ).loc Cert.AdamCIdeal.main_v0_5) = v5 c
          ∧ r.2.mem ((c.tc : Thread Cert.AdamCIdeal.nD Cert.AdamCIdeal.τ).loc Cert.AdamCIdeal.main_v0_6) = v6 c
          ∧ r.2.mem ((c.tc : Thread Cert.AdamCIdeal.nD Cert.AdamCIdeal.τ).loc Cert.AdamCIdeal.main_v0_7) = v7 c
          ∧ r.2.mem ((c.tc : Thread Cert.AdamCIdeal.nD Cert.AdamCIdeal.τ).loc Cert.AdamCIdeal.main_v0_8) = v8 c
          ∧ r.2.mem ((c.tc : Thread Cert.AdamCIdeal.nD Cert.AdamCIdeal.τ).loc Cert.AdamCIdeal.main_v0_9) = v9 c
          ∧ r.2.mem ((c.tc : Thread Cert.AdamCIdeal.nD Cert.AdamCIdeal.τ).loc Cert.AdamCIdeal.main_v0_10) = v10 c
          ∧ r.2.mem ((c.tc : Thread Cert.AdamCIdeal.nD Cert.AdamCIdeal.τ).loc Cert.AdamCIdeal.main_v0_11) = v11 c
          ∧ r.2.mem ((c.tc : Thread Cert.AdamCIdeal.nD Cert.AdamCIdeal.τ).loc Cert.AdamCIdeal.main_arg0) = m ((c.tc : Thread Cert.AdamCIdeal.nD Cert.AdamCIdeal.τ).loc Cert.AdamCIdeal.main_arg0)
          ∧ r.2.mem ((c.tc : Thread Cert.AdamCIdeal.nD Cert.AdamCIdeal.τ).loc Cert.AdamCIdeal.main_arg1) = m ((c.tc : Thread Cert.AdamCIdeal.nD Cert.AdamCIdeal.τ).loc Cert.AdamCIdeal.main_arg1)
          ∧ r.2.mem ((c.tc : Thread Cert.AdamCIdeal.nD Cert.AdamCIdeal.τ).loc Cert.AdamCIdeal.main_arg2) = m ((c.tc : Thread Cert.AdamCIdeal.nD Cert.AdamCIdeal.τ).loc Cert.AdamCIdeal.main_arg2)
          ∧ r.2.mem ((c.tc : Thread Cert.AdamCIdeal.nD Cert.AdamCIdeal.τ).loc Cert.AdamCIdeal.main_arg3) = m ((c.tc : Thread Cert.AdamCIdeal.nD Cert.AdamCIdeal.τ).loc Cert.AdamCIdeal.main_arg3)
          ∧ r.2.mem ((c.tc : Thread Cert.AdamCIdeal.nD Cert.AdamCIdeal.τ).loc Cert.AdamCIdeal.main_arg4) = m ((c.tc : Thread Cert.AdamCIdeal.nD Cert.AdamCIdeal.τ).loc Cert.AdamCIdeal.main_arg4)
          ∧ r.2.mem ((c.tc : Thread Cert.AdamCIdeal.nD Cert.AdamCIdeal.τ).loc Cert.AdamCIdeal.main_arg5) = m ((c.tc : Thread Cert.AdamCIdeal.nD Cert.AdamCIdeal.τ).loc Cert.AdamCIdeal.main_arg5)
          ∧ r.2.mem ((c.tc : Thread Cert.AdamCIdeal.nD Cert.AdamCIdeal.τ).loc Cert.AdamCIdeal.main_arg6) = m ((c.tc : Thread Cert.AdamCIdeal.nD Cert.AdamCIdeal.τ).loc Cert.AdamCIdeal.main_arg6)
          ∧ r.2.mem ((c.tc : Thread Cert.AdamCIdeal.nD Cert.AdamCIdeal.τ).loc Cert.AdamCIdeal.main_arg7) = m ((c.tc : Thread Cert.AdamCIdeal.nD Cert.AdamCIdeal.τ).loc Cert.AdamCIdeal.main_arg7)
          ∧ r.2.mem ((c.tc : Thread Cert.AdamCIdeal.nD Cert.AdamCIdeal.τ).loc Cert.AdamCIdeal.main_arg8) = m ((c.tc : Thread Cert.AdamCIdeal.nD Cert.AdamCIdeal.τ).loc Cert.AdamCIdeal.main_arg8)
          ∧ r.2.mem ((c.tc : Thread Cert.AdamCIdeal.nD Cert.AdamCIdeal.τ).loc Cert.AdamCIdeal.main_arg9) = m ((c.tc : Thread Cert.AdamCIdeal.nD Cert.AdamCIdeal.τ).loc Cert.AdamCIdeal.main_arg9)
          ∧ r.2.mem ((c.tc : Thread Cert.AdamCIdeal.nD Cert.AdamCIdeal.τ).loc Cert.AdamCIdeal.main_arg10) = m ((c.tc : Thread Cert.AdamCIdeal.nD Cert.AdamCIdeal.τ).loc Cert.AdamCIdeal.main_arg10)
          ∧ r.2.mem ((c.tc : Thread Cert.AdamCIdeal.nD Cert.AdamCIdeal.τ).loc Cert.AdamCIdeal.main_arg11) = m ((c.tc : Thread Cert.AdamCIdeal.nD Cert.AdamCIdeal.τ).loc Cert.AdamCIdeal.main_arg11)
          ∧ r.2.mem ((c.tc : Thread Cert.AdamCIdeal.nD Cert.AdamCIdeal.τ).loc Cert.AdamCIdeal.main_arg12) = m ((c.tc : Thread Cert.AdamCIdeal.nD Cert.AdamCIdeal.τ).loc Cert.AdamCIdeal.main_arg12)
          ∧ r.2.mem ((c.tc : Thread Cert.AdamCIdeal.nD Cert.AdamCIdeal.τ).loc Cert.AdamCIdeal.main_arg13) = m ((c.tc : Thread Cert.AdamCIdeal.nD Cert.AdamCIdeal.τ).loc Cert.AdamCIdeal.main_arg13)
          ∧ r.2.mem ((c.tc : Thread Cert.AdamCIdeal.nD Cert.AdamCIdeal.τ).loc Cert.AdamCIdeal.main_arg14) = m ((c.tc : Thread Cert.AdamCIdeal.nD Cert.AdamCIdeal.τ).loc Cert.AdamCIdeal.main_arg14)
          ∧ r.2.mem ((c.tc : Thread Cert.AdamCIdeal.nD Cert.AdamCIdeal.τ).loc Cert.AdamCIdeal.main_arg15) = m ((c.tc : Thread Cert.AdamCIdeal.nD Cert.AdamCIdeal.τ).loc Cert.AdamCIdeal.main_arg15))
      ∧ θ_run (Cert.AdamCRefIdeal.defs (F := Ideal)) (onTc (τ := Cert.AdamCRefIdeal.τ) (Cert.AdamCRefIdeal.main (F := Ideal))) ⟨m', fun _ => 0, g'⟩ (fun r => ∀ c : Dev Cert.AdamCRefIdeal.nD,
          r.2.mem ((c.tc : Thread Cert.AdamCRefIdeal.nD Cert.AdamCRefIdeal.τ).loc Cert.AdamCRefIdeal.main_v23) = v0 c
          ∧ r.2.mem ((c.tc : Thread Cert.AdamCRefIdeal.nD Cert.AdamCRefIdeal.τ).loc Cert.AdamCRefIdeal.main_v47) = v1 c
          ∧ r.2.mem ((c.tc : Thread Cert.AdamCRefIdeal.nD Cert.AdamCRefIdeal.τ).loc Cert.AdamCRefIdeal.main_v71) = v2 c
          ∧ r.2.mem ((c.tc : Thread Cert.AdamCRefIdeal.nD Cert.AdamCRefIdeal.τ).loc Cert.AdamCRefIdeal.main_v95) = v3 c
          ∧ r.2.mem ((c.tc : Thread Cert.AdamCRefIdeal.nD Cert.AdamCRefIdeal.τ).loc Cert.AdamCRefIdeal.main_v4) = v4 c
          ∧ r.2.mem ((c.tc : Thread Cert.AdamCRefIdeal.nD Cert.AdamCRefIdeal.τ).loc Cert.AdamCRefIdeal.main_v28) = v5 c
          ∧ r.2.mem ((c.tc : Thread Cert.AdamCRefIdeal.nD Cert.AdamCRefIdeal.τ).loc Cert.AdamCRefIdeal.main_v52) = v6 c
          ∧ r.2.mem ((c.tc : Thread Cert.AdamCRefIdeal.nD Cert.AdamCRefIdeal.τ).loc Cert.AdamCRefIdeal.main_v76) = v7 c
          ∧ r.2.mem ((c.tc : Thread Cert.AdamCRefIdeal.nD Cert.AdamCRefIdeal.τ).loc Cert.AdamCRefIdeal.main_v10) = v8 c
          ∧ r.2.mem ((c.tc : Thread Cert.AdamCRefIdeal.nD Cert.AdamCRefIdeal.τ).loc Cert.AdamCRefIdeal.main_v34) = v9 c
          ∧ r.2.mem ((c.tc : Thread Cert.AdamCRefIdeal.nD Cert.AdamCRefIdeal.τ).loc Cert.AdamCRefIdeal.main_v58) = v10 c
          ∧ r.2.mem ((c.tc : Thread Cert.AdamCRefIdeal.nD Cert.AdamCRefIdeal.τ).loc Cert.AdamCRefIdeal.main_v82) = v11 c
          ∧ r.2.mem ((c.tc : Thread Cert.AdamCRefIdeal.nD Cert.AdamCRefIdeal.τ).loc Cert.AdamCRefIdeal.main_arg0) = m' ((c.tc : Thread Cert.AdamCRefIdeal.nD Cert.AdamCRefIdeal.τ).loc Cert.AdamCRefIdeal.main_arg0)
          ∧ r.2.mem ((c.tc : Thread Cert.AdamCRefIdeal.nD Cert.AdamCRefIdeal.τ).loc Cert.AdamCRefIdeal.main_arg1) = m' ((c.tc : Thread Cert.AdamCRefIdeal.nD Cert.AdamCRefIdeal.τ).loc Cert.AdamCRefIdeal.main_arg1)
          ∧ r.2.mem ((c.tc : Thread Cert.AdamCRefIdeal.nD Cert.AdamCRefIdeal.τ).loc Cert.AdamCRefIdeal.main_arg2) = m' ((c.tc : Thread Cert.AdamCRefIdeal.nD Cert.AdamCRefIdeal.τ).loc Cert.AdamCRefIdeal.main_arg2)
          ∧ r.2.mem ((c.tc : Thread Cert.AdamCRefIdeal.nD Cert.AdamCRefIdeal.τ).loc Cert.AdamCRefIdeal.main_arg3) = m' ((c.tc : Thread Cert.AdamCRefIdeal.nD Cert.AdamCRefIdeal.τ).loc Cert.AdamCRefIdeal.main_arg3)
          ∧ r.2.mem ((c.tc : Thread Cert.AdamCRefIdeal.nD Cert.AdamCRefIdeal.τ).loc Cert.AdamCRefIdeal.main_arg4) = m' ((c.tc : Thread Cert.AdamCRefIdeal.nD Cert.AdamCRefIdeal.τ).loc Cert.AdamCRefIdeal.main_arg4)
          ∧ r.2.mem ((c.tc : Thread Cert.AdamCRefIdeal.nD Cert.AdamCRefIdeal.τ).loc Cert.AdamCRefIdeal.main_arg5) = m' ((c.tc : Thread Cert.AdamCRefIdeal.nD Cert.AdamCRefIdeal.τ).loc Cert.AdamCRefIdeal.main_arg5)
          ∧ r.2.mem ((c.tc : Thread Cert.AdamCRefIdeal.nD Cert.AdamCRefIdeal.τ).loc Cert.AdamCRefIdeal.main_arg6) = m' ((c.tc : Thread Cert.AdamCRefIdeal.nD Cert.AdamCRefIdeal.τ).loc Cert.AdamCRefIdeal.main_arg6)
          ∧ r.2.mem ((c.tc : Thread Cert.AdamCRefIdeal.nD Cert.AdamCRefIdeal.τ).loc Cert.AdamCRefIdeal.main_arg7) = m' ((c.tc : Thread Cert.AdamCRefIdeal.nD Cert.AdamCRefIdeal.τ).loc Cert.AdamCRefIdeal.main_arg7)
          ∧ r.2.mem ((c.tc : Thread Cert.AdamCRefIdeal.nD Cert.AdamCRefIdeal.τ).loc Cert.AdamCRefIdeal.main_arg8) = m' ((c.tc : Thread Cert.AdamCRefIdeal.nD Cert.AdamCRefIdeal.τ).loc Cert.AdamCRefIdeal.main_arg8)
          ∧ r.2.mem ((c.tc : Thread Cert.AdamCRefIdeal.nD Cert.AdamCRefIdeal.τ).loc Cert.AdamCRefIdeal.main_arg9) = m' ((c.tc : Thread Cert.AdamCRefIdeal.nD Cert.AdamCRefIdeal.τ).loc Cert.AdamCRefIdeal.main_arg9)
          ∧ r.2.mem ((c.tc : Thread Cert.AdamCRefIdeal.nD Cert.AdamCRefIdeal.τ).loc Cert.AdamCRefIdeal.main_arg10) = m' ((c.tc : Thread Cert.AdamCRefIdeal.nD Cert.AdamCRefIdeal.τ).loc Cert.AdamCRefIdeal.main_arg10)
          ∧ r.2.mem ((c.tc : Thread Cert.AdamCRefIdeal.nD Cert.AdamCRefIdeal.τ).loc Cert.AdamCRefIdeal.main_arg11) = m' ((c.tc : Thread Cert.AdamCRefIdeal.nD Cert.AdamCRefIdeal.τ).loc Cert.AdamCRefIdeal.main_arg11)
          ∧ r.2.mem ((c.tc : Thread Cert.AdamCRefIdeal.nD Cert.AdamCRefIdeal.τ).loc Cert.AdamCRefIdeal.main_arg12) = m' ((c.tc : Thread Cert.AdamCRefIdeal.nD Cert.AdamCRefIdeal.τ).loc Cert.AdamCRefIdeal.main_arg12)
          ∧ r.2.mem ((c.tc : Thread Cert.AdamCRefIdeal.nD Cert.AdamCRefIdeal.τ).loc Cert.AdamCRefIdeal.main_arg13) = m' ((c.tc : Thread Cert.AdamCRefIdeal.nD Cert.AdamCRefIdeal.τ).loc Cert.AdamCRefIdeal.main_arg13)
          ∧ r.2.mem ((c.tc : Thread Cert.AdamCRefIdeal.nD Cert.AdamCRefIdeal.τ).loc Cert.AdamCRefIdeal.main_arg14) = m' ((c.tc : Thread Cert.AdamCRefIdeal.nD Cert.AdamCRefIdeal.τ).loc Cert.AdamCRefIdeal.main_arg14)
          ∧ r.2.mem ((c.tc : Thread Cert.AdamCRefIdeal.nD Cert.AdamCRefIdeal.τ).loc Cert.AdamCRefIdeal.main_arg15) = m' ((c.tc : Thread Cert.AdamCRefIdeal.nD Cert.AdamCRefIdeal.τ).loc Cert.AdamCRefIdeal.main_arg15))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v2)) (v1 : (c : Dev Cert.SumSmallIdeal.nD) → Buf (Elt Ideal) ((c.tc : Thread Cert.SumSmallIdeal.nD Cert.SumSmallIdeal.τ).loc Cert.SumSmallIdeal.main_v3)) (v2 : (c : Dev Cert.SumSmallIdeal.nD) → Buf (Elt Ideal) ((c.tc : Thread Cert.SumSmallIdeal.nD Cert.SumSmallIdeal.τ).loc Cert.SumSmallIdeal.main_v4)) (v3 : (c : Dev Cert.SumSmallIdeal.nD) → Buf (Elt Ideal) ((c.tc : Thread Cert.SumSmallIdeal.nD Cert.SumSmallIdeal.τ).loc Cert.SumSmallIdeal.main_v5)) (v4 : (c : Dev Cert.SumSmallIdeal.nD) → Buf (Elt Ideal) ((c.tc : Thread Cert.SumSmallIdeal.nD Cert.SumSmallIdeal.τ).loc Cert.SumSmallIdeal.main_v6)) (v5 : (c : Dev Cert.SumSmallIdeal.nD) → Buf (Elt Ideal) ((c.tc : Thread Cert.SumSmallIdeal.nD Cert.SumSmallIdeal.τ).loc Cert.SumSmallIdeal.main_v7)) (v6 : (c : Dev Cert.SumSmallIdeal.nD) → Buf (Elt Ideal) ((c.tc : Thread Cert.SumSmallIdeal.nD Cert.SumSmallIdeal.τ).loc Cert.SumSmallIdeal.main_v8)) (v7 : (c : Dev Cert.SumSmallIdeal.nD) → Buf (Elt Ideal) ((c.tc : Thread Cert.SumSmallIdeal.nD Cert.SumSmallIdeal.τ).loc Cert.SumSmallIdeal.main_v9)) (v8 : (c : Dev Cert.SumSmallIdeal.nD) → Buf (Elt Ideal) ((c.tc : Thread Cert.SumSmallIdeal.nD Cert.SumSmallIdeal.τ).loc Cert.SumSmallIdeal.main_v10)) (v9 : (c : Dev Cert.SumSmallIdeal.nD) → Buf (Elt Ideal) ((c.tc : Thread Cert.SumSmallIdeal.nD Cert.SumSmallIdeal.τ).loc Cert.SumSmallIdeal.main_v11)) (v10 : (c : Dev Cert.SumSmallIdeal.nD) → Buf (Elt Ideal) ((c.tc : Thread Cert.SumSmallIdeal.nD Cert.SumSmallIdeal.τ).loc Cert.SumSmallIdeal.main_v12)) (v11 : (c : Dev Cert.SumSmallIdeal.nD) → Buf (Elt Ideal) ((c.tc : Thread Cert.SumSmallIdeal.nD Cert.SumSmallIdeal.τ).loc Cert.SumSmallIdeal.main_v13)) (v12 : (c : Dev Cert.SumSmallIdeal.nD) → Buf (Elt Ideal) ((c.tc : Thread Cert.SumSmallIdeal.nD Cert.SumSmallIdeal.τ).loc Cert.SumSmallIdeal.main_v14)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v2) = v0 c
          ∧ r.2.mem ((c.tc : Thread Cert.SumSmallIdeal.nD Cert.SumSmallIdeal.τ).loc Cert.SumSmallIdeal.main_v3) = v1 c
          ∧ r.2.mem ((c.tc : Thread Cert.SumSmallIdeal.nD Cert.SumSmallIdeal.τ).loc Cert.SumSmallIdeal.main_v4) = v2 c
          ∧ r.2.mem ((c.tc : Thread Cert.SumSmallIdeal.nD Cert.SumSmallIdeal.τ).loc Cert.SumSmallIdeal.main_v5) = v3 c
          ∧ r.2.mem ((c.tc : Thread Cert.SumSmallIdeal.nD Cert.SumSmallIdeal.τ).loc Cert.SumSmallIdeal.main_v6) = v4 c
          ∧ r.2.mem ((c.tc : Thread Cert.SumSmallIdeal.nD Cert.SumSmallIdeal.τ).loc Cert.SumSmallIdeal.main_v7) = v5 c
          ∧ r.2.mem ((c.tc : Thread Cert.SumSmallIdeal.nD Cert.SumSmallIdeal.τ).loc Cert.SumSmallIdeal.main_v8) = v6 c
          ∧ r.2.mem ((c.tc : Thread Cert.SumSmallIdeal.nD Cert.SumSmallIdeal.τ).loc Cert.SumSmallIdeal.main_v9) = v7 c
          ∧ r.2.mem ((c.tc : Thread Cert.SumSmallIdeal.nD Cert.SumSmallIdeal.τ).loc Cert.SumSmallIdeal.main_v10) = v8 c
          ∧ r.2.mem ((c.tc : Thread Cert.SumSmallIdeal.nD Cert.SumSmallIdeal.τ).loc Cert.SumSmallIdeal.main_v11) = v9 c
          ∧ r.2.mem ((c.tc : Thread Cert.SumSmallIdeal.nD Cert.SumSmallIdeal.τ).loc Cert.SumSmallIdeal.main_v12) = v10 c
          ∧ r.2.mem ((c.tc : Thread Cert.SumSmallIdeal.nD Cert.SumSmallIdeal.τ).loc Cert.SumSmallIdeal.main_v13) = v11 c
          ∧ r.2.mem ((c.tc : Thread Cert.SumSmallIdeal.nD Cert.SumSmallIdeal.τ).loc Cert.SumSmallIdeal.main_v14) = v12 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v2) = v0 c
          ∧ r.2.mem ((c.tc : Thread Cert.SumSmallRefIdeal.nD Cert.SumSmallRefIdeal.τ).loc Cert.SumSmallRefIdeal.main_v3) = v1 c
          ∧ r.2.mem ((c.tc : Thread Cert.SumSmallRefIdeal.nD Cert.SumSmallRefIdeal.τ).loc Cert.SumSmallRefIdeal.main_v4) = v2 c
          ∧ r.2.mem ((c.tc : Thread Cert.SumSmallRefIdeal.nD Cert.SumSmallRefIdeal.τ).loc Cert.SumSmallRefIdeal.main_v5) = v3 c
          ∧ r.2.mem ((c.tc : Thread Cert.SumSmallRefIdeal.nD Cert.SumSmallRefIdeal.τ).loc Cert.SumSmallRefIdeal.main_v6) = v4 c
          ∧ r.2.mem ((c.tc : Thread Cert.SumSmallRefIdeal.nD Cert.SumSmallRefIdeal.τ).loc Cert.SumSmallRefIdeal.main_v7) = v5 c
          ∧ r.2.mem ((c.tc : Thread Cert.SumSmallRefIdeal.nD Cert.SumSmallRefIdeal.τ).loc Cert.SumSmallRefIdeal.main_v8) = v6 c
          ∧ r.2.mem ((c.tc : Thread Cert.SumSmallRefIdeal.nD Cert.SumSmallRefIdeal.τ).loc Cert.SumSmallRefIdeal.main_v9) = v7 c
          ∧ r.2.mem ((c.tc : Thread Cert.SumSmallRefIdeal.nD Cert.SumSmallRefIdeal.τ).loc Cert.SumSmallRefIdeal.main_v10) = v8 c
          ∧ r.2.mem ((c.tc : Thread Cert.SumSmallRefIdeal.nD Cert.SumSmallRefIdeal.τ).loc Cert.SumSmallRefIdeal.main_v11) = v9 c
          ∧ r.2.mem ((c.tc : Thread Cert.SumSmallRefIdeal.nD Cert.SumSmallRefIdeal.τ).loc Cert.SumSmallRefIdeal.main_v12) = v10 c
          ∧ r.2.mem ((c.tc : Thread Cert.SumSmallRefIdeal.nD Cert.SumSmallRefIdeal.τ).loc Cert.SumSmallRefIdeal.main_v13) = v11 c
          ∧ r.2.mem ((c.tc : Thread Cert.SumSmallRefIdeal.nD Cert.SumSmallRefIdeal.τ).loc Cert.SumSmallRefIdeal.main_v14) = v12 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def Claim : Prop :=
  ∃ (hKernel : Cert.Kernel.Facts) (hKernelIdeal : Cert.KernelIdeal.Facts) (hReferenceIdeal : Cert.ReferenceIdeal.Facts) (hBwdX : Cert.BwdX.Facts) (hBwdXIdeal : Cert.BwdXIdeal.Facts) (hBwdXRefIdeal : Cert.BwdXRefIdeal.Facts) (hConvBwd : Cert.ConvBwd.Facts) (hConvBwdIdeal : Cert.ConvBwdIdeal.Facts) (hConvBwdRefIdeal : Cert.ConvBwdRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamA : Cert.AdamA.Facts) (hAdamAIdeal : Cert.AdamAIdeal.Facts) (hAdamARefIdeal : Cert.AdamARefIdeal.Facts) (hAdamB : Cert.AdamB.Facts) (hAdamBIdeal : Cert.AdamBIdeal.Facts) (hAdamBRefIdeal : Cert.AdamBRefIdeal.Facts) (hAdamC : Cert.AdamC.Facts) (hAdamCIdeal : Cert.AdamCIdeal.Facts) (hAdamCRefIdeal : Cert.AdamCRefIdeal.Facts) (hSumSmall : Cert.SumSmall.Facts) (hSumSmallIdeal : Cert.SumSmallIdeal.Facts) (hSumSmallRefIdeal : Cert.SumSmallRefIdeal.Facts),
    quiescent_Kernel (hKernel := hKernel)
    ∧ quiescent_KernelIdeal (hKernelIdeal := hKernelIdeal)
    ∧ quiescent_ReferenceIdeal (hReferenceIdeal := hReferenceIdeal)
    ∧ quiescent_BwdX (hBwdX := hBwdX)
    ∧ quiescent_BwdXIdeal (hBwdXIdeal := hBwdXIdeal)
    ∧ quiescent_BwdXRefIdeal (hBwdXRefIdeal := hBwdXRefIdeal)
    ∧ quiescent_ConvBwd (hConvBwd := hConvBwd)
    ∧ quiescent_ConvBwdIdeal (hConvBwdIdeal := hConvBwdIdeal)
    ∧ quiescent_ConvBwdRefIdeal (hConvBwdRefIdeal := hConvBwdRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamA (hAdamA := hAdamA)
    ∧ quiescent_AdamAIdeal (hAdamAIdeal := hAdamAIdeal)
    ∧ quiescent_AdamARefIdeal (hAdamARefIdeal := hAdamARefIdeal)
    ∧ quiescent_AdamB (hAdamB := hAdamB)
    ∧ quiescent_AdamBIdeal (hAdamBIdeal := hAdamBIdeal)
    ∧ quiescent_AdamBRefIdeal (hAdamBRefIdeal := hAdamBRefIdeal)
    ∧ quiescent_AdamC (hAdamC := hAdamC)
    ∧ quiescent_AdamCIdeal (hAdamCIdeal := hAdamCIdeal)
    ∧ quiescent_AdamCRefIdeal (hAdamCRefIdeal := hAdamCRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ preserves_Kernel_KernelIdeal
    ∧ algebraic_KernelIdeal_ReferenceIdeal (hKernelIdeal := hKernelIdeal) (hReferenceIdeal := hReferenceIdeal)
    ∧ preserves_BwdX_BwdXIdeal
    ∧ algebraic_BwdXIdeal_BwdXRefIdeal (hBwdXIdeal := hBwdXIdeal) (hBwdXRefIdeal := hBwdXRefIdeal)
    ∧ preserves_ConvBwd_ConvBwdIdeal
    ∧ algebraic_ConvBwdIdeal_ConvBwdRefIdeal (hConvBwdIdeal := hConvBwdIdeal) (hConvBwdRefIdeal := hConvBwdRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamA_AdamAIdeal
    ∧ algebraic_AdamAIdeal_AdamARefIdeal (hAdamAIdeal := hAdamAIdeal) (hAdamARefIdeal := hAdamARefIdeal)
    ∧ preserves_AdamB_AdamBIdeal
    ∧ algebraic_AdamBIdeal_AdamBRefIdeal (hAdamBIdeal := hAdamBIdeal) (hAdamBRefIdeal := hAdamBRefIdeal)
    ∧ preserves_AdamC_AdamCIdeal
    ∧ algebraic_AdamCIdeal_AdamCRefIdeal (hAdamCIdeal := hAdamCIdeal) (hAdamCRefIdeal := hAdamCRefIdeal)
    ∧ preserves_SumSmall_SumSmallIdeal
    ∧ algebraic_SumSmallIdeal_SumSmallRefIdeal (hSumSmallIdeal := hSumSmallIdeal) (hSumSmallRefIdeal := hSumSmallRefIdeal)
-- ==== Kernel.lean ====
abbrev S8192x1024 : Shape := ⟨2, ![8192, 1024]⟩
abbrev S2048x1024 : Shape := ⟨2, ![2048, 1024]⟩
abbrev S1x1024 : Shape := ⟨2, ![1, 1024]⟩
abbrev S8x128 : Shape := ⟨2, ![8, 128]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 12
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S2048x1024, .bf16⟩
  | .hbm, ⟨4, _⟩ => ⟨S1x1024, .f32⟩
  | .hbm, ⟨5, _⟩ => ⟨S8192x1024, .f32⟩
  | .hbm, ⟨6, _⟩ => ⟨S8x128, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S2048x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x128, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S2048x1024, .f32⟩
  | .local _ .vmem, ⟨18, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v65 : BitVec 1 := Scalar.cmpi .eq arg0 c0_i32
  let v68 : BitVec 32 := Scalar.extui v65
  let c0_i32_34 : BitVec 32 := 0#32
  let v69 : BitVec 1 := Scalar.cmpi .ne v68 c0_i32_34
  v69

def k0_cond2 (i : grid0.Coords) : BitVec 1 :=
  let arg0 : BitVec 32 := BitVec.ofNat 32 (i 0).val
  let c0_i32 : BitVec 32 := 0#32
  let v65 : BitVec 1 := Scalar.cmpi .eq arg0 c0_i32
  let v_true : BitVec 1 := 1#1
  let v70 : BitVec 1 := Scalar.xori v65 v_true
  let v71 : BitVec 32 := Scalar.extui v70
  let c0_i32_35 : BitVec 32 := 0#32
  let v72 : BitVec 1 := Scalar.cmpi .ne v71 c0_i32_35
  v72

def k0_cond5 (i : grid0.Coords) : BitVec 1 :=
  let arg0 : BitVec 32 := BitVec.ofNat 32 (i 0).val
  let c0_i32 : BitVec 32 := 0#32
  let v65 : BitVec 1 := Scalar.cmpi .eq arg0 c0_i32
  let v78 : BitVec 32 := Scalar.extui v65
  let c0_i32_39 : BitVec 32 := 0#32
  let v79 : BitVec 1 := Scalar.cmpi .ne v78 c0_i32_39
  v79

def k0_cond6 (i : grid0.Coords) : BitVec 1 :=
  let arg0 : BitVec 32 := BitVec.ofNat 32 (i 0).val
  let c0_i32_40 : BitVec 32 := 0#32
  let v80 : BitVec 1 := Scalar.cmpi .sgt arg0 c0_i32_40
  let v81 : BitVec 32 := Scalar.extui v80
  let c0_i32_41 : BitVec 32 := 0#32
  let v82 : BitVec 1 := Scalar.cmpi .ne v81 c0_i32_41
  v82

def k0_cond3 (i : grid0.Coords) : BitVec 1 :=
  let arg0 : BitVec 32 := BitVec.ofNat 32 (i 0).val
  let c0_i32 : BitVec 32 := 0#32
  let v65 : BitVec 1 := Scalar.cmpi .eq arg0 c0_i32
  let v73 : BitVec 32 := Scalar.extui v65
  let c0_i32_36 : BitVec 32 := 0#32
  let v74 : BitVec 1 := Scalar.cmpi .ne v73 c0_i32_36
  v74

def k0_cond4 (i : grid0.Coords) : BitVec 1 :=
  let arg0 : BitVec 32 := BitVec.ofNat 32 (i 0).val
  let c0_i32 : BitVec 32 := 0#32
  let v65 : BitVec 1 := Scalar.cmpi .eq arg0 c0_i32
  let true_37 : BitVec 1 := 1#1
  let v75 : BitVec 1 := Scalar.xori v65 true_37
  let v76 : BitVec 32 := Scalar.extui v75
  let c0_i32_38 : BitVec 32 := 0#32
  let v77 : BitVec 1 := Scalar.cmpi .ne v76 c0_i32_38
  v77

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2048x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S8192x1024 : Shape := ⟨2, ![8192, 1024]⟩
abbrev S2048x1024 : Shape := ⟨2, ![2048, 1024]⟩
abbrev S1x1024 : Shape := ⟨2, ![1, 1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1024x2048 : Shape := ⟨2, ![1024, 2048]⟩
abbrev S8x128 : Shape := ⟨2, ![8, 128]⟩

abbrev nBuf : Space → Nat
  | .hbm => 83
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S2048x1024, .bf16⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S2048x1024, .f32⟩
  | .hbm, ⟨9, _⟩ => ⟨S8192x2048, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S1024x2048, .f32⟩
  | .hbm, ⟨78, _⟩ => ⟨S2048x1024, .f32⟩
  | .hbm, ⟨79, _⟩ => ⟨S8192x2048, .f32⟩
  | .hbm, ⟨80, _⟩ => ⟨S8192x1024, .f32⟩
  | .hbm, ⟨81, _⟩ => ⟨S8192x1024, .f32⟩
  | .hbm, ⟨82, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_cst_8 : Ref sig .tc := ⟨.hbm, 45, rfl⟩
abbrev main_cst_9 : Ref sig .tc := ⟨.hbm, 46, rfl⟩
abbrev main_v30 : Ref sig .tc := ⟨.hbm, 47, rfl⟩
abbrev main_v31 : Ref sig .tc := ⟨.hbm, 48, rfl⟩
abbrev main_cst_10 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_11 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_13 : Ref sig .tc := ⟨.hbm, 67, rfl⟩
abbrev main_v47 : Ref sig .tc := ⟨.hbm, 68, rfl⟩
abbrev main_v48 : Ref sig .tc := ⟨.hbm, 69, rfl⟩
abbrev main_cst_14 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]
-- ==== BwdX.lean ====
abbrev S8192x1024 : Shape := ⟨2, ![8192, 1024]⟩
abbrev S1x1024 : Shape := ⟨2, ![1, 1024]⟩
abbrev S1024x6688 : Shape := ⟨2, ![1024, 6688]⟩
abbrev S8192x2048 : Shape := ⟨2, ![8192, 2048]⟩
abbrev S8192x4608 : Shape := ⟨2, ![8192, 4608]⟩
abbrev S8192x128 : Shape := ⟨2, ![8192, 128]⟩
abbrev S1024x1024 : Shape := ⟨2, ![1024, 1024]⟩
abbrev S1024x3072 : Shape := ⟨2, ![1024, 3072]⟩
abbrev S1024x1536 : Shape := ⟨2, ![1024, 1536]⟩
abbrev S1024x6656 : Shape := ⟨2, ![1024, 6656]⟩
abbrev S1024x16 : Shape := ⟨2, ![1024, 16]⟩
abbrev S_ : Shape := ⟨0, ![]⟩
abbrev S1024x96 : Shape := ⟨2, ![1024, 96]⟩
abbrev S1024x128 : Shape := ⟨2, ![1024, 128]⟩
abbrev S256x1024 : Shape := ⟨2, ![256, 1024]⟩
abbrev S256x2048 : Shape := ⟨2, ![256, 2048]⟩
abbrev S256x4608 : Shape := ⟨2, ![256, 4608]⟩
abbrev S256x128 : Shape := ⟨2, ![256, 128]⟩
abbrev S1024x2048 : Shape := ⟨2, ![1024, 2048]⟩
abbrev S1024x4608 : Shape := ⟨2, ![1024, 4608]⟩
abbrev S256 : Shape := ⟨1, ![256]⟩
abbrev S256x1 : Shape := ⟨2, ![256, 1]⟩
abbrev S1024 : Shape := ⟨1, ![1024]⟩

abbrev nBuf : Space → Nat
  | .hbm => 20
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x6688, .bf16⟩
  | .hbm, ⟨3, _⟩ => ⟨S8192x2048, .bf16⟩
  | .hbm, ⟨4, _⟩ => ⟨S8192x4608, .bf16⟩
  | .hbm, ⟨5, _⟩ => ⟨S8192x128, .f32⟩
  | .hbm, ⟨6, _⟩ => ⟨S8192x128, .f32⟩
  | .hbm, ⟨7, _⟩ => ⟨S8192x1024, .f32⟩
  | .hbm, ⟨8, _⟩ => ⟨S1024x1024, .bf16⟩
  | .hbm, ⟨9, _⟩ => ⟨S1024x1024, .bf16⟩
  | .hbm, ⟨10, _⟩ => ⟨S1024x3072, .bf16⟩
  | .hbm, ⟨11, _⟩ => ⟨S1024x1536, .bf16⟩
  | .hbm, ⟨12, _⟩ => ⟨S1024x6656, .bf16⟩
  | .hbm, ⟨13, _⟩ => ⟨S1024x16, .bf16⟩
  | .hbm, ⟨14, _⟩ => ⟨S1024x16, .bf16⟩
  | .hbm, ⟨15, _⟩ => ⟨S_, .bf16⟩
  | .hbm, ⟨16, _⟩ => ⟨S1024x96, .bf16⟩
  | .hbm, ⟨17, _⟩ => ⟨S1024x128, .bf16⟩
  | .hbm, ⟨18, _⟩ => ⟨S8192x1024, .f32⟩
  | .hbm, ⟨19, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6656, .bf16⟩
  | .local _ .vmem, ⟨4, _⟩ => ⟨S1024x128, .bf16⟩
  | .local _ .vmem, ⟨5, _⟩ => ⟨S256x2048, .bf16⟩
  | .local _ .vmem, ⟨6, _⟩ => ⟨S256x2048, .bf16⟩
  | .local _ .vmem, ⟨7, _⟩ => ⟨S256x4608, .bf16⟩
  | .local _ .vmem, ⟨8, _⟩ => ⟨S256x4608, .bf16⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v55 : BitVec 1 := Scalar.cmpi .eq arg0 c0_i32
  let v56 : BitVec 32 := Scalar.extui v55
  let c0_i32_30 : BitVec 32 := 0#32
  let v57 : BitVec 1 := Scalar.cmpi .ne v56 c0_i32_30
  v57

def k0_cond2 (i : grid0.Coords) : BitVec 1 :=
  let arg0 : BitVec 32 := BitVec.ofNat 32 (i 0).val
  let c0_i32 : BitVec 32 := 0#32
  let v55 : BitVec 1 := Scalar.cmpi .eq arg0 c0_i32
  let v_true : BitVec 1 := 1#1
  let v58 : BitVec 1 := Scalar.xori v55 v_true
  let v59 : BitVec 32 := Scalar.extui v58
  let c0_i32_31 : BitVec 32 := 0#32
  let v60 : BitVec 1 := Scalar.cmpi .ne v59 c0_i32_31
  v60

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6656 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4608 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== BwdXRefIdeal.lean ====
abbrev S8192x1024 : Shape := ⟨2, ![8192, 1024]⟩
abbrev S1x1024 : Shape := ⟨2, ![1, 1024]⟩
abbrev S1024x6688 : Shape := ⟨2, ![1024, 6688]⟩
abbrev S8192x2048 : Shape := ⟨2, ![8192, 2048]⟩
abbrev S8192x4608 : Shape := ⟨2, ![8192, 4608]⟩
abbrev S8192x128 : Shape := ⟨2, ![8192, 128]⟩
abbrev S8192x1536 : Shape := ⟨2, ![8192, 1536]⟩
abbrev S8192x16 : Shape := ⟨2, ![8192, 16]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S8192x6688 : Shape := ⟨2, ![8192, 6688]⟩
abbrev S1024 : Shape := ⟨1, ![1024]⟩

abbrev nBuf : Space → Nat
  | .hbm => 70
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x6688, .bf16⟩
  | .hbm, ⟨3, _⟩ => ⟨S8192x2048, .bf16⟩
  | .hbm, ⟨4, _⟩ => ⟨S8192x4608, .bf16⟩
  | .hbm, ⟨5, _⟩ => ⟨S8192x128, .f32⟩
  | .hbm, ⟨6, _⟩ => ⟨S8192x128, .f32⟩
  | .hbm, ⟨7, _⟩ => ⟨S8192x1024, .f32⟩
  | .hbm, ⟨8, _⟩ => ⟨S1024x6688, .f32⟩
  | .hbm, ⟨9, _⟩ => ⟨S8192x2048, .f32⟩
  | .hbm, ⟨10, _⟩ => ⟨S8192x4608, .f32⟩
  | .hbm, ⟨11, _⟩ => ⟨S8192x128, .f32⟩
  | .hbm, ⟨12, _⟩ => ⟨S8192x1024, .f32⟩
  | .hbm, ⟨13, _⟩ => ⟨S8192x1536, .f32⟩
  | .hbm, ⟨14, _⟩ => ⟨S8192x16, .f32⟩
  | .hbm, ⟨15, _⟩ => ⟨S8192x1024, .f32⟩
  | .hbm, ⟨16, _⟩ => ⟨S8192x3072, .f32⟩
  | .hbm, ⟨17, _⟩ => ⟨S8192x16, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x6688, .f32⟩
  | .hbm, ⟨38, _⟩ => ⟨S8192x1024, .f32⟩
  | .hbm, ⟨39, _⟩ => ⟨S8192x1536, .f32⟩
  | .hbm, ⟨40, _⟩ => ⟨S8192x16, .f32⟩
  | .hbm, ⟨41, _⟩ => ⟨S8192x1024, .f32⟩
  | .hbm, ⟨42, _⟩ => ⟨S8192x3072, .f32⟩
  | .hbm, ⟨43, _⟩ => ⟨S8192x16, .f32⟩
  | .hbm, ⟨44, _⟩ => ⟨S8192x6688, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩

abbrev nD : Nat := 1
abbrev τ : Topo := Topo.v7x

variable {F : FTy → Type} [FloatOps F]
-- ==== ConvBwd.lean ====
abbrev S8192x1024 : Shape := ⟨2, ![8192, 1024]⟩
abbrev S8192x4608 : Shape := ⟨2, ![8192, 4608]⟩
abbrev S4x4608 : Shape := ⟨2, ![4, 4608]⟩
abbrev S_ : Shape := ⟨0, ![]⟩
abbrev S1024x4608 : Shape := ⟨2, ![1024, 4608]⟩
abbrev S8x4608 : Shape := ⟨2, ![8, 4608]⟩
abbrev S1024x1024 : Shape := ⟨2, ![1024, 1024]⟩
abbrev S1024x1536 : Shape := ⟨2, ![1024, 1536]⟩
abbrev S16x1536 : Shape := ⟨2, ![16, 1536]⟩
abbrev S4x1536 : Shape := ⟨2, ![4, 1536]⟩
abbrev S8x1536 : Shape := ⟨2, ![8, 1536]⟩
abbrev S8x512 : Shape := ⟨2, ![8, 512]⟩
abbrev S1024x512 : Shape := ⟨2, ![1024, 512]⟩
abbrev S16x512 : Shape := ⟨2, ![16, 512]⟩
abbrev S1016x512 : Shape := ⟨2, ![1016, 512]⟩
abbrev S1x512 : Shape := ⟨2, ![1, 512]⟩
abbrev S512 : Shape := ⟨1, ![512]⟩

abbrev nBuf : Space → Nat
  | .hbm => 25
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S8192x4608, .bf16⟩
  | .hbm, ⟨2, _⟩ => ⟨S4x4608, .f32⟩
  | .hbm, ⟨3, _⟩ => ⟨S8192x4608, .f32⟩
  | .hbm, ⟨4, _⟩ => ⟨S8192x4608, .bf16⟩
  | .hbm, ⟨5, _⟩ => ⟨S8192x4608, .f32⟩
  | .hbm, ⟨6, _⟩ => ⟨S8192x4608, .f32⟩
  | .hbm, ⟨7, _⟩ => ⟨S_, .f32⟩
  | .hbm, ⟨8, _⟩ => ⟨S8192x4608, .f32⟩
  | .hbm, ⟨9, _⟩ => ⟨S8192x4608, .f32⟩
  | .hbm, ⟨10, _⟩ => ⟨S_, .f32⟩
  | .hbm, ⟨11, _⟩ => ⟨S8192x4608, .f32⟩
  | .hbm, ⟨12, _⟩ => ⟨S8192x4608, .f32⟩
  | .hbm, ⟨13, _⟩ => ⟨S_, .f32⟩
  | .hbm, ⟨14, _⟩ => ⟨S8192x4608, .f32⟩
  | .hbm, ⟨15, _⟩ => ⟨S8192x4608, .f32⟩
  | .hbm, ⟨16, _⟩ => ⟨S8192x4608, .f32⟩
  | .hbm, ⟨17, _⟩ => ⟨S_, .f32⟩
  | .hbm, ⟨18, _⟩ => ⟨S8192x4608, .f32⟩
  | .hbm, ⟨19, _⟩ => ⟨S8192x4608, .f32⟩
  | .hbm, ⟨20, _⟩ => ⟨S8192x4608, .f32⟩
  | .hbm, ⟨21, _⟩ => ⟨S8192x4608, .bf16⟩
  | .hbm, ⟨22, _⟩ => ⟨S8192x4608, .bf16⟩
  | .hbm, ⟨23, _⟩ => ⟨S1024x4608, .f32⟩
  | .hbm, ⟨24, _⟩ => ⟨S8x4608, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | .local _ .vmem, ⟨6, _⟩ => ⟨S16x1536, .bf16⟩
  | .local _ .vmem, ⟨7, _⟩ => ⟨S16x1536, .bf16⟩
  | .local _ .vmem, ⟨8, _⟩ => ⟨S4x1536, .f32⟩
  | .local _ .vmem, ⟨9, _⟩ => ⟨S4x1536, .f32⟩
  | .local _ .vmem, ⟨10, _⟩ => ⟨S1024x1536, .bf16⟩
  | .local _ .vmem, ⟨11, _⟩ => ⟨S1024x1536, .bf16⟩
  | .local _ .vmem, ⟨12, _⟩ => ⟨S16x1536, .bf16⟩
  | .local _ .vmem, ⟨13, _⟩ => ⟨S16x1536, .bf16⟩
  | .local _ .vmem, ⟨14, _⟩ => ⟨S1024x1536, .bf16⟩
  | .local _ .vmem, ⟨15, _⟩ => ⟨S1024x1536, .bf16⟩
  | .local _ .vmem, ⟨16, _⟩ => ⟨S1024x1536, .f32⟩
  | .local _ .vmem, ⟨17, _⟩ => ⟨S1024x1536, .f32⟩
  | .local _ .vmem, ⟨18, _⟩ => ⟨S8x1536, .f32⟩
  | .local _ .vmem, ⟨19, _⟩ => ⟨S8x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ConvBwdRefIdeal.lean ====
abbrev S8192x1024 : Shape := ⟨2, ![8192, 1024]⟩
abbrev S8192x4608 : Shape := ⟨2, ![8192, 4608]⟩
abbrev S4x4608 : Shape := ⟨2, ![4, 4608]⟩
abbrev S_ : Shape := ⟨0, ![]⟩
abbrev S1x4608 : Shape := ⟨2, ![1, 4608]⟩
abbrev S3x4608 : Shape := ⟨2, ![3, 4608]⟩
abbrev S8189x4608 : Shape := ⟨2, ![8189, 4608]⟩
abbrev S2x4608 : Shape := ⟨2, ![2, 4608]⟩
abbrev S8190x4608 : Shape := ⟨2, ![8190, 4608]⟩
abbrev S8191x4608 : Shape := ⟨2, ![8191, 4608]⟩
abbrev S4608 : Shape := ⟨1, ![4608]⟩
abbrev S1024x4608 : Shape := ⟨2, ![1024, 4608]⟩
abbrev S4608x1024 : Shape := ⟨2, ![4608, 1024]⟩
abbrev S8x4608 : Shape := ⟨2, ![8, 4608]⟩

abbrev nBuf : Space → Nat
  | .hbm => 127
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4608, .bf16⟩
  | .hbm, ⟨2, _⟩ => ⟨S4x4608, .f32⟩
  | .hbm, ⟨3, _⟩ => ⟨S8192x4608, .f32⟩
  | .hbm, ⟨4, _⟩ => ⟨S8192x4608, .bf16⟩
  | .hbm, ⟨5, _⟩ => ⟨S8192x4608, .f32⟩
  | .hbm, ⟨6, _⟩ => ⟨S_, .f32⟩
  | .hbm, ⟨7, _⟩ => ⟨S1x4608, .f32⟩
  | .hbm, ⟨8, _⟩ => ⟨S_, .f32⟩
  | .hbm, ⟨9, _⟩ => ⟨S3x4608, .f32⟩
  | .hbm, ⟨10, _⟩ => ⟨S8189x4608, .f32⟩
  | .hbm, ⟨11, _⟩ => ⟨S8192x4608, .f32⟩
  | .hbm, ⟨12, _⟩ => ⟨S_, .f32⟩
  | .hbm, ⟨13, _⟩ => ⟨S3x4608, .f32⟩
  | .hbm, ⟨14, _⟩ => ⟨S1x4608, .f32⟩
  | .hbm, ⟨15, _⟩ => ⟨S8192x4608, .f32⟩
  | .hbm, ⟨16, _⟩ => ⟨S8192x4608, .f32⟩
  | .hbm, ⟨17, _⟩ => ⟨S_, .f32⟩
  | .hbm, ⟨18, _⟩ => ⟨S2x4608, .f32⟩
  | .hbm, ⟨19, _⟩ => ⟨S8190x4608, .f32⟩
  | .hbm, ⟨20, _⟩ => ⟨S8192x4608, .f32⟩
  | .hbm, ⟨21, _⟩ => ⟨S_, .f32⟩
  | .hbm, ⟨22, _⟩ => ⟨S2x4608, .f32⟩
  | .hbm, ⟨23, _⟩ => ⟨S1x4608, .f32⟩
  | .hbm, ⟨24, _⟩ => ⟨S8192x4608, .f32⟩
  | .hbm, ⟨25, _⟩ => ⟨S8192x4608, .f32⟩
  | .hbm, ⟨26, _⟩ => ⟨S8192x4608, .f32⟩
  | .hbm, ⟨27, _⟩ => ⟨S_, .f32⟩
  | .hbm, ⟨28, _⟩ => ⟨S1x4608, .f32⟩
  | .hbm, ⟨29, _⟩ => ⟨S8191x4608, .f32⟩
  | .hbm, ⟨30, _⟩ => ⟨S8192x4608, .f32⟩
  | .hbm, ⟨31, _⟩ => ⟨S_, .f32⟩
  | .hbm, ⟨32, _⟩ => ⟨S1x4608, .f32⟩
  | .hbm, ⟨33, _⟩ => ⟨S1x4608, .f32⟩
  | .hbm, ⟨34, _⟩ => ⟨S8192x4608, .f32⟩
  | .hbm, ⟨35, _⟩ => ⟨S8192x4608, .f32⟩
  | .hbm, ⟨36, _⟩ => ⟨S8192x4608, .f32⟩
  | .hbm, ⟨37, _⟩ => ⟨S1x4608, .f32⟩
  | .hbm, ⟨38, _⟩ => ⟨S8192x4608, .f32⟩
  | .hbm, ⟨39, _⟩ => ⟨S8192x4608, .f32⟩
  | .hbm, ⟨40, _⟩ => ⟨S8192x4608, .f32⟩
  | .hbm, ⟨41, _⟩ => ⟨S8192x4608, .f32⟩
  | .hbm, ⟨42, _⟩ => ⟨S8192x4608, .f32⟩
  | .hbm, ⟨43, _⟩ => ⟨S8192x4608, .f32⟩
  | .hbm, ⟨44, _⟩ => ⟨S8192x4608, .f32⟩
  | .hbm, ⟨45, _⟩ => ⟨S_, .f32⟩
  | .hbm, ⟨46, _⟩ => ⟨S8192x4608, .f32⟩
  | .hbm, ⟨47, _⟩ => ⟨S8192x4608, .f32⟩
  | .hbm, ⟨48, _⟩ => ⟨S_, .f32⟩
  | .hbm, ⟨49, _⟩ => ⟨S8192x4608, .f32⟩
  | .hbm, ⟨50, _⟩ => ⟨S8192x4608, .f32⟩
  | .hbm, ⟨51, _⟩ => ⟨S_, .f32⟩
  | .hbm, ⟨52, _⟩ => ⟨S8192x4608, .f32⟩
  | .hbm, ⟨53, _⟩ => ⟨S8192x4608, .f32⟩
  | .hbm, ⟨54, _⟩ => ⟨S8192x4608, .f32⟩
  | .hbm, ⟨55, _⟩ => ⟨S8192x4608, .f32⟩
  | .hbm, ⟨56, _⟩ => ⟨S8192x4608, .f32⟩
  | .hbm, ⟨57, _⟩ => ⟨S_, .f32⟩
  | .hbm, ⟨58, _⟩ => ⟨S8192x4608, .f32⟩
  | .hbm, ⟨59, _⟩ => ⟨S8192x4608, .f32⟩
  | .hbm, ⟨60, _⟩ => ⟨S8192x4608, .f32⟩
  | .hbm, ⟨61, _⟩ => ⟨S8192x4608, .f32⟩
  | .hbm, ⟨62, _⟩ => ⟨S8192x4608, .f32⟩
  | .hbm, ⟨63, _⟩ => ⟨S8192x4608, .f32⟩
  | .hbm, ⟨64, _⟩ => ⟨S_, .f32⟩
  | .hbm, ⟨65, _⟩ => ⟨S4608, .f32⟩
  | .hbm, ⟨66, _⟩ => ⟨S1x4608, .f32⟩
  | .hbm, ⟨67, _⟩ => ⟨S8192x4608, .f32⟩
  | .hbm, ⟨68, _⟩ => ⟨S_, .f32⟩
  | .hbm, ⟨69, _⟩ => ⟨S4608, .f32⟩
  | .hbm, ⟨70, _⟩ => ⟨S1x4608, .f32⟩
  | .hbm, ⟨71, _⟩ => ⟨S8192x4608, .f32⟩
  | .hbm, ⟨72, _⟩ => ⟨S8192x4608, .f32⟩
  | .hbm, ⟨73, _⟩ => ⟨S_, .f32⟩
  | .hbm, ⟨74, _⟩ => ⟨S4x4608, .f32⟩
  | .hbm, ⟨75, _⟩ => ⟨S8192x4608, .f32⟩
  | .hbm, ⟨76, _⟩ => ⟨S_, .f32⟩
  | .hbm, ⟨77, _⟩ => ⟨S4608, .f32⟩
  | .hbm, ⟨78, _⟩ => ⟨S1x4608, .f32⟩
  | .hbm, ⟨79, _⟩ => ⟨S8192x4608, .f32⟩
  | .hbm, ⟨80, _⟩ => ⟨S8192x4608, .f32⟩
  | .hbm, ⟨81, _⟩ => ⟨S_, .f32⟩
  | .hbm, ⟨82, _⟩ => ⟨S4x4608, .f32⟩
  | .hbm, ⟨83, _⟩ => ⟨S4x4608, .f32⟩
  | .hbm, ⟨84, _⟩ => ⟨S1x4608, .f32⟩
  | .hbm, ⟨85, _⟩ => ⟨S8191x4608, .f32⟩
  | .hbm, ⟨86, _⟩ => ⟨S_, .f32⟩
  | .hbm, ⟨87, _⟩ => ⟨S8192x4608, .f32⟩
  | .hbm, ⟨88, _⟩ => ⟨S8192x4608, .f32⟩
  | .hbm, ⟨89, _⟩ => ⟨S8192x4608, .f32⟩
  | .hbm, ⟨90, _⟩ => ⟨S_, .f32⟩
  | .hbm, ⟨91, _⟩ => ⟨S4608, .f32⟩
  | .hbm, ⟨92, _⟩ => ⟨S1x4608, .f32⟩
  | .hbm, ⟨93, _⟩ => ⟨S8192x4608, .f32⟩
  | .hbm, ⟨94, _⟩ => ⟨S8192x4608, .f32⟩
  | .hbm, ⟨95, _⟩ => ⟨S_, .f32⟩
  | .hbm, ⟨96, _⟩ => ⟨S4x4608, .f32⟩
  | .hbm, ⟨97, _⟩ => ⟨S4x4608, .f32⟩
  | .hbm, ⟨98, _⟩ => ⟨S2x4608, .f32⟩
  | .hbm, ⟨99, _⟩ => ⟨S8190x4608, .f32⟩
  | .hbm, ⟨100, _⟩ => ⟨S_, .f32⟩
  | .hbm, ⟨101, _⟩ => ⟨S8192x4608, .f32⟩
  | .hbm, ⟨102, _⟩ => ⟨S8192x4608, .f32⟩
  | .hbm, ⟨103, _⟩ => ⟨S8192x4608, .f32⟩
  | .hbm, ⟨104, _⟩ => ⟨S_, .f32⟩
  | .hbm, ⟨105, _⟩ => ⟨S4608, .f32⟩
  | .hbm, ⟨106, _⟩ => ⟨S1x4608, .f32⟩
  | .hbm, ⟨107, _⟩ => ⟨S8192x4608, .f32⟩
  | .hbm, ⟨108, _⟩ => ⟨S8192x4608, .f32⟩
  | .hbm, ⟨109, _⟩ => ⟨S_, .f32⟩
  | .hbm, ⟨110, _⟩ => ⟨S4x4608, .f32⟩
  | .hbm, ⟨111, _⟩ => ⟨S4x4608, .f32⟩
  | .hbm, ⟨112, _⟩ => ⟨S3x4608, .f32⟩
  | .hbm, ⟨113, _⟩ => ⟨S8189x4608, .f32⟩
  | .hbm, ⟨114, _⟩ => ⟨S_, .f32⟩
  | .hbm, ⟨115, _⟩ => ⟨S8192x4608, .f32⟩
  | .hbm, ⟨116, _⟩ => ⟨S8192x4608, .f32⟩
  | .hbm, ⟨117, _⟩ => ⟨S_, .f32⟩
  | .hbm, ⟨118, _⟩ => ⟨S1024x4608, .f32⟩
  | .hbm, ⟨119, _⟩ => ⟨S8192x1024, .f32⟩
  | .hbm, ⟨120, _⟩ => ⟨S8192x4608, .f32⟩
  | .hbm, ⟨121, _⟩ => ⟨S8192x4608, .bf16⟩
  | .hbm, ⟨122, _⟩ => ⟨S4608x1024, .f32⟩
  | .hbm, ⟨123, _⟩ => ⟨S1024x4608, .f32⟩
  | .hbm, ⟨124, _⟩ => ⟨S_, .f32⟩
  | .hbm, ⟨125, _⟩ => ⟨S3x4608, .f32⟩
  | .hbm, ⟨126, _⟩ => ⟨S8x4608, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v31_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v31_1 : Ref sig .tc := ⟨.hbm, 54, rfl⟩
abbrev main_v31_0 : Ref sig .tc := ⟨.hbm, 55, rfl⟩
abbrev main_v32 : Ref sig .tc := ⟨.hbm, 56, rfl⟩
abbrev main_cst_6 : Ref sig .tc := ⟨.hbm, 57, rfl⟩
abbrev main_v33 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v34 : Ref sig .tc := ⟨.hbm, 62, rfl⟩
abbrev main_v35 : Ref sig .tc := ⟨.hbm, 63, rfl⟩
abbrev main_cst_7 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_8 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_9 : Ref sig .tc := ⟨.hbm, 73, rfl⟩
abbrev main_v43 : Ref sig .tc := ⟨.hbm, 74, rfl⟩
abbrev main_v44 : Ref sig .tc := ⟨.hbm, 75, rfl⟩
abbrev main_cst_10 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_11 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_12 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_13 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_14 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_15 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_16 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_17 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_18 : Ref sig .tc := ⟨.hbm, 114, rfl⟩
abbrev main_v75 : Ref sig .tc := ⟨.hbm, 115, rfl⟩
abbrev main_v76 : Ref sig .tc := ⟨.hbm, 116, rfl⟩
abbrev main_cst_19 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_20 : Ref sig .tc := ⟨.hbm, 124, rfl⟩
abbrev main_v83 : Ref sig .tc := ⟨.hbm, 125, rfl⟩
abbrev main_v84 : Ref sig .tc := ⟨.hbm, 126, rfl⟩

abbrev nD : Nat := 1
abbrev τ : Topo := Topo.v7x

variable {F : FTy → Type} [FloatOps F]
-- ==== AdamIn.lean ====
abbrev S1x1024x1672 : Shape := ⟨3, ![1, 1024, 1672]⟩
abbrev S1x128x1672 : Shape := ⟨3, ![1, 128, 1672]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x1672, .f32⟩
  | .hbm, ⟨1, _⟩ => ⟨S1x1024x1672, .f32⟩
  | .hbm, ⟨2, _⟩ => ⟨S1x1024x1672, .f32⟩
  | .hbm, ⟨3, _⟩ => ⟨S1x1024x1672, .f32⟩
  | .hbm, ⟨4, _⟩ => ⟨S1x1024x1672, .f32⟩
  | .hbm, ⟨5, _⟩ => ⟨S1x1024x1672, .f32⟩
  | .hbm, ⟨6, _⟩ => ⟨S1x1024x1672, .f32⟩
  | .local _ .vmem, ⟨0, _⟩ => ⟨S1x128x1672, .f32⟩
  | .local _ .vmem, ⟨1, _⟩ => ⟨S1x128x1672, .f32⟩
  | .local _ .vmem, ⟨2, _⟩ => ⟨S1x128x1672, .f32⟩
  | .local _ .vmem, ⟨3, _⟩ => ⟨S1x128x1672, .f32⟩
  | .local _ .vmem, ⟨4, _⟩ => ⟨S1x128x1672, .f32⟩
  | .local _ .vmem, ⟨5, _⟩ => ⟨S1x128x1672, .f32⟩
  | .local _ .vmem, ⟨6, _⟩ => ⟨S1x128x1672, .f32⟩
  | .local _ .vmem, ⟨7, _⟩ => ⟨S1x128x1672, .f32⟩
  | .local _ .vmem, ⟨8, _⟩ => ⟨S1x128x1672, .f32⟩
  | .local _ .vmem, ⟨9, _⟩ => ⟨S1x128x1672, .f32⟩
  | .local _ .vmem, ⟨10, _⟩ => ⟨S1x128x1672, .f32⟩
  | .local _ .vmem, ⟨11, _⟩ => ⟨S1x128x1672, .f32⟩
  | .local _ .vmem, ⟨12, _⟩ => ⟨S1x128x1672, .f32⟩
  | .local _ .vmem, ⟨13, _⟩ => ⟨S1x128x1672, .f32⟩
  | _, _ => ⟨S1x1024x1672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1672 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1672 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1672 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1672 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1672 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1672 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1672 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S1x1024x1672 : Shape := ⟨3, ![1, 1024, 1672]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x1672, .f32⟩
  | .hbm, ⟨1, _⟩ => ⟨S1x1024x1672, .f32⟩
  | .hbm, ⟨2, _⟩ => ⟨S1x1024x1672, .f32⟩
  | .hbm, ⟨3, _⟩ => ⟨S1x1024x1672, .f32⟩
  | .hbm, ⟨4, _⟩ => ⟨S_, .f32⟩
  | .hbm, ⟨5, _⟩ => ⟨S1x1024x1672, .f32⟩
  | .hbm, ⟨6, _⟩ => ⟨S1x1024x1672, .f32⟩
  | .hbm, ⟨7, _⟩ => ⟨S_, .f32⟩
  | .hbm, ⟨8, _⟩ => ⟨S1x1024x1672, .f32⟩
  | .hbm, ⟨9, _⟩ => ⟨S1x1024x1672, .f32⟩
  | .hbm, ⟨10, _⟩ => ⟨S1x1024x1672, .f32⟩
  | .hbm, ⟨11, _⟩ => ⟨S_, .f32⟩
  | .hbm, ⟨12, _⟩ => ⟨S1x1024x1672, .f32⟩
  | .hbm, ⟨13, _⟩ => ⟨S1x1024x1672, .f32⟩
  | .hbm, ⟨14, _⟩ => ⟨S1x1024x1672, .f32⟩
  | .hbm, ⟨15, _⟩ => ⟨S_, .f32⟩
  | .hbm, ⟨16, _⟩ => ⟨S1x1024x1672, .f32⟩
  | .hbm, ⟨17, _⟩ => ⟨S1x1024x1672, .f32⟩
  | .hbm, ⟨18, _⟩ => ⟨S1x1024x1672, .f32⟩
  | .hbm, ⟨19, _⟩ => ⟨S_, .f32⟩
  | .hbm, ⟨20, _⟩ => ⟨S1x1024x1672, .f32⟩
  | .hbm, ⟨21, _⟩ => ⟨S1x1024x1672, .f32⟩
  | .hbm, ⟨22, _⟩ => ⟨S_, .f32⟩
  | .hbm, ⟨23, _⟩ => ⟨S1x1024x1672, .f32⟩
  | .hbm, ⟨24, _⟩ => ⟨S1x1024x1672, .f32⟩
  | .hbm, ⟨25, _⟩ => ⟨S1x1024x1672, .f32⟩
  | .hbm, ⟨26, _⟩ => ⟨S_, .f32⟩
  | .hbm, ⟨27, _⟩ => ⟨S1x1024x1672, .f32⟩
  | .hbm, ⟨28, _⟩ => ⟨S1x1024x1672, .f32⟩
  | .hbm, ⟨29, _⟩ => ⟨S1x1024x1672, .f32⟩
  | .hbm, ⟨30, _⟩ => ⟨S_, .f32⟩
  | .hbm, ⟨31, _⟩ => ⟨S1x1024x1672, .f32⟩
  | .hbm, ⟨32, _⟩ => ⟨S1x1024x1672, .f32⟩
  | .hbm, ⟨33, _⟩ => ⟨S1x1024x1672, .f32⟩
  | .hbm, ⟨34, _⟩ => ⟨S_, .f32⟩
  | .hbm, ⟨35, _⟩ => ⟨S1x1024x1672, .f32⟩
  | .hbm, ⟨36, _⟩ => ⟨S1x1024x1672, .f32⟩
  | _, _ => ⟨S1x1024x1672, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S1x512x1024 : Shape := ⟨3, ![1, 512, 1024]⟩
abbrev S1x128x1024 : Shape := ⟨3, ![1, 128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1x512x1024, .f32⟩
  | .hbm, ⟨1, _⟩ => ⟨S1x512x1024, .f32⟩
  | .hbm, ⟨2, _⟩ => ⟨S1x512x1024, .f32⟩
  | .hbm, ⟨3, _⟩ => ⟨S1x512x1024, .f32⟩
  | .hbm, ⟨4, _⟩ => ⟨S1x512x1024, .f32⟩
  | .hbm, ⟨5, _⟩ => ⟨S1x512x1024, .f32⟩
  | .hbm, ⟨6, _⟩ => ⟨S1x512x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutRefIdeal.lean ====
abbrev S1x512x1024 : Shape := ⟨3, ![1, 512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1x512x1024, .f32⟩
  | .hbm, ⟨2, _⟩ => ⟨S1x512x1024, .f32⟩
  | .hbm, ⟨3, _⟩ => ⟨S1x512x1024, .f32⟩
  | .hbm, ⟨4, _⟩ => ⟨S_, .f32⟩
  | .hbm, ⟨5, _⟩ => ⟨S1x512x1024, .f32⟩
  | .hbm, ⟨6, _⟩ => ⟨S1x512x1024, .f32⟩
  | .hbm, ⟨7, _⟩ => ⟨S_, .f32⟩
  | .hbm, ⟨8, _⟩ => ⟨S1x512x1024, .f32⟩
  | .hbm, ⟨9, _⟩ => ⟨S1x512x1024, .f32⟩
  | .hbm, ⟨10, _⟩ => ⟨S1x512x1024, .f32⟩
  | .hbm, ⟨11, _⟩ => ⟨S_, .f32⟩
  | .hbm, ⟨12, _⟩ => ⟨S1x512x1024, .f32⟩
  | .hbm, ⟨13, _⟩ => ⟨S1x512x1024, .f32⟩
  | .hbm, ⟨14, _⟩ => ⟨S1x512x1024, .f32⟩
  | .hbm, ⟨15, _⟩ => ⟨S_, .f32⟩
  | .hbm, ⟨16, _⟩ => ⟨S1x512x1024, .f32⟩
  | .hbm, ⟨17, _⟩ => ⟨S1x512x1024, .f32⟩
  | .hbm, ⟨18, _⟩ => ⟨S1x512x1024, .f32⟩
  | .hbm, ⟨19, _⟩ => ⟨S_, .f32⟩
  | .hbm, ⟨20, _⟩ => ⟨S1x512x1024, .f32⟩
  | .hbm, ⟨21, _⟩ => ⟨S1x512x1024, .f32⟩
  | .hbm, ⟨22, _⟩ => ⟨S_, .f32⟩
  | .hbm, ⟨23, _⟩ => ⟨S1x512x1024, .f32⟩
  | .hbm, ⟨24, _⟩ => ⟨S1x512x1024, .f32⟩
  | .hbm, ⟨25, _⟩ => ⟨S1x512x1024, .f32⟩
  | .hbm, ⟨26, _⟩ => ⟨S_, .f32⟩
  | .hbm, ⟨27, _⟩ => ⟨S1x512x1024, .f32⟩
  | .hbm, ⟨28, _⟩ => ⟨S1x512x1024, .f32⟩
  | .hbm, ⟨29, _⟩ => ⟨S1x512x1024, .f32⟩
  | .hbm, ⟨30, _⟩ => ⟨S_, .f32⟩
  | .hbm, ⟨31, _⟩ => ⟨S1x512x1024, .f32⟩
  | .hbm, ⟨32, _⟩ => ⟨S1x512x1024, .f32⟩
  | .hbm, ⟨33, _⟩ => ⟨S1x512x1024, .f32⟩
  | .hbm, ⟨34, _⟩ => ⟨S_, .f32⟩
  | .hbm, ⟨35, _⟩ => ⟨S1x512x1024, .f32⟩
  | .hbm, ⟨36, _⟩ => ⟨S1x512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamA.lean ====
abbrev S1x1024 : Shape := ⟨2, ![1, 1024]⟩
abbrev S4x384 : Shape := ⟨2, ![4, 384]⟩
abbrev S1x1536 : Shape := ⟨2, ![1, 1536]⟩
abbrev S1x16 : Shape := ⟨2, ![1, 16]⟩

abbrev nBuf : Space → Nat
  | .hbm => 28
  | .vmem => 28
  | .smem => 0
  | _ => 0

abbrev bufTy : (tb : Table) → Fin (tcTables nBuf tb) → BufTy
  | .hbm, ⟨0, _⟩ => ⟨S1x1024, .f32⟩
  | .hbm, ⟨1, _⟩ => ⟨S4x384, .f32⟩
  | .hbm, ⟨2, _⟩ => ⟨S1x1536, .f32⟩
  | .hbm, ⟨3, _⟩ => ⟨S1x16, .f32⟩
  | .hbm, ⟨4, _⟩ => ⟨S1x1024, .f32⟩
  | .hbm, ⟨5, _⟩ => ⟨S4x384, .f32⟩
  | .hbm, ⟨6, _⟩ => ⟨S1x1536, .f32⟩
  | .hbm, ⟨7, _⟩ => ⟨S1x16, .f32⟩
  | .hbm, ⟨8, _⟩ => ⟨S1x1024, .f32⟩
  | .hbm, ⟨9, _⟩ => ⟨S4x384, .f32⟩
  | .hbm, ⟨10, _⟩ => ⟨S1x1536, .f32⟩
  | .hbm, ⟨11, _⟩ => ⟨S1x16, .f32⟩
  | .hbm, ⟨12, _⟩ => ⟨S1x1024, .f32⟩
  | .hbm, ⟨13, _⟩ => ⟨S4x384, .f32⟩
  | .hbm, ⟨14, _⟩ => ⟨S1x1536, .f32⟩
  | .hbm, ⟨15, _⟩ => ⟨S1x16, .f32⟩
  | .hbm, ⟨16, _⟩ => ⟨S1x1024, .f32⟩
  | .hbm, ⟨17, _⟩ => ⟨S4x384, .f32⟩
  | .hbm, ⟨18, _⟩ => ⟨S1x1536, .f32⟩
  | .hbm, ⟨19, _⟩ => ⟨S1x16, .f32⟩
  | .hbm, ⟨20, _⟩ => ⟨S1x1024, .f32⟩
  | .hbm, ⟨21, _⟩ => ⟨S4x384, .f32⟩
  | .hbm, ⟨22, _⟩ => ⟨S1x1536, .f32⟩
  | .hbm, ⟨23, _⟩ => ⟨S1x16, .f32⟩
  | .hbm, ⟨24, _⟩ => ⟨S1x1024, .f32⟩
  | .hbm, ⟨25, _⟩ => ⟨S4x384, .f32⟩
  | .hbm, ⟨26, _⟩ => ⟨S1x1536, .f32⟩
  | .hbm, ⟨27, _⟩ => ⟨S1x16, .f32⟩
  | .local _ .vmem, ⟨0, _⟩ => ⟨S1x1024, .f32⟩
  | .local _ .vmem, ⟨1, _⟩ => ⟨S4x384, .f32⟩
  | .local _ .vmem, ⟨2, _⟩ => ⟨S1x1536, .f32⟩
  | .local _ .vmem, ⟨3, _⟩ => ⟨S1x16, .f32⟩
  | .local _ .vmem, ⟨4, _⟩ => ⟨S1x1024, .f32⟩
  | .local _ .vmem, ⟨5, _⟩ => ⟨S4x384, .f32⟩
  | .local _ .vmem, ⟨6, _⟩ => ⟨S1x1536, .f32⟩
  | .local _ .vmem, ⟨7, _⟩ => ⟨S1x16, .f32⟩
  | .local _ .vmem, ⟨8, _⟩ => ⟨S1x1024, .f32⟩
  | .local _ .vmem, ⟨9, _⟩ => ⟨S4x384, .f32⟩
  | .local _ .vmem, ⟨10, _⟩ => ⟨S1x1536, .f32⟩
  | .local _ .vmem, ⟨11, _⟩ => ⟨S1x16, .f32⟩
  | .local _ .vmem, ⟨12, _⟩ => ⟨S1x1024, .f32⟩
  | .local _ .vmem, ⟨13, _⟩ => ⟨S4x384, .f32⟩
  | .local _ .vmem, ⟨14, _⟩ => ⟨S1x1536, .f32⟩
  | .local _ .vmem, ⟨15, _⟩ => ⟨S1x16, .f32⟩
  | .local _ .vmem, ⟨16, _⟩ => ⟨S1x1024, .f32⟩
  | .local _ .vmem, ⟨17, _⟩ => ⟨S4x384, .f32⟩
  | .local _ .vmem, ⟨18, _⟩ => ⟨S1x1536, .f32⟩
  | .local _ .vmem, ⟨19, _⟩ => ⟨S1x16, .f32⟩
  | .local _ .vmem, ⟨20, _⟩ => ⟨S1x1024, .f32⟩
  | .local _ .vmem, ⟨21, _⟩ => ⟨S4x384, .f32⟩
  | .local _ .vmem, ⟨22, _⟩ => ⟨S1x1536, .f32⟩
  | .local _ .vmem, ⟨23, _⟩ => ⟨S1x16, .f32⟩
  | .local _ .vmem, ⟨24, _⟩ => ⟨S1x1024, .f32⟩
  | .local _ .vmem, ⟨25, _⟩ => ⟨S4x384, .f32⟩
  | .local _ .vmem, ⟨26, _⟩ => ⟨S1x1536, .f32⟩
  | .local _ .vmem, ⟨27, _⟩ => ⟨S1x16, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1536 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x384 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1536 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x16 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S4x384 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1536 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x16 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S4x384 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1536 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x16 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== AdamAIdeal.lean ====
abbrev S1x1024 : Shape := ⟨2, ![1, 1024]⟩
abbrev S4x384 : Shape := ⟨2, ![4, 384]⟩
abbrev S1x1536 : Shape := ⟨2, ![1, 1536]⟩
abbrev S1x16 : Shape := ⟨2, ![1, 16]⟩

abbrev nBuf : Space → Nat
  | .hbm => 28
  | .vmem => 28
  | .smem => 0
  | _ => 0

abbrev bufTy : (tb : Table) → Fin (tcTables nBuf tb) → BufTy
  | .hbm, ⟨0, _⟩ => ⟨S1x1024, .f32⟩
  | .hbm, ⟨1, _⟩ => ⟨S4x384, .f32⟩
  | .hbm, ⟨2, _⟩ => ⟨S1x1536, .f32⟩
  | .hbm, ⟨3, _⟩ => ⟨S1x16, .f32⟩
  | .hbm, ⟨4, _⟩ => ⟨S1x1024, .f32⟩
  | .hbm, ⟨5, _⟩ => ⟨S4x384, .f32⟩
  | .hbm, ⟨6, _⟩ => ⟨S1x1536, .f32⟩
  | .hbm, ⟨7, _⟩ => ⟨S1x16, .f32⟩
  | .hbm, ⟨8, _⟩ => ⟨S1x1024, .f32⟩
  | .hbm, ⟨9, _⟩ => ⟨S4x384, .f32⟩
  | .hbm, ⟨10, _⟩ => ⟨S1x1536, .f32⟩
  | .hbm, ⟨11, _⟩ => ⟨S1x16, .f32⟩
  | .hbm, ⟨12, _⟩ => ⟨S1x1024, .f32⟩
  | .hbm, ⟨13, _⟩ => ⟨S4x384, .f32⟩
  | .hbm, ⟨14, _⟩ => ⟨S1x1536, .f32⟩
  | .hbm, ⟨15, _⟩ => ⟨S1x16, .f32⟩
  | .hbm, ⟨16, _⟩ => ⟨S1x1024, .f32⟩
  | .hbm, ⟨17, _⟩ => ⟨S4x384, .f32⟩
  | .hbm, ⟨18, _⟩ => ⟨S1x1536, .f32⟩
  | .hbm, ⟨19, _⟩ => ⟨S1x16, .f32⟩
  | .hbm, ⟨20, _⟩ => ⟨S1x1024, .f32⟩
  | .hbm, ⟨21, _⟩ => ⟨S4x384, .f32⟩
  | .hbm, ⟨22, _⟩ => ⟨S1x1536, .f32⟩
  | .hbm, ⟨23, _⟩ => ⟨S1x16, .f32⟩
  | .hbm, ⟨24, _⟩ => ⟨S1x1024, .f32⟩
  | .hbm, ⟨25, _⟩ => ⟨S4x384, .f32⟩
  | .hbm, ⟨26, _⟩ => ⟨S1x1536, .f32⟩
  | .hbm, ⟨27, _⟩ => ⟨S1x16, .f32⟩
  | .local _ .vmem, ⟨0, _⟩ => ⟨S1x1024, .f32⟩
  | .local _ .vmem, ⟨1, _⟩ => ⟨S4x384, .f32⟩
  | .local _ .vmem, ⟨2, _⟩ => ⟨S1x1536, .f32⟩
  | .local _ .vmem, ⟨3, _⟩ => ⟨S1x16, .f32⟩
  | .local _ .vmem, ⟨4, _⟩ => ⟨S1x1024, .f32⟩
  | .local _ .vmem, ⟨5, _⟩ => ⟨S4x384, .f32⟩
  | .local _ .vmem, ⟨6, _⟩ => ⟨S1x1536, .f32⟩
  | .local _ .vmem, ⟨7, _⟩ => ⟨S1x16, .f32⟩
  | .local _ .vmem, ⟨8, _⟩ => ⟨S1x1024, .f32⟩
  | .local _ .vmem, ⟨9, _⟩ => ⟨S4x384, .f32⟩
  | .local _ .vmem, ⟨10, _⟩ => ⟨S1x1536, .f32⟩
  | .local _ .vmem, ⟨11, _⟩ => ⟨S1x16, .f32⟩
  | .local _ .vmem, ⟨12, _⟩ => ⟨S1x1024, .f32⟩
  | .local _ .vmem, ⟨13, _⟩ => ⟨S4x384, .f32⟩
  | .local _ .vmem, ⟨14, _⟩ => ⟨S1x1536, .f32⟩
  | .local _ .vmem, ⟨15, _⟩ => ⟨S1x16, .f32⟩
  | .local _ .vmem, ⟨16, _⟩ => ⟨S1x1024, .f32⟩
  | .local _ .vmem, ⟨17, _⟩ => ⟨S4x384, .f32⟩
  | .local _ .vmem, ⟨18, _⟩ => ⟨S1x1536, .f32⟩
  | .local _ .vmem, ⟨19, _⟩ => ⟨S1x16, .f32⟩
  | .local _ .vmem, ⟨20, _⟩ => ⟨S1x1024, .f32⟩
  | .local _ .vmem, ⟨21, _⟩ => ⟨S4x384, .f32⟩
  | .local _ .vmem, ⟨22, _⟩ => ⟨S1x1536, .f32⟩
  | .local _ .vmem, ⟨23, _⟩ => ⟨S1x16, .f32⟩
  | .local _ .vmem, ⟨24, _⟩ => ⟨S1x1024, .f32⟩
  | .local _ .vmem, ⟨25, _⟩ => ⟨S4x384, .f32⟩
  | .local _ .vmem, ⟨26, _⟩ => ⟨S1x1536, .f32⟩
  | .local _ .vmem, ⟨27, _⟩ => ⟨S1x16, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1536 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x384 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1536 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x16 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S4x384 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1536 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x16 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S4x384 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1536 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x16 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== AdamARefIdeal.lean ====
abbrev S1x1024 : Shape := ⟨2, ![1, 1024]⟩
abbrev S4x384 : Shape := ⟨2, ![4, 384]⟩
abbrev S1x1536 : Shape := ⟨2, ![1, 1536]⟩
abbrev S1x16 : Shape := ⟨2, ![1, 16]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S1x1024, .f32⟩
  | 1 => ⟨S4x384, .f32⟩
  | 2 => ⟨S1x1536, .f32⟩
  | 3 => ⟨S1x16, .f32⟩
  | 4 => ⟨S1x1024, .f32⟩
  | 5 => ⟨S4x384, .f32⟩
  | 6 => ⟨S1x1536, .f32⟩
  | 7 => ⟨S1x16, .f32⟩
  | 8 => ⟨S1x1024, .f32⟩
  | 9 => ⟨S4x384, .f32⟩
  | 10 => ⟨S1x1536, .f32⟩
  | 11 => ⟨S1x16, .f32⟩
  | 12 => ⟨S1x1024, .f32⟩
  | 13 => ⟨S4x384, .f32⟩
  | 14 => ⟨S1x1536, .f32⟩
  | 15 => ⟨S1x16, .f32⟩
  | 16 => ⟨S_, .f32⟩
  | 17 => ⟨S1x1024, .f32⟩
  | 18 => ⟨S1x1024, .f32⟩
  | 19 => ⟨S_, .f32⟩
  | 20 => ⟨S1x1024, .f32⟩
  | 21 => ⟨S1x1024, .f32⟩
  | 22 => ⟨S1x1024, .f32⟩
  | 23 => ⟨S_, .f32⟩
  | 24 => ⟨S1x1024, .f32⟩
  | 25 => ⟨S1x1024, .f32⟩
  | 26 => ⟨S1x1024, .f32⟩
  | 27 => ⟨S_, .f32⟩
  | 28 => ⟨S1x1024, .f32⟩
  | 29 => ⟨S1x1024, .f32⟩
  | 30 => ⟨S1x1024, .f32⟩
  | 31 => ⟨S_, .f32⟩
  | 32 => ⟨S1x1024, .f32⟩
  | 33 => ⟨S1x1024, .f32⟩
  | 34 => ⟨S_, .f32⟩
  | 35 => ⟨S1x1024, .f32⟩
  | 36 => ⟨S1x1024, .f32⟩
  | 37 => ⟨S1x1024, .f32⟩
  | 38 => ⟨S_, .f32⟩
  | 39 => ⟨S1x1024, .f32⟩
  | 40 => ⟨S1x1024, .f32⟩
  | 41 => ⟨S1x1024, .f32⟩
  | 42 => ⟨S_, .f32⟩
  | 43 => ⟨S1x1024, .f32⟩
  | 44 => ⟨S1x1024, .f32⟩
  | 45 => ⟨S1x1024, .f32⟩
  | 46 => ⟨S_, .f32⟩
  | 47 => ⟨S1x1024, .f32⟩
  | 48 => ⟨S1x1024, .f32⟩
  | 49 => ⟨S_, .f32⟩
  | 50 => ⟨S4x384, .f32⟩
  | 51 => ⟨S4x384, .f32⟩
  | 52 => ⟨S_, .f32⟩
  | 53 => ⟨S4x384, .f32⟩
  | 54 => ⟨S4x384, .f32⟩
  | 55 => ⟨S4x384, .f32⟩
  | 56 => ⟨S_, .f32⟩
  | 57 => ⟨S4x384, .f32⟩
  | 58 => ⟨S4x384, .f32⟩
  | 59 => ⟨S4x384, .f32⟩
  | 60 => ⟨S_, .f32⟩
  | 61 => ⟨S4x384, .f32⟩
  | 62 => ⟨S4x384, .f32⟩
  | 63 => ⟨S4x384, .f32⟩
  | 64 => ⟨S_, .f32⟩
  | 65 => ⟨S4x384, .f32⟩
  | 66 => ⟨S4x384, .f32⟩
  | 67 => ⟨S_, .f32⟩
  | 68 => ⟨S4x384, .f32⟩
  | 69 => ⟨S4x384, .f32⟩
  | 70 => ⟨S4x384, .f32⟩
  | 71 => ⟨S_, .f32⟩
  | 72 => ⟨S4x384, .f32⟩
  | 73 => ⟨S4x384, .f32⟩
  | 74 => ⟨S4x384, .f32⟩
  | 75 => ⟨S_, .f32⟩
  | 76 => ⟨S4x384, .f32⟩
  | 77 => ⟨S4x384, .f32⟩
  | 78 => ⟨S4x384, .f32⟩
  | 79 => ⟨S_, .f32⟩
  | 80 => ⟨S4x384, .f32⟩
  | 81 => ⟨S4x384, .f32⟩
  | 82 => ⟨S_, .f32⟩
  | 83 => ⟨S1x1536, .f32⟩
  | 84 => ⟨S1x1536, .f32⟩
  | 85 => ⟨S_, .f32⟩
  | 86 => ⟨S1x1536, .f32⟩
  | 87 => ⟨S1x1536, .f32⟩
  | 88 => ⟨S1x1536, .f32⟩
  | 89 => ⟨S_, .f32⟩
  | 90 => ⟨S1x1536, .f32⟩
  | 91 => ⟨S1x1536, .f32⟩
  | 92 => ⟨S1x1536, .f32⟩
  | 93 => ⟨S_, .f32⟩
  | 94 => ⟨S1x1536, .f32⟩
  | 95 => ⟨S1x1536, .f32⟩
  | 96 => ⟨S1x1536, .f32⟩
  | 97 => ⟨S_, .f32⟩
  | 98 => ⟨S1x1536, .f32⟩
  | 99 => ⟨S1x1536, .f32⟩
  | 100 => ⟨S_, .f32⟩
  | 101 => ⟨S1x1536, .f32⟩
  | 102 => ⟨S1x1536, .f32⟩
  | 103 => ⟨S1x1536, .f32⟩
  | 104 => ⟨S_, .f32⟩
  | 105 => ⟨S1x1536, .f32⟩
  | 106 => ⟨S1x1536, .f32⟩
  | 107 => ⟨S1x1536, .f32⟩
  | 108 => ⟨S_, .f32⟩
  | 109 => ⟨S1x1536, .f32⟩
  | 110 => ⟨S1x1536, .f32⟩
  | 111 => ⟨S1x1536, .f32⟩
  | 112 => ⟨S_, .f32⟩
  | 113 => ⟨S1x1536, .f32⟩
  | 114 => ⟨S1x1536, .f32⟩
  | 115 => ⟨S_, .f32⟩
  | 116 => ⟨S1x16, .f32⟩
  | 117 => ⟨S1x16, .f32⟩
  | 118 => ⟨S_, .f32⟩
  | 119 => ⟨S1x16, .f32⟩
  | 120 => ⟨S1x16, .f32⟩
  | 121 => ⟨S1x16, .f32⟩
  | 122 => ⟨S_, .f32⟩
  | 123 => ⟨S1x16, .f32⟩
  | 124 => ⟨S1x16, .f32⟩
  | 125 => ⟨S1x16, .f32⟩
  | 126 => ⟨S_, .f32⟩
  | 127 => ⟨S1x16, .f32⟩
  | _ => ⟨S1x1024, .f32⟩

abbrev hbmTy0_1 (i : Nat) : BufTy := match i % 128 with
  | 0 => ⟨S1x16, .f32⟩
  | 1 => ⟨S1x16, .f32⟩
  | 2 => ⟨S_, .f32⟩
  | 3 => ⟨S1x16, .f32⟩
  | 4 => ⟨S1x16, .f32⟩
  | 5 => ⟨S_, .f32⟩
  | 6 => ⟨S1x16, .f32⟩
  | 7 => ⟨S1x16, .f32⟩
  | 8 => ⟨S1x16, .f32⟩
  | 9 => ⟨S_, .f32⟩
  | 10 => ⟨S1x16, .f32⟩
  | 11 => ⟨S1x16, .f32⟩
  | 12 => ⟨S1x16, .f32⟩
  | 13 => ⟨S_, .f32⟩
  | 14 => ⟨S1x16, .f32⟩
  | 15 => ⟨S1x16, .f32⟩
  | 16 => ⟨S1x16, .f32⟩
  | 17 => ⟨S_, .f32⟩
  | 18 => ⟨S1x16, .f32⟩
  | 19 => ⟨S1x16, .f32⟩
  | _ => ⟨S1x1024, .f32⟩

abbrev hbmTy (i : Nat) : BufTy := match i / 128 with
  | 0 => hbmTy0_0 i
  | 1 => hbmTy0_1 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== AdamB.lean ====
abbrev S1x16 : Shape := ⟨2, ![1, 16]⟩
abbrev S1x1024 : Shape := ⟨2, ![1, 1024]⟩
abbrev S4x768 : Shape := ⟨2, ![4, 768]⟩

abbrev nBuf : Space → Nat
  | .hbm => 28
  | .vmem => 28
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x1024, .f32⟩
  | .hbm, ⟨3, _⟩ => ⟨S4x768, .f32⟩
  | .hbm, ⟨4, _⟩ => ⟨S1x16, .f32⟩
  | .hbm, ⟨5, _⟩ => ⟨S1x16, .f32⟩
  | .hbm, ⟨6, _⟩ => ⟨S1x1024, .f32⟩
  | .hbm, ⟨7, _⟩ => ⟨S4x768, .f32⟩
  | .hbm, ⟨8, _⟩ => ⟨S1x16, .f32⟩
  | .hbm, ⟨9, _⟩ => ⟨S1x16, .f32⟩
  | .hbm, ⟨10, _⟩ => ⟨S1x1024, .f32⟩
  | .hbm, ⟨11, _⟩ => ⟨S4x768, .f32⟩
  | .hbm, ⟨12, _⟩ => ⟨S1x16, .f32⟩
  | .hbm, ⟨13, _⟩ => ⟨S1x16, .f32⟩
  | .hbm, ⟨14, _⟩ => ⟨S1x1024, .f32⟩
  | .hbm, ⟨15, _⟩ => ⟨S4x768, .f32⟩
  | .hbm, ⟨16, _⟩ => ⟨S1x16, .f32⟩
  | .hbm, ⟨17, _⟩ => ⟨S1x16, .f32⟩
  | .hbm, ⟨18, _⟩ => ⟨S1x1024, .f32⟩
  | .hbm, ⟨19, _⟩ => ⟨S4x768, .f32⟩
  | .hbm, ⟨20, _⟩ => ⟨S1x16, .f32⟩
  | .hbm, ⟨21, _⟩ => ⟨S1x16, .f32⟩
  | .hbm, ⟨22, _⟩ => ⟨S1x1024, .f32⟩
  | .hbm, ⟨23, _⟩ => ⟨S4x768, .f32⟩
  | .hbm, ⟨24, _⟩ => ⟨S1x16, .f32⟩
  | .hbm, ⟨25, _⟩ => ⟨S1x16, .f32⟩
  | .hbm, ⟨26, _⟩ => ⟨S1x1024, .f32⟩
  | .hbm, ⟨27, _⟩ => ⟨S4x768, .f32⟩
  | .local _ .vmem, ⟨0, _⟩ => ⟨S1x16, .f32⟩
  | .local _ .vmem, ⟨1, _⟩ => ⟨S1x16, .f32⟩
  | .local _ .vmem, ⟨2, _⟩ => ⟨S1x1024, .f32⟩
  | .local _ .vmem, ⟨3, _⟩ => ⟨S4x768, .f32⟩
  | .local _ .vmem, ⟨4, _⟩ => ⟨S1x16, .f32⟩
  | .local _ .vmem, ⟨5, _⟩ => ⟨S1x16, .f32⟩
  | .local _ .vmem, ⟨6, _⟩ => ⟨S1x1024, .f32⟩
  | .local _ .vmem, ⟨7, _⟩ => ⟨S4x768, .f32⟩
  | .local _ .vmem, ⟨8, _⟩ => ⟨S1x16, .f32⟩
  | .local _ .vmem, ⟨9, _⟩ => ⟨S1x16, .f32⟩
  | .local _ .vmem, ⟨10, _⟩ => ⟨S1x1024, .f32⟩
  | .local _ .vmem, ⟨11, _⟩ => ⟨S4x768, .f32⟩
  | .local _ .vmem, ⟨12, _⟩ => ⟨S1x16, .f32⟩
  | .local _ .vmem, ⟨13, _⟩ => ⟨S1x16, .f32⟩
  | .local _ .vmem, ⟨14, _⟩ => ⟨S1x1024, .f32⟩
  | .local _ .vmem, ⟨15, _⟩ => ⟨S4x768, .f32⟩
  | .local _ .vmem, ⟨16, _⟩ => ⟨S1x16, .f32⟩
  | .local _ .vmem, ⟨17, _⟩ => ⟨S1x16, .f32⟩
  | .local _ .vmem, ⟨18, _⟩ => ⟨S1x1024, .f32⟩
  | .local _ .vmem, ⟨19, _⟩ => ⟨S4x768, .f32⟩
  | .local _ .vmem, ⟨20, _⟩ => ⟨S1x16, .f32⟩
  | .local _ .vmem, ⟨21, _⟩ => ⟨S1x16, .f32⟩
  | .local _ .vmem, ⟨22, _⟩ => ⟨S1x1024, .f32⟩
  | .local _ .vmem, ⟨23, _⟩ => ⟨S4x768, .f32⟩
  | .local _ .vmem, ⟨24, _⟩ => ⟨S1x16, .f32⟩
  | .local _ .vmem, ⟨25, _⟩ => ⟨S1x16, .f32⟩
  | .local _ .vmem, ⟨26, _⟩ => ⟨S1x1024, .f32⟩
  | .local _ .vmem, ⟨27, _⟩ => ⟨S4x768, .f32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x16 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4x768 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x16 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x16 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S4x768 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x16 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x16 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S4x768 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== AdamBIdeal.lean ====
abbrev S1x16 : Shape := ⟨2, ![1, 16]⟩
abbrev S1x1024 : Shape := ⟨2, ![1, 1024]⟩
abbrev S4x768 : Shape := ⟨2, ![4, 768]⟩

abbrev nBuf : Space → Nat
  | .hbm => 28
  | .vmem => 28
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x1024, .f32⟩
  | .hbm, ⟨3, _⟩ => ⟨S4x768, .f32⟩
  | .hbm, ⟨4, _⟩ => ⟨S1x16, .f32⟩
  | .hbm, ⟨5, _⟩ => ⟨S1x16, .f32⟩
  | .hbm, ⟨6, _⟩ => ⟨S1x1024, .f32⟩
  | .hbm, ⟨7, _⟩ => ⟨S4x768, .f32⟩
  | .hbm, ⟨8, _⟩ => ⟨S1x16, .f32⟩
  | .hbm, ⟨9, _⟩ => ⟨S1x16, .f32⟩
  | .hbm, ⟨10, _⟩ => ⟨S1x1024, .f32⟩
  | .hbm, ⟨11, _⟩ => ⟨S4x768, .f32⟩
  | .hbm, ⟨12, _⟩ => ⟨S1x16, .f32⟩
  | .hbm, ⟨13, _⟩ => ⟨S1x16, .f32⟩
  | .hbm, ⟨14, _⟩ => ⟨S1x1024, .f32⟩
  | .hbm, ⟨15, _⟩ => ⟨S4x768, .f32⟩
  | .hbm, ⟨16, _⟩ => ⟨S1x16, .f32⟩
  | .hbm, ⟨17, _⟩ => ⟨S1x16, .f32⟩
  | .hbm, ⟨18, _⟩ => ⟨S1x1024, .f32⟩
  | .hbm, ⟨19, _⟩ => ⟨S4x768, .f32⟩
  | .hbm, ⟨20, _⟩ => ⟨S1x16, .f32⟩
  | .hbm, ⟨21, _⟩ => ⟨S1x16, .f32⟩
  | .hbm, ⟨22, _⟩ => ⟨S1x1024, .f32⟩
  | .hbm, ⟨23, _⟩ => ⟨S4x768, .f32⟩
  | .hbm, ⟨24, _⟩ => ⟨S1x16, .f32⟩
  | .hbm, ⟨25, _⟩ => ⟨S1x16, .f32⟩
  | .hbm, ⟨26, _⟩ => ⟨S1x1024, .f32⟩
  | .hbm, ⟨27, _⟩ => ⟨S4x768, .f32⟩
  | .local _ .vmem, ⟨0, _⟩ => ⟨S1x16, .f32⟩
  | .local _ .vmem, ⟨1, _⟩ => ⟨S1x16, .f32⟩
  | .local _ .vmem, ⟨2, _⟩ => ⟨S1x1024, .f32⟩
  | .local _ .vmem, ⟨3, _⟩ => ⟨S4x768, .f32⟩
  | .local _ .vmem, ⟨4, _⟩ => ⟨S1x16, .f32⟩
  | .local _ .vmem, ⟨5, _⟩ => ⟨S1x16, .f32⟩
  | .local _ .vmem, ⟨6, _⟩ => ⟨S1x1024, .f32⟩
  | .local _ .vmem, ⟨7, _⟩ => ⟨S4x768, .f32⟩
  | .local _ .vmem, ⟨8, _⟩ => ⟨S1x16, .f32⟩
  | .local _ .vmem, ⟨9, _⟩ => ⟨S1x16, .f32⟩
  | .local _ .vmem, ⟨10, _⟩ => ⟨S1x1024, .f32⟩
  | .local _ .vmem, ⟨11, _⟩ => ⟨S4x768, .f32⟩
  | .local _ .vmem, ⟨12, _⟩ => ⟨S1x16, .f32⟩
  | .local _ .vmem, ⟨13, _⟩ => ⟨S1x16, .f32⟩
  | .local _ .vmem, ⟨14, _⟩ => ⟨S1x1024, .f32⟩
  | .local _ .vmem, ⟨15, _⟩ => ⟨S4x768, .f32⟩
  | .local _ .vmem, ⟨16, _⟩ => ⟨S1x16, .f32⟩
  | .local _ .vmem, ⟨17, _⟩ => ⟨S1x16, .f32⟩
  | .local _ .vmem, ⟨18, _⟩ => ⟨S1x1024, .f32⟩
  | .local _ .vmem, ⟨19, _⟩ => ⟨S4x768, .f32⟩
  | .local _ .vmem, ⟨20, _⟩ => ⟨S1x16, .f32⟩
  | .local _ .vmem, ⟨21, _⟩ => ⟨S1x16, .f32⟩
  | .local _ .vmem, ⟨22, _⟩ => ⟨S1x1024, .f32⟩
  | .local _ .vmem, ⟨23, _⟩ => ⟨S4x768, .f32⟩
  | .local _ .vmem, ⟨24, _⟩ => ⟨S1x16, .f32⟩
  | .local _ .vmem, ⟨25, _⟩ => ⟨S1x16, .f32⟩
  | .local _ .vmem, ⟨26, _⟩ => ⟨S1x1024, .f32⟩
  | .local _ .vmem, ⟨27, _⟩ => ⟨S4x768, .f32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x16 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4x768 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x16 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x16 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S4x768 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x16 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x16 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S4x768 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== AdamBRefIdeal.lean ====
abbrev S1x16 : Shape := ⟨2, ![1, 16]⟩
abbrev S1x1024 : Shape := ⟨2, ![1, 1024]⟩
abbrev S4x768 : Shape := ⟨2, ![4, 768]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S1x16, .f32⟩
  | 1 => ⟨S1x16, .f32⟩
  | 2 => ⟨S1x1024, .f32⟩
  | 3 => ⟨S4x768, .f32⟩
  | 4 => ⟨S1x16, .f32⟩
  | 5 => ⟨S1x16, .f32⟩
  | 6 => ⟨S1x1024, .f32⟩
  | 7 => ⟨S4x768, .f32⟩
  | 8 => ⟨S1x16, .f32⟩
  | 9 => ⟨S1x16, .f32⟩
  | 10 => ⟨S1x1024, .f32⟩
  | 11 => ⟨S4x768, .f32⟩
  | 12 => ⟨S1x16, .f32⟩
  | 13 => ⟨S1x16, .f32⟩
  | 14 => ⟨S1x1024, .f32⟩
  | 15 => ⟨S4x768, .f32⟩
  | 16 => ⟨S_, .f32⟩
  | 17 => ⟨S1x16, .f32⟩
  | 18 => ⟨S1x16, .f32⟩
  | 19 => ⟨S_, .f32⟩
  | 20 => ⟨S1x16, .f32⟩
  | 21 => ⟨S1x16, .f32⟩
  | 22 => ⟨S1x16, .f32⟩
  | 23 => ⟨S_, .f32⟩
  | 24 => ⟨S1x16, .f32⟩
  | 25 => ⟨S1x16, .f32⟩
  | 26 => ⟨S1x16, .f32⟩
  | 27 => ⟨S_, .f32⟩
  | 28 => ⟨S1x16, .f32⟩
  | 29 => ⟨S1x16, .f32⟩
  | 30 => ⟨S1x16, .f32⟩
  | 31 => ⟨S_, .f32⟩
  | 32 => ⟨S1x16, .f32⟩
  | 33 => ⟨S1x16, .f32⟩
  | 34 => ⟨S_, .f32⟩
  | 35 => ⟨S1x16, .f32⟩
  | 36 => ⟨S1x16, .f32⟩
  | 37 => ⟨S1x16, .f32⟩
  | 38 => ⟨S_, .f32⟩
  | 39 => ⟨S1x16, .f32⟩
  | 40 => ⟨S1x16, .f32⟩
  | 41 => ⟨S1x16, .f32⟩
  | 42 => ⟨S_, .f32⟩
  | 43 => ⟨S1x16, .f32⟩
  | 44 => ⟨S1x16, .f32⟩
  | 45 => ⟨S1x16, .f32⟩
  | 46 => ⟨S_, .f32⟩
  | 47 => ⟨S1x16, .f32⟩
  | 48 => ⟨S1x16, .f32⟩
  | 49 => ⟨S_, .f32⟩
  | 50 => ⟨S1x16, .f32⟩
  | 51 => ⟨S1x16, .f32⟩
  | 52 => ⟨S_, .f32⟩
  | 53 => ⟨S1x16, .f32⟩
  | 54 => ⟨S1x16, .f32⟩
  | 55 => ⟨S1x16, .f32⟩
  | 56 => ⟨S_, .f32⟩
  | 57 => ⟨S1x16, .f32⟩
  | 58 => ⟨S1x16, .f32⟩
  | 59 => ⟨S1x16, .f32⟩
  | 60 => ⟨S_, .f32⟩
  | 61 => ⟨S1x16, .f32⟩
  | 62 => ⟨S1x16, .f32⟩
  | 63 => ⟨S1x16, .f32⟩
  | 64 => ⟨S_, .f32⟩
  | 65 => ⟨S1x16, .f32⟩
  | 66 => ⟨S1x16, .f32⟩
  | 67 => ⟨S_, .f32⟩
  | 68 => ⟨S1x16, .f32⟩
  | 69 => ⟨S1x16, .f32⟩
  | 70 => ⟨S1x16, .f32⟩
  | 71 => ⟨S_, .f32⟩
  | 72 => ⟨S1x16, .f32⟩
  | 73 => ⟨S1x16, .f32⟩
  | 74 => ⟨S1x16, .f32⟩
  | 75 => ⟨S_, .f32⟩
  | 76 => ⟨S1x16, .f32⟩
  | 77 => ⟨S1x16, .f32⟩
  | 78 => ⟨S1x16, .f32⟩
  | 79 => ⟨S_, .f32⟩
  | 80 => ⟨S1x16, .f32⟩
  | 81 => ⟨S1x16, .f32⟩
  | 82 => ⟨S_, .f32⟩
  | 83 => ⟨S1x1024, .f32⟩
  | 84 => ⟨S1x1024, .f32⟩
  | 85 => ⟨S_, .f32⟩
  | 86 => ⟨S1x1024, .f32⟩
  | 87 => ⟨S1x1024, .f32⟩
  | 88 => ⟨S1x1024, .f32⟩
  | 89 => ⟨S_, .f32⟩
  | 90 => ⟨S1x1024, .f32⟩
  | 91 => ⟨S1x1024, .f32⟩
  | 92 => ⟨S1x1024, .f32⟩
  | 93 => ⟨S_, .f32⟩
  | 94 => ⟨S1x1024, .f32⟩
  | 95 => ⟨S1x1024, .f32⟩
  | 96 => ⟨S1x1024, .f32⟩
  | 97 => ⟨S_, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S1x1024, .f32⟩
  | 104 => ⟨S_, .f32⟩
  | 105 => ⟨S1x1024, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S_, .f32⟩
  | 116 => ⟨S4x768, .f32⟩
  | 117 => ⟨S4x768, .f32⟩
  | 118 => ⟨S_, .f32⟩
  | 119 => ⟨S4x768, .f32⟩
  | 120 => ⟨S4x768, .f32⟩
  | 121 => ⟨S4x768, .f32⟩
  | 122 => ⟨S_, .f32⟩
  | 123 => ⟨S4x768, .f32⟩
  | 124 => ⟨S4x768, .f32⟩
  | 125 => ⟨S4x768, .f32⟩
  | 126 => ⟨S_, .f32⟩
  | 127 => ⟨S4x768, .f32⟩
  | _ => ⟨S1x16, .f32⟩

abbrev hbmTy0_1 (i : Nat) : BufTy := match i % 128 with
  | 0 => ⟨S4x768, .f32⟩
  | 1 => ⟨S4x768, .f32⟩
  | 2 => ⟨S_, .f32⟩
  | 3 => ⟨S4x768, .f32⟩
  | 4 => ⟨S4x768, .f32⟩
  | 5 => ⟨S_, .f32⟩
  | 6 => ⟨S4x768, .f32⟩
  | 7 => ⟨S4x768, .f32⟩
  | 8 => ⟨S4x768, .f32⟩
  | 9 => ⟨S_, .f32⟩
  | 10 => ⟨S4x768, .f32⟩
  | 11 => ⟨S4x768, .f32⟩
  | 12 => ⟨S4x768, .f32⟩
  | 13 => ⟨S_, .f32⟩
  | 14 => ⟨S4x768, .f32⟩
  | 15 => ⟨S4x768, .f32⟩
  | 16 => ⟨S4x768, .f32⟩
  | 17 => ⟨S_, .f32⟩
  | 18 => ⟨S4x768, .f32⟩
  | 19 => ⟨S4x768, .f32⟩
  | _ => ⟨S1x16, .f32⟩

abbrev hbmTy (i : Nat) : BufTy := match i / 128 with
  | 0 => hbmTy0_0 i
  | 1 => hbmTy0_1 i
  | _ => ⟨S1x16, .f32⟩

abbrev bufTy : (tb : Table) → Fin (tcTables nBuf tb) → BufTy
  | .hbm, ⟨i, _⟩ => hbmTy i
  | _, _ => ⟨S1x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== AdamC.lean ====
abbrev S1x8 : Shape := ⟨2, ![1, 8]⟩
abbrev S1x128 : Shape := ⟨2, ![1, 128]⟩
abbrev S1x1024 : Shape := ⟨2, ![1, 1024]⟩

abbrev nBuf : Space → Nat
  | .hbm => 28
  | .vmem => 28
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x128, .f32⟩
  | .hbm, ⟨3, _⟩ => ⟨S1x1024, .f32⟩
  | .hbm, ⟨4, _⟩ => ⟨S1x8, .f32⟩
  | .hbm, ⟨5, _⟩ => ⟨S1x8, .f32⟩
  | .hbm, ⟨6, _⟩ => ⟨S1x128, .f32⟩
  | .hbm, ⟨7, _⟩ => ⟨S1x1024, .f32⟩
  | .hbm, ⟨8, _⟩ => ⟨S1x8, .f32⟩
  | .hbm, ⟨9, _⟩ => ⟨S1x8, .f32⟩
  | .hbm, ⟨10, _⟩ => ⟨S1x128, .f32⟩
  | .hbm, ⟨11, _⟩ => ⟨S1x1024, .f32⟩
  | .hbm, ⟨12, _⟩ => ⟨S1x8, .f32⟩
  | .hbm, ⟨13, _⟩ => ⟨S1x8, .f32⟩
  | .hbm, ⟨14, _⟩ => ⟨S1x128, .f32⟩
  | .hbm, ⟨15, _⟩ => ⟨S1x1024, .f32⟩
  | .hbm, ⟨16, _⟩ => ⟨S1x8, .f32⟩
  | .hbm, ⟨17, _⟩ => ⟨S1x8, .f32⟩
  | .hbm, ⟨18, _⟩ => ⟨S1x128, .f32⟩
  | .hbm, ⟨19, _⟩ => ⟨S1x1024, .f32⟩
  | .hbm, ⟨20, _⟩ => ⟨S1x8, .f32⟩
  | .hbm, ⟨21, _⟩ => ⟨S1x8, .f32⟩
  | .hbm, ⟨22, _⟩ => ⟨S1x128, .f32⟩
  | .hbm, ⟨23, _⟩ => ⟨S1x1024, .f32⟩
  | .hbm, ⟨24, _⟩ => ⟨S1x8, .f32⟩
  | .hbm, ⟨25, _⟩ => ⟨S1x8, .f32⟩
  | .hbm, ⟨26, _⟩ => ⟨S1x128, .f32⟩
  | .hbm, ⟨27, _⟩ => ⟨S1x1024, .f32⟩
  | .local _ .vmem, ⟨0, _⟩ => ⟨S1x8, .f32⟩
  | .local _ .vmem, ⟨1, _⟩ => ⟨S1x8, .f32⟩
  | .local _ .vmem, ⟨2, _⟩ => ⟨S1x128, .f32⟩
  | .local _ .vmem, ⟨3, _⟩ => ⟨S1x1024, .f32⟩
  | .local _ .vmem, ⟨4, _⟩ => ⟨S1x8, .f32⟩
  | .local _ .vmem, ⟨5, _⟩ => ⟨S1x8, .f32⟩
  | .local _ .vmem, ⟨6, _⟩ => ⟨S1x128, .f32⟩
  | .local _ .vmem, ⟨7, _⟩ => ⟨S1x1024, .f32⟩
  | .local _ .vmem, ⟨8, _⟩ => ⟨S1x8, .f32⟩
  | .local _ .vmem, ⟨9, _⟩ => ⟨S1x8, .f32⟩
  | .local _ .vmem, ⟨10, _⟩ => ⟨S1x128, .f32⟩
  | .local _ .vmem, ⟨11, _⟩ => ⟨S1x1024, .f32⟩
  | .local _ .vmem, ⟨12, _⟩ => ⟨S1x8, .f32⟩
  | .local _ .vmem, ⟨13, _⟩ => ⟨S1x8, .f32⟩
  | .local _ .vmem, ⟨14, _⟩ => ⟨S1x128, .f32⟩
  | .local _ .vmem, ⟨15, _⟩ => ⟨S1x1024, .f32⟩
  | .local _ .vmem, ⟨16, _⟩ => ⟨S1x8, .f32⟩
  | .local _ .vmem, ⟨17, _⟩ => ⟨S1x8, .f32⟩
  | .local _ .vmem, ⟨18, _⟩ => ⟨S1x128, .f32⟩
  | .local _ .vmem, ⟨19, _⟩ => ⟨S1x1024, .f32⟩
  | .local _ .vmem, ⟨20, _⟩ => ⟨S1x8, .f32⟩
  | .local _ .vmem, ⟨21, _⟩ => ⟨S1x8, .f32⟩
  | .local _ .vmem, ⟨22, _⟩ => ⟨S1x128, .f32⟩
  | .local _ .vmem, ⟨23, _⟩ => ⟨S1x1024, .f32⟩
  | .local _ .vmem, ⟨24, _⟩ => ⟨S1x8, .f32⟩
  | .local _ .vmem, ⟨25, _⟩ => ⟨S1x8, .f32⟩
  | .local _ .vmem, ⟨26, _⟩ => ⟨S1x128, .f32⟩
  | .local _ .vmem, ⟨27, _⟩ => ⟨S1x1024, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x8 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x8 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x8 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x8 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== AdamCRefIdeal.lean ====
abbrev S1x8 : Shape := ⟨2, ![1, 8]⟩
abbrev S1x128 : Shape := ⟨2, ![1, 128]⟩
abbrev S1x1024 : Shape := ⟨2, ![1, 1024]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S1x8, .f32⟩
  | 1 => ⟨S1x8, .f32⟩
  | 2 => ⟨S1x128, .f32⟩
  | 3 => ⟨S1x1024, .f32⟩
  | 4 => ⟨S1x8, .f32⟩
  | 5 => ⟨S1x8, .f32⟩
  | 6 => ⟨S1x128, .f32⟩
  | 7 => ⟨S1x1024, .f32⟩
  | 8 => ⟨S1x8, .f32⟩
  | 9 => ⟨S1x8, .f32⟩
  | 10 => ⟨S1x128, .f32⟩
  | 11 => ⟨S1x1024, .f32⟩
  | 12 => ⟨S1x8, .f32⟩
  | 13 => ⟨S1x8, .f32⟩
  | 14 => ⟨S1x128, .f32⟩
  | 15 => ⟨S1x1024, .f32⟩
  | 16 => ⟨S_, .f32⟩
  | 17 => ⟨S1x8, .f32⟩
  | 18 => ⟨S1x8, .f32⟩
  | 19 => ⟨S_, .f32⟩
  | 20 => ⟨S1x8, .f32⟩
  | 21 => ⟨S1x8, .f32⟩
  | 22 => ⟨S1x8, .f32⟩
  | 23 => ⟨S_, .f32⟩
  | 24 => ⟨S1x8, .f32⟩
  | 25 => ⟨S1x8, .f32⟩
  | 26 => ⟨S1x8, .f32⟩
  | 27 => ⟨S_, .f32⟩
  | 28 => ⟨S1x8, .f32⟩
  | 29 => ⟨S1x8, .f32⟩
  | 30 => ⟨S1x8, .f32⟩
  | 31 => ⟨S_, .f32⟩
  | 32 => ⟨S1x8, .f32⟩
  | 33 => ⟨S1x8, .f32⟩
  | 34 => ⟨S_, .f32⟩
  | 35 => ⟨S1x8, .f32⟩
  | 36 => ⟨S1x8, .f32⟩
  | 37 => ⟨S1x8, .f32⟩
  | 38 => ⟨S_, .f32⟩
  | 39 => ⟨S1x8, .f32⟩
  | 40 => ⟨S1x8, .f32⟩
  | 41 => ⟨S1x8, .f32⟩
  | 42 => ⟨S_, .f32⟩
  | 43 => ⟨S1x8, .f32⟩
  | 44 => ⟨S1x8, .f32⟩
  | 45 => ⟨S1x8, .f32⟩
  | 46 => ⟨S_, .f32⟩
  | 47 => ⟨S1x8, .f32⟩
  | 48 => ⟨S1x8, .f32⟩
  | 49 => ⟨S_, .f32⟩
  | 50 => ⟨S1x8, .f32⟩
  | 51 => ⟨S1x8, .f32⟩
  | 52 => ⟨S_, .f32⟩
  | 53 => ⟨S1x8, .f32⟩
  | 54 => ⟨S1x8, .f32⟩
  | 55 => ⟨S1x8, .f32⟩
  | 56 => ⟨S_, .f32⟩
  | 57 => ⟨S1x8, .f32⟩
  | 58 => ⟨S1x8, .f32⟩
  | 59 => ⟨S1x8, .f32⟩
  | 60 => ⟨S_, .f32⟩
  | 61 => ⟨S1x8, .f32⟩
  | 62 => ⟨S1x8, .f32⟩
  | 63 => ⟨S1x8, .f32⟩
  | 64 => ⟨S_, .f32⟩
  | 65 => ⟨S1x8, .f32⟩
  | 66 => ⟨S1x8, .f32⟩
  | 67 => ⟨S_, .f32⟩
  | 68 => ⟨S1x8, .f32⟩
  | 69 => ⟨S1x8, .f32⟩
  | 70 => ⟨S1x8, .f32⟩
  | 71 => ⟨S_, .f32⟩
  | 72 => ⟨S1x8, .f32⟩
  | 73 => ⟨S1x8, .f32⟩
  | 74 => ⟨S1x8, .f32⟩
  | 75 => ⟨S_, .f32⟩
  | 76 => ⟨S1x8, .f32⟩
  | 77 => ⟨S1x8, .f32⟩
  | 78 => ⟨S1x8, .f32⟩
  | 79 => ⟨S_, .f32⟩
  | 80 => ⟨S1x8, .f32⟩
  | 81 => ⟨S1x8, .f32⟩
  | 82 => ⟨S_, .f32⟩
  | 83 => ⟨S1x128, .f32⟩
  | 84 => ⟨S1x128, .f32⟩
  | 85 => ⟨S_, .f32⟩
  | 86 => ⟨S1x128, .f32⟩
  | 87 => ⟨S1x128, .f32⟩
  | 88 => ⟨S1x128, .f32⟩
  | 89 => ⟨S_, .f32⟩
  | 90 => ⟨S1x128, .f32⟩
  | 91 => ⟨S1x128, .f32⟩
  | 92 => ⟨S1x128, .f32⟩
  | 93 => ⟨S_, .f32⟩
  | 94 => ⟨S1x128, .f32⟩
  | 95 => ⟨S1x128, .f32⟩
  | 96 => ⟨S1x128, .f32⟩
  | 97 => ⟨S_, .f32⟩
  | 98 => ⟨S1x128, .f32⟩
  | 99 => ⟨S1x128, .f32⟩
  | 100 => ⟨S_, .f32⟩
  | 101 => ⟨S1x128, .f32⟩
  | 102 => ⟨S1x128, .f32⟩
  | 103 => ⟨S1x128, .f32⟩
  | 104 => ⟨S_, .f32⟩
  | 105 => ⟨S1x128, .f32⟩
  | 106 => ⟨S1x128, .f32⟩
  | 107 => ⟨S1x128, .f32⟩
  | 108 => ⟨S_, .f32⟩
  | 109 => ⟨S1x128, .f32⟩
  | 110 => ⟨S1x128, .f32⟩
  | 111 => ⟨S1x128, .f32⟩
  | 112 => ⟨S_, .f32⟩
  | 113 => ⟨S1x128, .f32⟩
  | 114 => ⟨S1x128, .f32⟩
  | 115 => ⟨S_, .f32⟩
  | 116 => ⟨S1x1024, .f32⟩
  | 117 => ⟨S1x1024, .f32⟩
  | 118 => ⟨S_, .f32⟩
  | 119 => ⟨S1x1024, .f32⟩
  | 120 => ⟨S1x1024, .f32⟩
  | 121 => ⟨S1x1024, .f32⟩
  | 122 => ⟨S_, .f32⟩
  | 123 => ⟨S1x1024, .f32⟩
  | 124 => ⟨S1x1024, .f32⟩
  | 125 => ⟨S1x1024, .f32⟩
  | 126 => ⟨S_, .f32⟩
  | 127 => ⟨S1x1024, .f32⟩
  | _ => ⟨S1x8, .f32⟩

abbrev hbmTy0_1 (i : Nat) : BufTy := match i % 128 with
  | 0 => ⟨S1x1024, .f32⟩
  | 1 => ⟨S1x1024, .f32⟩
  | 2 => ⟨S_, .f32⟩
  | 3 => ⟨S1x1024, .f32⟩
  | 4 => ⟨S1x1024, .f32⟩
  | 5 => ⟨S_, .f32⟩
  | 6 => ⟨S1x1024, .f32⟩
  | 7 => ⟨S1x1024, .f32⟩
  | 8 => ⟨S1x1024, .f32⟩
  | 9 => ⟨S_, .f32⟩
  | 10 => ⟨S1x1024, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S1x1024, .f32⟩
  | 17 => ⟨S_, .f32⟩
  | 18 => ⟨S1x1024, .f32⟩
  | 19 => ⟨S1x1024, .f32⟩
  | _ => ⟨S1x8, .f32⟩

abbrev hbmTy (i : Nat) : BufTy := match i / 128 with
  | 0 => hbmTy0_0 i
  | 1 => hbmTy0_1 i
  | _ => ⟨S1x8, .f32⟩

abbrev bufTy : (tb : Table) → Fin (tcTables nBuf tb) → BufTy
  | .hbm, ⟨i, _⟩ => hbmTy i
  | _, _ => ⟨S1x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== SumSmall.lean ====
abbrev S8x8x8320 : Shape := ⟨3, ![8, 8, 8320]⟩
abbrev S8x8320 : Shape := ⟨2, ![8, 8320]⟩
abbrev S1x8x8320 : Shape := ⟨3, ![1, 8, 8320]⟩
abbrev S1x1 : Shape := ⟨2, ![1, 1]⟩
abbrev S_ : Shape := ⟨0, ![]⟩
abbrev S1x1024 : Shape := ⟨2, ![1, 1024]⟩
abbrev S4x384 : Shape := ⟨2, ![4, 384]⟩
abbrev S1x1536 : Shape := ⟨2, ![1, 1536]⟩
abbrev S1x16 : Shape := ⟨2, ![1, 16]⟩
abbrev S4x768 : Shape := ⟨2, ![4, 768]⟩
abbrev S1x8 : Shape := ⟨2, ![1, 8]⟩
abbrev S1x128 : Shape := ⟨2, ![1, 128]⟩

abbrev nBuf : Space → Nat
  | .hbm => 16
  | .vmem => 2
  | .smem => 0
  | _ => 0

abbrev bufTy : (tb : Table) → Fin (tcTables nBuf tb) → BufTy
  | .hbm, ⟨0, _⟩ => ⟨S8x8x8320, .f32⟩
  | .hbm, ⟨1, _⟩ => ⟨S8x8320, .f32⟩
  | .hbm, ⟨2, _⟩ => ⟨S1x1, .f32⟩
  | .hbm, ⟨3, _⟩ => ⟨S_, .f32⟩
  | .hbm, ⟨4, _⟩ => ⟨S1x1024, .f32⟩
  | .hbm, ⟨5, _⟩ => ⟨S4x384, .f32⟩
  | .hbm, ⟨6, _⟩ => ⟨S1x1536, .f32⟩
  | .hbm, ⟨7, _⟩ => ⟨S1x16, .f32⟩
  | .hbm, ⟨8, _⟩ => ⟨S1x16, .f32⟩
  | .hbm, ⟨9, _⟩ => ⟨S1x16, .f32⟩
  | .hbm, ⟨10, _⟩ => ⟨S1x1024, .f32⟩
  | .hbm, ⟨11, _⟩ => ⟨S4x768, .f32⟩
  | .hbm, ⟨12, _⟩ => ⟨S1x8, .f32⟩
  | .hbm, ⟨13, _⟩ => ⟨S1x8, .f32⟩
  | .hbm, ⟨14, _⟩ => ⟨S1x128, .f32⟩
  | .hbm, ⟨15, _⟩ => ⟨S1x1024, .f32⟩
  | .local _ .vmem, ⟨0, _⟩ => ⟨S8x8x8320, .f32⟩
  | .local _ .vmem, ⟨1, _⟩ => ⟨S8x8320, .f32⟩
  | _, _ => ⟨S8x8x8320, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x8320 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x8320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallRefIdeal.lean ====
abbrev S8x8x8320 : Shape := ⟨3, ![8, 8, 8320]⟩
abbrev S_ : Shape := ⟨0, ![]⟩
abbrev S8x8320 : Shape := ⟨2, ![8, 8320]⟩
abbrev S1x1 : Shape := ⟨2, ![1, 1]⟩
abbrev S1x1024 : Shape := ⟨2, ![1, 1024]⟩
abbrev S4x384 : Shape := ⟨2, ![4, 384]⟩
abbrev S1x1536 : Shape := ⟨2, ![1, 1536]⟩
abbrev S1x16 : Shape := ⟨2, ![1, 16]⟩
abbrev S4x768 : Shape := ⟨2, ![4, 768]⟩
abbrev S1x8 : Shape := ⟨2, ![1, 8]⟩
abbrev S1x128 : Shape := ⟨2, ![1, 128]⟩

abbrev nBuf : Space → Nat
  | .hbm => 17
  | .vmem => 0
  | .smem => 0
  | _ => 0

abbrev bufTy : (tb : Table) → Fin (tcTables nBuf tb) → BufTy
  | .hbm, ⟨0, _⟩ => ⟨S8x8x8320, .f32⟩
  | .hbm, ⟨1, _⟩ => ⟨S_, .f32⟩
  | .hbm, ⟨2, _⟩ => ⟨S8x8320, .f32⟩
  | .hbm, ⟨3, _⟩ => ⟨S1x1, .f32⟩
  | .hbm, ⟨4, _⟩ => ⟨S_, .f32⟩
  | .hbm, ⟨5, _⟩ => ⟨S1x1024, .f32⟩
  | .hbm, ⟨6, _⟩ => ⟨S4x384, .f32⟩
  | .hbm, ⟨7, _⟩ => ⟨S1x1536, .f32⟩
  | .hbm, ⟨8, _⟩ => ⟨S1x16, .f32⟩
  | .hbm, ⟨9, _⟩ => ⟨S1x16, .f32⟩
  | .hbm, ⟨10, _⟩ => ⟨S1x16, .f32⟩
  | .hbm, ⟨11, _⟩ => ⟨S1x1024, .f32⟩
  | .hbm, ⟨12, _⟩ => ⟨S4x768, .f32⟩
  | .hbm, ⟨13, _⟩ => ⟨S1x8, .f32⟩
  | .hbm, ⟨14, _⟩ => ⟨S1x8, .f32⟩
  | .hbm, ⟨15, _⟩ => ⟨S1x128, .f32⟩
  | .hbm, ⟨16, _⟩ => ⟨S1x1024, .f32⟩
  | _, _ => ⟨S8x8x8320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩

abbrev nD : Nat := 1
abbrev τ : Topo := Topo.v7x

variable {F : FTy → Type} [FloatOps F]
-- ==== Proof.OutProj.Rows.lean ====
/-
  One token's arithmetic in the output projection, the final RMSNorm and the loss: functions of the token's row,
  over the extended reals, which both the kernel's block and the reference's array are read to.
-/
module

public import Idealize.ShloMosaic.Lib.Pipeline.ValueKit
public import Idealize.ShloMosaic.Lib.Pointwise

@[expose] public section

set_option maxRecDepth 16384

noncomputable section

open Idealize.ShloMosaic

namespace Cert.OutProj

/-- A row of 1024 features. -/
abbrev Row := Fin 1024 → EReal

/-- The mean of a row's squares plus the norm's epsilon. -/
def ms (h : Row) : EReal :=
  Ideal.div (∑ k, h k * h k) (Ideal.ofBits .f32 0x44800000#32) + Ideal.ofBits .f32 0x358637BD#32

/-- The row's scale `1 / sqrt(ms)`. -/
def rs (h : Row) : EReal := Ideal.rsqrt (ms h)

/-- The derivative of the scale with respect to `ms`. -/
def drs (h : Row) : EReal := Ideal.ofBits .f32 0xBF000000#32 * Ideal.div (rs h) (ms h)

/-- The norm's output less the target. -/
def err (h w t : Row) : Row := fun k => h k * rs h * w k - t k

/-- The cotangent of the norm's output: the error over the number of features. -/
def ct (h w t : Row) : Row := fun k => err h w t k * Ideal.ofBits .f32 0x3A800000#32

/-- The cotangent of the mean of squares, already divided by the number of features. -/
def dms (h w t : Row) : EReal :=
  Ideal.div ((∑ k, h k * (ct h w t k * w k)) * drs h) (Ideal.ofBits .f32 0x44800000#32)

/-- The gradient with respect to the row before the norm. -/
def dhid (h w t : Row) : Row := fun k =>
  ct h w t k * w k * rs h + h k * dms h w t + dms h w t * h k

/-- The row's mean squared error. -/
def mse (h w t : Row) : EReal := Ideal.div (∑ k, err h w t k * err h w t k) (Ideal.ofBits .f32 0x44800000#32)

/-- Half of one over the number of features, times twice an error, is the error over the number of features. -/
theorem ct_const (e : EReal) : Ideal.div (Ideal.ofBits .f32 0x3F000000#32) (Ideal.ofBits .f32 0x44800000#32)
    * (Ideal.ofBits .f32 0x40000000#32 * e) = e * Ideal.ofBits .f32 0x3A800000#32 := by
  have h1 : Ideal.ofBits .f32 0x3F000000#32 = (((1 : ℝ) / 2 : ℝ) : EReal) := by
    simp [Ideal.ofBits, Ideal.ieee, -EReal.coe_mul]; norm_num
  have h2 : Ideal.ofBits .f32 0x44800000#32 = ((1024 : ℝ) : EReal) := by
    simp [Ideal.ofBits, Ideal.ieee, -EReal.coe_mul]; norm_num
  have h3 : Ideal.ofBits .f32 0x40000000#32 = ((2 : ℝ) : EReal) := by
    simp [Ideal.ofBits, Ideal.ieee, -EReal.coe_mul]; norm_num
  have h4 : Ideal.ofBits .f32 0x3A800000#32 = (((1 : ℝ) / 1024 : ℝ) : EReal) := by
    simp [Ideal.ofBits, Ideal.ieee, -EReal.coe_mul]; norm_num
  rw [h1, h2, h3, h4, Ideal.div_coe (by norm_num), ← mul_assoc, ← EReal.coe_mul, ← EReal.coe_mul, mul_comm]
  norm_num

/-- A sum of halves is half the sum. -/
theorem half_sum {n : ℕ} (f : Fin n → EReal) : ∑ p, Ideal.ofBits .f32 0x3F000000#32 * f p
    = Ideal.ofBits .f32 0x3F000000#32 * ∑ p, f p := by
  have h1 : Ideal.ofBits .f32 0x3F000000#32 = (((1 : ℝ) / 2 : ℝ) : EReal) := by
    simp [Ideal.ofBits, Ideal.ieee, -EReal.coe_mul]; norm_num
  have hd : ∀ a b : EReal, (((1 : ℝ) / 2 : ℝ) : EReal) * (a + b) = (((1 : ℝ) / 2 : ℝ) : EReal) * a + (((1 : ℝ) / 2 : ℝ) : EReal) * b :=
    fun a b => EReal.left_distrib_of_nonneg_of_ne_top (by norm_num) (EReal.coe_ne_top _) a b
  rw [h1]
  exact (map_sum (⟨⟨fun a => (((1 : ℝ) / 2 : ℝ) : EReal) * a, mul_zero _⟩, hd⟩ : EReal →+ EReal) f Finset.univ).symm

end Cert.OutProj
-- ==== Proof.OutProj.Block.lean ====
/-
  What one grid point of the output-projection kernel computes from its blocks, read at an index.
-/
module

public import proofs.«01_k».proof.Proof.Gen.KernelIdeal.Value
public import proofs.«01_k».proof.Proof.OutProj.Rows

@[expose] public section

set_option maxRecDepth 16384

noncomputable section

open Idealize.ShloMosaic Idealize.ShloMosaic.TcCoe Idealize.SL.Sem
open Cert.OutProj

namespace Cert.KernelIdeal.Value

open Cert.KernelIdeal Cert.KernelIdeal.Gen

section Block

variable (ys yg : FVec Ideal S512x1024 .bf16) (ws wg : FVec Ideal S1024x1024 .bf16) (x : FVec Ideal S512x1024 .f32)
  (fw : FVec Ideal S1x1024 .f32) (tg : FVec Ideal S512x1024 .f32)

/-- Row `r` of the block of hidden states. -/
def hrow (r : Fin 512) : Row := fun k => k0_pay6 (F := Ideal) ys yg ws wg x (ix2 r k)
/-- The norm's weights as a row. -/
def wrow : Row := fun k => fw (ix2 0 k)
/-- Row `r` of the block of targets. -/
def trow (r : Fin 512) : Row := fun k => tg (ix2 r k)

theorem pay6_apply (r : Fin 512) (j : Fin 1024) : k0_pay6 (F := Ideal) ys yg ws wg x (ix2 r j)
    = x (ix2 r j) + ∑ k : Fin 1024, ys (ix2 r k) * ws (ix2 k j) + ∑ k : Fin 1024, yg (ix2 r k) * wg (ix2 k j) := by
  pointwise [k0_pay6]

theorem pay7_apply (r : Fin 512) : k0_pay7 (F := Ideal) ys yg ws wg x (ix2 r 0) = ms (hrow ys yg ws wg x r) := by
  pointwise [k0_pay7, ms, hrow]

theorem pay8_apply (r : Fin 512) : k0_pay8 (F := Ideal) ys yg ws wg x (ix2 r 0) = rs (hrow ys yg ws wg x r) := by
  pointwise [k0_pay8, rs, ← pay7_apply]

theorem pay9_apply (r : Fin 512) : k0_pay9 (F := Ideal) ys yg ws wg x (ix2 r 0) = drs (hrow ys yg ws wg x r) := by
  pointwise [k0_pay9, drs, ← pay7_apply, ← pay8_apply]

theorem pay10_apply (r : Fin 512) (j : Fin 1024) : k0_pay10 (F := Ideal) ys yg ws wg x (ix2 r j)
    = hrow ys yg ws wg x r j * rs (hrow ys yg ws wg x r) := by
  pointwise [k0_pay10, ← pay8_apply, hrow]

theorem pay11_apply (r : Fin 512) (j : Fin 1024) : k0_pay11 (F := Ideal) ys yg ws wg x fw tg (ix2 r j)
    = err (hrow ys yg ws wg x r) (wrow fw) (trow tg r) j := by
  pointwise [k0_pay11, pay10_apply, err, trow, wrow]

theorem pay14_apply (r : Fin 512) (j : Fin 1024) : k0_pay14 (F := Ideal) (k0_pay11 (F := Ideal) ys yg ws wg x fw tg) (ix2 r j)
    = ct (hrow ys yg ws wg x r) (wrow fw) (trow tg r) j := by
  pointwise [k0_pay14, pay11_apply, ct]

/-- The block of gradients with respect to the hidden states. -/
abbrev dhidB : FVec Ideal S512x1024 .f32 :=
  k0_pay16 (F := Ideal) (k0_pay6 (F := Ideal) ys yg ws wg x) fw (k0_pay8 (F := Ideal) ys yg ws wg x) (k0_pay9 (F := Ideal) ys yg ws wg x) (k0_pay11 (F := Ideal) ys yg ws wg x fw tg)

theorem pay16_apply (r : Fin 512) (j : Fin 1024) : dhidB ys yg ws wg x fw tg (ix2 r j)
    = dhid (hrow ys yg ws wg x r) (wrow fw) (trow tg r) j := by
  pointwise [Fin.sum_univ_one, dhidB, k0_pay16, pay14_apply, pay8_apply, pay9_apply, dhid, dms, hrow, wrow]

/-- The block's sum of the norm's output cotangent against the normalised rows. -/
theorem pay15_apply (j : Fin 1024) : k0_pay15 (F := Ideal) (k0_pay10 (F := Ideal) ys yg ws wg x) (k0_pay11 (F := Ideal) ys yg ws wg x fw tg) (ix2 0 j)
    = ∑ r : Fin 512, hrow ys yg ws wg x r j * rs (hrow ys yg ws wg x r)
        * ct (hrow ys yg ws wg x r) (wrow fw) (trow tg r) j := by
  pointwise [k0_pay15, pay14_apply, pay10_apply]

theorem pay19_apply (a : Fin 8) (b : Fin 128) : k0_pay19 (F := Ideal) (k0_pay12 (F := Ideal) ys yg ws wg x fw tg) (k0_pay13 (F := Ideal)) (ix2 a b)
    = Ideal.ofBits .f32 0x3F000000#32 * ∑ r : Fin 512, mse (hrow ys yg ws wg x r) (wrow fw) (trow tg r) := by
  pointwise [Fin.sum_univ_one, k0_pay19, k0_pay12, k0_pay13, pay11_apply, mse]

end Block

section Products

variable (w : FVec Ideal S1024x1024 .bf16) (h : FVec Ideal S512x1024 .f32) (fw : FVec Ideal S1x1024 .f32)
  (a b : FVec Ideal S512x1 .f32) (e d : FVec Ideal S512x1024 .f32) (y : FVec Ideal S512x1024 .bf16)

theorem pay17_apply (r : Fin 512) (j : Fin 1024) : k0_pay17 (F := Ideal) w h fw a b e (ix2 r j)
    = ∑ k : Fin 1024, k0_pay16 (F := Ideal) h fw a b e (ix2 r k) * w (ix2 j k) := by
  pointwise [k0_pay17]

theorem pay18_apply (r : Fin 512) (j : Fin 1024) : k0_pay18 (F := Ideal) w h fw a b e (ix2 r j)
    = ∑ k : Fin 1024, k0_pay16 (F := Ideal) h fw a b e (ix2 r k) * w (ix2 j k) := by
  pointwise [k0_pay18]

theorem pay2_apply (i j : Fin 1024) : k0_pay2 (F := Ideal) y d (ix2 i j) = ∑ r : Fin 512, d (ix2 r j) * y (ix2 r i) := by
  pointwise [k0_pay2, mul_comm]

theorem pay3_apply (i j : Fin 1024) : k0_pay3 (F := Ideal) y d (ix2 i j) = ∑ r : Fin 512, d (ix2 r j) * y (ix2 r i) := by
  pointwise [k0_pay3, mul_comm]

theorem pay4_apply (acc : FVec Ideal S1024x1024 .f32) (i j : Fin 1024) : k0_pay4 (F := Ideal) y d acc (ix2 i j)
    = acc (ix2 i j) + ∑ r : Fin 512, d (ix2 r j) * y (ix2 r i) := by
  pointwise [k0_pay4, mul_comm]

theorem pay5_apply (acc : FVec Ideal S1024x1024 .f32) (i j : Fin 1024) : k0_pay5 (F := Ideal) y d acc (ix2 i j)
    = acc (ix2 i j) + ∑ r : Fin 512, d (ix2 r j) * y (ix2 r i) := by
  pointwise [k0_pay5, mul_comm]

theorem pay1_apply (v acc : FVec Ideal S1x1024 .f32) (j : Fin 1024) : k0_pay1 (F := Ideal) v acc (ix2 0 j)
    = acc (ix2 0 j) + v (ix2 0 j) := by
  pointwise [k0_pay1]

theorem pay20_apply (u v : FVec Ideal S1x1 .f32) (acc : FVec Ideal S8x128 .f32) (i : Fin 8) (j : Fin 128) :
    k0_pay20 (F := Ideal) u v acc (ix2 i j) = acc (ix2 i j) + k0_pay19 (F := Ideal) u v (ix2 i j) := by
  pointwise [k0_pay20, k0_pay19]

end Products

end Cert.KernelIdeal.Value
-- ==== Proof.OutProj.RefRows.lean ====
/-
  The reference program's arrays, read row by row with the functions of `Rows`.
-/
module

public import proofs.«01_k».proof.Proof.Gen.ReferenceIdeal.Read
public import proofs.«01_k».proof.Proof.OutProj.Rows

@[expose] public section

set_option maxRecDepth 16384

noncomputable section

open Idealize.ShloMosaic Idealize.ShloMosaic.TcCoe Idealize.SL.Sem
open Cert.OutProj

namespace Cert.ReferenceIdeal.Read

open Cert.ReferenceIdeal Cert.ReferenceIdeal.Gen Idealize.ShloMosaic.StableHlo

section Arrays

variable (x : FVec Ideal S8192x1024 .f32) (ys yg : FVec Ideal S8192x1024 .bf16) (wo : FVec Ideal S2048x1024 .bf16)
  (fw : FVec Ideal S1x1024 .f32) (tg : FVec Ideal S8192x1024 .f32)

/-- Token `r`'s hidden state: its residual row plus the two heads' outputs through the two halves of the projection. -/
def HR (r : Fin 8192) : Row := fun j => x (ix2 r j) + ∑ k : Fin 1024, ys (ix2 r k) * wo (ix2 ⟨k.val, by omega⟩ j)
  + ∑ k : Fin 1024, yg (ix2 r k) * wo (ix2 ⟨1024 + k.val, by omega⟩ j)
/-- The norm's weights. -/
def WR : Row := fun k => fw (ix2 0 k)
/-- Token `r`'s target. -/
def TR (r : Fin 8192) : Row := fun k => tg (ix2 r k)

theorem v5_apply (r : Fin 8192) (j : Fin 1024) : val_main_v5 (F := Ideal) x ys yg wo (ix2 r j) = HR x ys yg wo r j := by
  pointwise [val_main_v5, val_main_v4, val_main_v3, val_main_v2, val_main_v1, val_main_v0, HR, add_assoc]

theorem v12_apply (r : Fin 8192) : val_main_v12 (F := Ideal) x ys yg wo (ix2 r 0) = ms (HR x ys yg wo r) := by
  pointwise [val_main_v12, val_main_v11, val_main_v10, val_main_v9, val_main_v8, val_main_v7, val_main_v6, val_main_cst,
    val_main_cst_0, val_main_cst_1, v5_apply, ms]

theorem v13_apply (r : Fin 8192) : val_main_v13 (F := Ideal) x ys yg wo (ix2 r 0) = rs (HR x ys yg wo r) := by
  pointwise [val_main_v13, v12_apply, rs]

theorem v16_apply (r : Fin 8192) : val_main_v16 (F := Ideal) x ys yg wo (ix2 r 0) = drs (HR x ys yg wo r) := by
  pointwise [val_main_v16, val_main_v15, val_main_v14, val_main_cst_2, v12_apply, v13_apply, drs]

theorem v18_apply (r : Fin 8192) (j : Fin 1024) : val_main_v18 (F := Ideal) x ys yg wo (ix2 r j)
    = HR x ys yg wo r j * rs (HR x ys yg wo r) := by
  pointwise [val_main_v18, val_main_v17, v13_apply, v5_apply]

theorem v21_apply (r : Fin 8192) (j : Fin 1024) : val_main_v21 (F := Ideal) x ys yg wo fw tg (ix2 r j)
    = err (HR x ys yg wo r) (WR fw) (TR tg r) j := by
  pointwise [val_main_v21, val_main_v20, val_main_v19, v18_apply, err, WR, TR]

theorem v35_apply (r : Fin 8192) (j : Fin 1024) : val_main_v35 (F := Ideal) x ys yg wo fw tg (ix2 r j)
    = ct (HR x ys yg wo r) (WR fw) (TR tg r) j := by
  pointwise [val_main_v35, val_main_v34, val_main_v33, val_main_v32, val_main_v31, val_main_v30, val_main_cst_8,
    val_main_cst_9, val_main_cst_10, val_main_v24, val_main_v23, val_main_cst_3, v21_apply, ct, ct_const]

theorem v50_apply (r : Fin 8192) (j : Fin 1024) : val_main_v50 (F := Ideal) x ys yg wo fw tg (ix2 r j)
    = dms (HR x ys yg wo r) (WR fw) (TR tg r) := by
  pointwise [Fin.sum_univ_one, val_main_v50, val_main_v49, val_main_v48, val_main_v47, val_main_v46, val_main_v43, val_main_v42,
    val_main_v41, val_main_v40, val_main_v39, val_main_cst_12, val_main_cst_13, val_main_cst_14, v35_apply, v16_apply,
    v5_apply, dms, WR]

theorem v54_apply (r : Fin 8192) (j : Fin 1024) : val_main_v54 (F := Ideal) x ys yg wo fw tg (ix2 r j)
    = dhid (HR x ys yg wo r) (WR fw) (TR tg r) j := by
  pointwise [val_main_v54, val_main_v53, val_main_v52, val_main_v51, val_main_v45, val_main_v44, val_main_v40, val_main_v39,
    v50_apply, v35_apply, v13_apply, v5_apply, dhid, WR]

theorem v60_apply (a : Fin 8) (b : Fin 128) : val_main_v60 (F := Ideal) x ys yg wo fw tg (ix2 a b)
    = Ideal.ofBits .f32 0x3F000000#32 * ∑ r : Fin 8192, mse (HR x ys yg wo r) (WR fw) (TR tg r) := by
  pointwise [val_main_v60, val_main_v29, val_main_v28, val_main_v27, val_main_v26, val_main_v25, val_main_v22, val_main_cst_4,
    val_main_cst_5, val_main_cst_6, val_main_cst_7, v21_apply, mse]

theorem v38_apply (j : Fin 1024) : val_main_v38 (F := Ideal) x ys yg wo fw tg (ix2 0 j)
    = ∑ r : Fin 8192, HR x ys yg wo r j * rs (HR x ys yg wo r) * ct (HR x ys yg wo r) (WR fw) (TR tg r) j := by
  pointwise [val_main_v38, val_main_v37, val_main_v36, val_main_cst_11, v35_apply, v18_apply]

theorem v58_apply (r : Fin 8192) (j : Fin 1024) : val_main_v58 (F := Ideal) x ys yg wo fw tg (ix2 r j)
    = ∑ k : Fin 1024, dhid (HR x ys yg wo r) (WR fw) (TR tg r) k * wo (ix2 ⟨j.val, by omega⟩ k) := by
  pointwise [val_main_v58, val_main_v57, val_main_v2, v54_apply]

theorem v59_apply (r : Fin 8192) (j : Fin 1024) : val_main_v59 (F := Ideal) x ys yg wo fw tg (ix2 r j)
    = ∑ k : Fin 1024, dhid (HR x ys yg wo r) (WR fw) (TR tg r) k * wo (ix2 ⟨1024 + j.val, by omega⟩ k) := by
  pointwise [val_main_v59, val_main_v57, val_main_v2, v54_apply]

theorem v56_lo (i j : Fin 1024) : val_main_v56 (F := Ideal) x ys yg wo fw tg (ix2 ⟨i.val, by omega⟩ j)
    = ∑ r : Fin 8192, dhid (HR x ys yg wo r) (WR fw) (TR tg r) j * ys (ix2 r i) := by
  pointwise [val_main_v56, val_main_v55, val_main_v3, val_main_v0, val_main_v1, v54_apply]

theorem v56_hi (i j : Fin 1024) : val_main_v56 (F := Ideal) x ys yg wo fw tg (ix2 ⟨1024 + i.val, by omega⟩ j)
    = ∑ r : Fin 8192, dhid (HR x ys yg wo r) (WR fw) (TR tg r) j * yg (ix2 r i) := by
  pointwise [val_main_v56, val_main_v55, val_main_v3, val_main_v0, val_main_v1, v54_apply]

end Arrays
end Cert.ReferenceIdeal.Read
-- ==== Proof.OutProj.Tiles.lean ====
/-
  The three arrays the output-projection kernel writes block by block: the gradients of the residual stream and of the
  two heads' outputs. Each is the reference's array.
-/
module

public import proofs.«01_k».proof.Proof.OutProj.Block
public import proofs.«01_k».proof.Proof.OutProj.RefRows

@[expose] public section

set_option maxRecDepth 16384

noncomputable section

open Idealize.ShloMosaic Idealize.ShloMosaic.TcCoe Idealize.SL.Sem
open Cert.OutProj
open Cert.ReferenceIdeal.Read (HR WR TR val_main_v54 val_main_v58 val_main_v59 val_main_v56 val_main_v38 val_main_v60
  v54_apply v58_apply v59_apply v56_lo v56_hi v38_apply v60_apply)

namespace Cert.KernelIdeal.Value

open Cert.KernelIdeal Cert.KernelIdeal.Gen

variable (m : (ℓ : Loc nD τ sig) → Buf (Elt Ideal) ℓ)

/-- Which block of its array each window holds at point `t`. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_7.index t = ![t.val, 0]
    ∧ win0_8.index t = ![t.val, 0] ∧ win0_9.index t = ![t.val, 0] :=
  (by decide +kernel : ∀ t : Fin grid0.N, _)

/-- The first half of the projection as the body loads it. -/
abbrev wlo (c : Dev nD) (t : Fin cfg0.N) : FVec Ideal S1024x1024 .bf16 :=
  View.ld (iblk m c 3 t) (Rect.unit ![0, 0] ![1024, 1024] inb_S2048x1024_S1024x1024_0_0)
/-- The second half. -/
abbrev whi (c : Dev nD) (t : Fin cfg0.N) : FVec Ideal S1024x1024 .bf16 :=
  View.ld (iblk m c 3 t) (Rect.unit ![1024, 0] ![1024, 1024] inb_S2048x1024_S1024x1024_1024_0)

/-- Token `r`'s hidden state, from the launch's arguments. -/
abbrev HA (c : Dev nD) (r : Fin 8192) : Row := HR (m ((c.tc : Thread nD τ).loc main_arg0)) (m ((c.tc : Thread nD τ).loc main_arg1))
  (m ((c.tc : Thread nD τ).loc main_arg2)) (m ((c.tc : Thread nD τ).loc main_arg3)) r
/-- The norm's weights, from the launch's arguments. -/
abbrev WA (c : Dev nD) : Row := WR (m ((c.tc : Thread nD τ).loc main_arg4))
/-- Token `r`'s target, from the launch's arguments. -/
abbrev TA (c : Dev nD) (r : Fin 8192) : Row := TR (m ((c.tc : Thread nD τ).loc main_arg5)) r

theorem lt_rows (t : Fin cfg0.N) (r : Fin 512) : t.val * 512 + r.val < 8192 := by
  have := lt_of_lt_of_eq t.isLt N_0; omega

/-- The token at row `r` of point `t`'s block. -/
abbrev tok (t : Fin cfg0.N) (r : Fin 512) : Fin 8192 := ⟨t.val * 512 + r.val, lt_rows t r⟩

theorem wlo_apply (c : Dev nD) (t : Fin cfg0.N) (k j : Fin 1024) :
    wlo m c t (ix2 k j) = m ((c.tc : Thread nD τ).loc main_arg3) (ix2 ⟨k.val, by omega⟩ j) := by
  unfold wlo
  blk_point [iblk, V, idx t]

theorem whi_apply (c : Dev nD) (t : Fin cfg0.N) (k j : Fin 1024) :
    whi m c t (ix2 k j) = m ((c.tc : Thread nD τ).loc main_arg3) (ix2 ⟨1024 + k.val, by omega⟩ j) := by
  unfold whi
  blk_point [iblk, V, idx t]

theorem hrow_eq (c : Dev nD) (t : Fin cfg0.N) (r : Fin 512) :
    hrow (iblk m c 1 t) (iblk m c 2 t) (wlo m c t) (whi m c t) (iblk m c 0 t) r = HA m c (tok t r) := by
  funext j
  simp only [hrow, HA, HR]
  rw [pay6_apply]
  simp only [wlo_apply, whi_apply]
  blk_point [iblk, V, idx t]

theorem wrow_eq (c : Dev nD) (t : Fin cfg0.N) : wrow (iblk m c 4 t) = WA m c := by
  funext j
  simp only [wrow, WA, WR]
  blk_point [iblk, V, idx t]

theorem trow_eq (c : Dev nD) (t : Fin cfg0.N) (r : Fin 512) : trow (iblk m c 5 t) r = TA m c (tok t r) := by
  funext j
  simp only [trow, TA, TR]
  blk_point [iblk, V, idx t]

/-- The block of gradients of the hidden states at point `t`. -/
abbrev dhidT (c : Dev nD) (t : Fin cfg0.N) : FVec Ideal S512x1024 .f32 :=
  dhidB (iblk m c 1 t) (iblk m c 2 t) (wlo m c t) (whi m c t) (iblk m c 0 t) (iblk m c 4 t) (iblk m c 5 t)

theorem dhidT_apply (c : Dev nD) (t : Fin cfg0.N) (r : Fin 512) (j : Fin 1024) :
    dhidT m c t (ix2 r j) = dhid (HA m c (tok t r)) (WA m c) (TA m c (tok t r)) j :=
  (pay16_apply ..).trans (by rw [hrow_eq, wrow_eq, trow_eq])

/-- The array of gradients of the residual stream. -/
theorem final7 (c : Dev nD) : (dats m 0 c).arrAt 7 (cfgs 0).N
    = val_main_v54 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  refine (dats m 0 c).arrAt_eq_of_covers 7 _ (by decide +kernel) fun t hf y => ?_
  blk_simp
  rw [after0_7]
  have hN := lt_of_lt_of_eq t.isLt N_0
  have key : dhidT m c t y = val_main_v54 (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5))
      (((View.whole main_v0_1).slice (win0_7.rect t)).emb y) := by
    idx_vars y
    refine (dhidT_apply m c t y0 y1).trans ((v54_apply _ _ _ _ _ _ (tok t y0) y1).symm.trans ?_)
    blk_ext [idx t]
  by_cases ht : t.val = 0
  · rw [outsAt0_A m c t (by omega) (by omega) (by omega) (by omega) (by omega) (by omega)]
    frame_out
    exact key
  · rw [outsAt0_B m c t (by omega) (by omega) (by omega) (by omega) (by omega) (by omega)]
    frame_out
    exact key

/-- The block of gradients of the scan heads' outputs at point `t`. -/
abbrev dysT (c : Dev nD) (t : Fin cfg0.N) : FVec Ideal S512x1024 .f32 :=
  k0_pay17 (F := Ideal) (wlo m c t) (k0_pay6 (F := Ideal) (iblk m c 1 t) (iblk m c 2 t) (wlo m c t) (whi m c t) (iblk m c 0 t))
    (iblk m c 4 t) (k0_pay8 (F := Ideal) (iblk m c 1 t) (iblk m c 2 t) (wlo m c t) (whi m c t) (iblk m c 0 t))
    (k0_pay9 (F := Ideal) (iblk m c 1 t) (iblk m c 2 t) (wlo m c t) (whi m c t) (iblk m c 0 t))
    (k0_pay11 (F := Ideal) (iblk m c 1 t) (iblk m c 2 t) (wlo m c t) (whi m c t) (iblk m c 0 t) (iblk m c 4 t) (iblk m c 5 t))

theorem dysT_apply (c : Dev nD) (t : Fin cfg0.N) (r : Fin 512) (j : Fin 1024) : dysT m c t (ix2 r j)
    = ∑ k : Fin 1024, dhid (HA m c (tok t r)) (WA m c) (TA m c (tok t r)) k
        * m ((c.tc : Thread nD τ).loc main_arg3) (ix2 ⟨j.val, by omega⟩ k) := by
  refine (pay17_apply ..).trans (Finset.sum_congr rfl fun k _ => ?_)
  rw [wlo_apply]
  exact congrArg (· * _) (dhidT_apply m c t r k)

/-- The array of gradients of the scan heads' outputs. -/
theorem final8 (c : Dev nD) : (dats m 0 c).arrAt 8 (cfgs 0).N
    = val_main_v58 (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) := by
  refine (dats m 0 c).arrAt_eq_of_covers 8 _ (by decide +kernel) fun t hf y => ?_
  blk_simp
  rw [after0_8]
  have hN := lt_of_lt_of_eq t.isLt N_0
  have key : dysT m c t y = val_main_v58 (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5))
      (((View.whole main_v0_2).slice (win0_8.rect t)).emb y) := by
    idx_vars y
    refine (dysT_apply m c t y0 y1).trans ((v58_apply _ _ _ _ _ _ (tok t y0) y1).symm.trans ?_)
    blk_ext [idx t]
  by_cases ht : t.val = 0
  · rw [outsAt0_A m c t (by omega) (by omega) (by omega) (by omega) (by omega) (by omega)]
    frame_out
    exact key
  · rw [outsAt0_B m c t (by omega) (by omega) (by omega) (by omega) (by omega) (by omega)]
    frame_out
    exact key

/-- The block of gradients of the delta heads' outputs at point `t`. -/
abbrev dygT (c : Dev nD) (t : Fin cfg0.N) : FVec Ideal S512x1024 .f32 :=
  k0_pay18 (F := Ideal) (whi m c t) (k0_pay6 (F := Ideal) (iblk m c 1 t) (iblk m c 2 t) (wlo m c t) (whi m c t) (iblk m c 0 t))
    (iblk m c 4 t) (k0_pay8 (F := Ideal) (iblk m c 1 t) (iblk m c 2 t) (wlo m c t) (whi m c t) (iblk m c 0 t))
    (k0_pay9 (F := Ideal) (iblk m c 1 t) (iblk m c 2 t) (wlo m c t) (whi m c t) (iblk m c 0 t))
    (k0_pay11 (F := Ideal) (iblk m c 1 t) (iblk m c 2 t) (wlo m c t) (whi m c t) (iblk m c 0 t) (iblk m c 4 t) (iblk m c 5 t))

theorem dygT_apply (c : Dev nD) (t : Fin cfg0.N) (r : Fin 512) (j : Fin 1024) : dygT m c t (ix2 r j)
    = ∑ k : Fin 1024, dhid (HA m c (tok t r)) (WA m c) (TA m c (tok t r)) k
        * m ((c.tc : Thread nD τ).loc main_arg3) (ix2 ⟨1024 + j.val, by omega⟩ k) := by
  refine (pay18_apply ..).trans (Finset.sum_congr rfl fun k _ => ?_)
  rw [whi_apply]
  exact congrArg (· * _) (dhidT_apply m c t r k)

/-- The array of gradients of the delta heads' outputs. -/
theorem final9 (c : Dev nD) : (dats m 0 c).arrAt 9 (cfgs 0).N
    = val_main_v59 (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) := by
  refine (dats m 0 c).arrAt_eq_of_covers 9 _ (by decide +kernel) fun t hf y => ?_
  blk_simp
  rw [after0_9]
  have hN := lt_of_lt_of_eq t.isLt N_0
  have key : dygT m c t y = val_main_v59 (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5))
      (((View.whole main_v0_3).slice (win0_9.rect t)).emb y) := by
    idx_vars y
    refine (dygT_apply m c t y0 y1).trans ((v59_apply _ _ _ _ _ _ (tok t y0) y1).symm.trans ?_)
    blk_ext [idx t]
  by_cases ht : t.val = 0
  · rw [outsAt0_A m c t (by omega) (by omega) (by omega) (by omega) (by omega) (by omega)]
    frame_out
    exact key
  · rw [outsAt0_B m c t (by omega) (by omega) (by omega) (by omega) (by omega) (by omega)]
    frame_out
    exact key

end Cert.KernelIdeal.Value
-- ==== Proof.OutProj.Sums.lean ====
/-
  The three results the output-projection kernel accumulates over its grid: the loss, the gradient of the projection and
  the gradient of the norm's weights. Each is the reference's array.
-/
module

public import proofs.«01_k».proof.Proof.OutProj.Tiles

@[expose] public section

set_option maxRecDepth 16384

noncomputable section

open Idealize.ShloMosaic Idealize.ShloMosaic.TcCoe Idealize.SL.Sem
open Cert.OutProj
open Cert.ReferenceIdeal.Read (HR WR TR val_main_v54 val_main_v58 val_main_v59 val_main_v56 val_main_v38 val_main_v60
  v54_apply v58_apply v59_apply v56_lo v56_hi v38_apply v60_apply)

namespace Cert.KernelIdeal.Value

open Cert.KernelIdeal Cert.KernelIdeal.Gen

variable (m : (ℓ : Loc nD τ sig) → Buf (Elt Ideal) ℓ)

/-- The points' blocks of tokens make up all the tokens. -/
theorem sum_tok (f : Fin 8192 → EReal) : ∑ p : Fin cfg0.N, ∑ r : Fin 512, f (tok p r) = ∑ r, f r :=
  Fin.sum_mul_add_congr (S := 16) fun s k hl => rfl

theorem blockLoss (c : Dev nD) (t : Fin cfg0.N) (a : Fin 8) (b : Fin 128) : k0_pay19 (F := Ideal)
    (k0_pay12 (F := Ideal) (iblk m c 1 t) (iblk m c 2 t) (wlo m c t) (whi m c t) (iblk m c 0 t) (iblk m c 4 t) (iblk m c 5 t))
    (k0_pay13 (F := Ideal)) (ix2 a b)
    = Ideal.ofBits .f32 0x3F000000#32 * ∑ r : Fin 512, mse (HA m c (tok t r)) (WA m c) (TA m c (tok t r)) := by
  rw [pay19_apply]; simp only [hrow_eq, wrow_eq, trow_eq]

theorem blockFw (c : Dev nD) (t : Fin cfg0.N) (j : Fin 1024) : k0_pay15 (F := Ideal)
    (k0_pay10 (F := Ideal) (iblk m c 1 t) (iblk m c 2 t) (wlo m c t) (whi m c t) (iblk m c 0 t))
    (k0_pay11 (F := Ideal) (iblk m c 1 t) (iblk m c 2 t) (wlo m c t) (whi m c t) (iblk m c 0 t) (iblk m c 4 t) (iblk m c 5 t)) (ix2 0 j)
    = ∑ r : Fin 512, HA m c (tok t r) j * rs (HA m c (tok t r)) * ct (HA m c (tok t r)) (WA m c) (TA m c (tok t r)) j := by
  rw [pay15_apply]; simp only [hrow_eq, wrow_eq, trow_eq]

theorem loss_first (c : Dev nD) (t : Fin cfg0.N) (h : t.val % 16 = 0) (a : Fin 8) (b : Fin 128) :
    (outsAt0 m c t.val t.isLt).1 (ix2 a b) = Ideal.ofBits .f32 0x3F000000#32 * ∑ r : Fin 512, mse (HA m c (tok t r)) (WA m c) (TA m c (tok t r)) := by
  have hN := lt_of_lt_of_eq t.isLt N_0
  rw [outsAt0_A m c t (by omega) (by omega) (by omega) (by omega) (by omega) (by omega)]
  frame_out
  exact (blockLoss m c t a b)

theorem loss_next (c : Dev nD) (t : Fin cfg0.N) (h : ¬t.val % 16 = 0) (a : Fin 8) (b : Fin 128) :
    (outsAt0 m c t.val t.isLt).1 (ix2 a b)
      = (outsAt0 m c (t.val - 1) (Nat.lt_of_le_of_lt (Nat.sub_le _ _) t.isLt)).1 (ix2 a b) + Ideal.ofBits .f32 0x3F000000#32 * ∑ r : Fin 512, mse (HA m c (tok t r)) (WA m c) (TA m c (tok t r)) := by
  have hN := lt_of_lt_of_eq t.isLt N_0
  rw [outsAt0_B m c t (by omega) (by omega) (by omega) (by omega) (by omega) (by omega)]
  frame_out
  exact (pay20_apply ..).trans (congrArg (_ + ·) (blockLoss m c t a b))

/-- The loss at the last point. -/
theorem loss_last (c : Dev nD) (a : Fin 8) (b : Fin 128) : (outsAt0 m c t0_15.val t0_15.isLt).1 (ix2 a b)
    = Ideal.ofBits .f32 0x3F000000#32 * ∑ r, mse (HA m c r) (WA m c) (TA m c r) := by
  have h := Pipeline.eq_sum_fin_of_reset_step_apply_last (ι := Unit) (M := EReal)
    (fun n h _ => (outsAt0 m c n h).1 (ix2 a b)) 16 (fun _ => 0)
    (fun t _ => Ideal.ofBits .f32 0x3F000000#32 * ∑ r : Fin 512, mse (HA m c (tok t r)) (WA m c) (TA m c (tok t r)))
    (fun t h _ => (loss_first m c t h a b).trans (zero_add _).symm)
    (fun t h _ => loss_next m c t h a b) (le_of_eq N_0) t0_15 rfl ()
  rw [h, zero_add, half_sum]
  exact congrArg _ (sum_tok fun r => mse (HA m c r) (WA m c) (TA m c r))

/-- The loss. -/
theorem final6 (c : Dev nD) : (dats m 0 c).arrAt 6 (cfgs 0).N
    = val_main_v60 (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) := by
  refine (dats m 0 c).arrAt_eq_of_after_last 6 t0_15 (by decide +kernel) _ fun j => ?_
  blk_simp
  rw [after0_6]
  idx_vars j
  exact (loss_last m c j0 j1).trans (v60_apply _ _ _ _ _ _ j0 j1).symm

theorem fw_first (c : Dev nD) (t : Fin cfg0.N) (h : t.val % 16 = 0) (j : Fin 1024) :
    (outsAt0 m c t.val t.isLt).2.2.2.2.2 (ix2 0 j) = ∑ r : Fin 512, HA m c (tok t r) j * rs (HA m c (tok t r)) * ct (HA m c (tok t r)) (WA m c) (TA m c (tok t r)) j := by
  have hN := lt_of_lt_of_eq t.isLt N_0
  rw [outsAt0_A m c t (by omega) (by omega) (by omega) (by omega) (by omega) (by omega)]
  frame_out
  exact (blockFw m c t j)

theorem fw_next (c : Dev nD) (t : Fin cfg0.N) (h : ¬t.val % 16 = 0) (j : Fin 1024) :
    (outsAt0 m c t.val t.isLt).2.2.2.2.2 (ix2 0 j)
      = (outsAt0 m c (t.val - 1) (Nat.lt_of_le_of_lt (Nat.sub_le _ _) t.isLt)).2.2.2.2.2 (ix2 0 j) + ∑ r : Fin 512, HA m c (tok t r) j * rs (HA m c (tok t r)) * ct (HA m c (tok t r)) (WA m c) (TA m c (tok t r)) j := by
  have hN := lt_of_lt_of_eq t.isLt N_0
  rw [outsAt0_B m c t (by omega) (by omega) (by omega) (by omega) (by omega) (by omega)]
  frame_out
  exact (pay1_apply ..).trans (congrArg (_ + ·) (blockFw m c t j))

/-- The gradient of the norm's weights at the last point. -/
theorem fw_last (c : Dev nD) (j : Fin 1024) : (outsAt0 m c t0_15.val t0_15.isLt).2.2.2.2.2 (ix2 0 j)
    = ∑ r, HA m c r j * rs (HA m c r) * ct (HA m c r) (WA m c) (TA m c r) j := by
  have h := Pipeline.eq_sum_fin_of_reset_step_apply_last (ι := Unit) (M := EReal)
    (fun n h _ => (outsAt0 m c n h).2.2.2.2.2 (ix2 0 j)) 16 (fun _ => 0)
    (fun t _ => ∑ r : Fin 512, HA m c (tok t r) j * rs (HA m c (tok t r)) * ct (HA m c (tok t r)) (WA m c) (TA m c (tok t r)) j)
    (fun t h _ => (fw_first m c t h j).trans (zero_add _).symm)
    (fun t h _ => fw_next m c t h j) (le_of_eq N_0) t0_15 rfl ()
  rw [h, zero_add]
  exact sum_tok fun r => HA m c r j * rs (HA m c r) * ct (HA m c r) (WA m c) (TA m c r) j

/-- The gradient of the norm's weights. -/
theorem final11 (c : Dev nD) : (dats m 0 c).arrAt 11 (cfgs 0).N
    = val_main_v38 (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) := by
  refine (dats m 0 c).arrAt_eq_of_after_last 11 t0_15 (by decide +kernel) _ fun j => ?_
  blk_simp
  rw [after0_11]
  idx_vars j
  obtain rfl : j0 = 0 := Subsingleton.elim _ _
  exact (fw_last m c j1).trans (v38_apply _ _ _ _ _ _ j1).symm

end Cert.KernelIdeal.Value
-- ==== Proof.OutProj.Weights.lean ====
/-
  The gradient of the projection, which the output-projection kernel accumulates over its grid in two halves of rows.
-/
module

public import proofs.«01_k».proof.Proof.OutProj.Sums

@[expose] public section

set_option maxRecDepth 16384

noncomputable section

open Idealize.ShloMosaic Idealize.ShloMosaic.TcCoe Idealize.SL.Sem
open Cert.OutProj
open Cert.ReferenceIdeal.Read (HR WR TR val_main_v56 v56_lo v56_hi)

namespace Cert.KernelIdeal.Value

open Cert.KernelIdeal Cert.KernelIdeal.Gen

variable (m : (ℓ : Loc nD τ sig) → Buf (Elt Ideal) ℓ)

/-- The scan heads' outputs in point `t`'s block. -/
abbrev ysB (c : Dev nD) (t : Fin cfg0.N) : FVec Ideal S512x1024 .bf16 := iblk m c 1 t
/-- The delta heads' outputs in point `t`'s block. -/
abbrev ygB (c : Dev nD) (t : Fin cfg0.N) : FVec Ideal S512x1024 .bf16 := iblk m c 2 t

theorem ysB_apply (c : Dev nD) (t : Fin cfg0.N) (r : Fin 512) (i : Fin 1024) :
    ysB m c t (ix2 r i) = m ((c.tc : Thread nD τ).loc main_arg1) (ix2 (tok t r) i) := by
  unfold ysB
  blk_point [iblk, V, idx t]

theorem ygB_apply (c : Dev nD) (t : Fin cfg0.N) (r : Fin 512) (i : Fin 1024) :
    ygB m c t (ix2 r i) = m ((c.tc : Thread nD τ).loc main_arg2) (ix2 (tok t r) i) := by
  unfold ygB
  blk_point [iblk, V, idx t]

/-- The two halves a point stores, read in the first half. -/
theorem halves_lo (A B : FVec Ideal S1024x1024 .f32) (i j : Fin 1024) :
    View.canon (Val := Elt Ideal) (s := S2048x1024) (e := .f32) [⟨Rect.unit ![1024, 0] ![1024, 1024] inb_S2048x1024_S1024x1024_1024_0, A⟩,
      ⟨Rect.unit ![0, 0] ![1024, 1024] inb_S2048x1024_S1024x1024_0_0, B⟩] (ix2 ⟨i.val, by omega⟩ j) = B (ix2 i j) := by
  canon_tiles x h
  · have e0 : i.val = 1024 + (x 0).val := h0
    have e1 : j.val = (x 1).val := h1
    exfalso; omega
  · have e0 : i.val = (x 0).val := h0
    have e1 : j.val = (x 1).val := h1
    blk_ext <;> omega

/-- The first half of the carried gradient, read where the whole is. -/
theorem ld_lo (G : FVec Ideal S2048x1024 .f32) (i j : Fin 1024) :
    (View.ld (Val := Elt Ideal) (e' := .f32) G (Rect.unit (s := S2048x1024) ![0, 0] ![1024, 1024] inb_S2048x1024_S1024x1024_0_0) : FVec Ideal S1024x1024 .f32) (ix2 i j)
      = G (ix2 ⟨i.val, by omega⟩ j) := by
  refine congrArg G ?_
  blk_ext
  · exact (Nat.zero_add _).trans (Nat.one_mul _)
  · exact (Nat.zero_add _).trans (Nat.one_mul _)

theorem part_lo (c : Dev nD) (t : Fin cfg0.N) (i j : Fin 1024) : ∑ r : Fin 512, dhidT m c t (ix2 r j) * ysB m c t (ix2 r i)
    = ∑ r : Fin 512, dhid (HA m c (tok t r)) (WA m c) (TA m c (tok t r)) j * m ((c.tc : Thread nD τ).loc main_arg1) (ix2 (tok t r) i) := by
  refine Finset.sum_congr rfl fun r _ => ?_
  rw [ysB_apply]
  exact congrArg (· * _) (dhidT_apply m c t r j)

theorem dw_lo_first (c : Dev nD) (t : Fin cfg0.N) (h : t.val % 16 = 0) (i j : Fin 1024) :
    (outsAt0 m c t.val t.isLt).2.2.2.2.1 (ix2 ⟨i.val, by omega⟩ j)
      = ∑ r : Fin 512, dhid (HA m c (tok t r)) (WA m c) (TA m c (tok t r)) j * m ((c.tc : Thread nD τ).loc main_arg1) (ix2 (tok t r) i) := by
  have hN := lt_of_lt_of_eq t.isLt N_0
  rw [outsAt0_A m c t (by omega) (by omega) (by omega) (by omega) (by omega) (by omega)]
  frame_out
  exact (halves_lo _ _ i j).trans ((pay2_apply _ _ i j).trans (part_lo m c t i j))

theorem dw_lo_next (c : Dev nD) (t : Fin cfg0.N) (h : ¬t.val % 16 = 0) (i j : Fin 1024) :
    (outsAt0 m c t.val t.isLt).2.2.2.2.1 (ix2 ⟨i.val, by omega⟩ j)
      = (outsAt0 m c (t.val - 1) (Nat.lt_of_le_of_lt (Nat.sub_le _ _) t.isLt)).2.2.2.2.1 (ix2 ⟨i.val, by omega⟩ j)
        + ∑ r : Fin 512, dhid (HA m c (tok t r)) (WA m c) (TA m c (tok t r)) j * m ((c.tc : Thread nD τ).loc main_arg1) (ix2 (tok t r) i) := by
  have hN := lt_of_lt_of_eq t.isLt N_0
  rw [outsAt0_B m c t (by omega) (by omega) (by omega) (by omega) (by omega) (by omega)]
  frame_out
  exact (halves_lo _ _ i j).trans ((pay4_apply _ _ _ i j).trans (congrArg₂ (· + ·) (ld_lo _ i j) (part_lo m c t i j)))

/-- The first half of the gradient at the last point. -/
theorem dw_lo_last (c : Dev nD) (i j : Fin 1024) : (outsAt0 m c t0_15.val t0_15.isLt).2.2.2.2.1 (ix2 ⟨i.val, by omega⟩ j)
    = ∑ r, dhid (HA m c r) (WA m c) (TA m c r) j * m ((c.tc : Thread nD τ).loc main_arg1) (ix2 r i) := by
  have h := Pipeline.eq_sum_fin_of_reset_step_apply_last (ι := Unit) (M := EReal)
    (fun n h _ => (outsAt0 m c n h).2.2.2.2.1 (ix2 ⟨i.val, by omega⟩ j)) 16 (fun _ => 0)
    (fun t _ => ∑ r : Fin 512, dhid (HA m c (tok t r)) (WA m c) (TA m c (tok t r)) j * m ((c.tc : Thread nD τ).loc main_arg1) (ix2 (tok t r) i))
    (fun t h _ => (dw_lo_first m c t h i j).trans (zero_add _).symm)
    (fun t h _ => dw_lo_next m c t h i j) (le_of_eq N_0) t0_15 rfl ()
  rw [h, zero_add]
  exact sum_tok fun r => dhid (HA m c r) (WA m c) (TA m c r) j * m ((c.tc : Thread nD τ).loc main_arg1) (ix2 r i)

/-- The two halves a point stores, read in the second half. -/
theorem halves_hi (A B : FVec Ideal S1024x1024 .f32) (i j : Fin 1024) :
    View.canon (Val := Elt Ideal) (s := S2048x1024) (e := .f32) [⟨Rect.unit ![1024, 0] ![1024, 1024] inb_S2048x1024_S1024x1024_1024_0, A⟩,
      ⟨Rect.unit ![0, 0] ![1024, 1024] inb_S2048x1024_S1024x1024_0_0, B⟩] (ix2 ⟨1024 + i.val, by omega⟩ j) = A (ix2 i j) := by
  canon_tiles x h
  · have e0 : 1024 + i.val = 1024 + (x 0).val := h0
    have e1 : j.val = (x 1).val := h1
    blk_ext <;> omega
  · have e0 : 1024 + i.val = (x 0).val := h0
    have e1 : j.val = (x 1).val := h1
    exfalso; omega

/-- The second half of the carried gradient, read where the whole is. -/
theorem ld_hi (G : FVec Ideal S2048x1024 .f32) (i j : Fin 1024) :
    (View.ld (Val := Elt Ideal) (e' := .f32) G (Rect.unit (s := S2048x1024) ![1024, 0] ![1024, 1024] inb_S2048x1024_S1024x1024_1024_0) : FVec Ideal S1024x1024 .f32) (ix2 i j)
      = G (ix2 ⟨1024 + i.val, by omega⟩ j) := by
  refine congrArg G ?_
  blk_ext
  · exact congrArg (1024 + ·) (Nat.one_mul _)
  · exact (Nat.zero_add _).trans (Nat.one_mul _)

theorem part_hi (c : Dev nD) (t : Fin cfg0.N) (i j : Fin 1024) : ∑ r : Fin 512, dhidT m c t (ix2 r j) * ygB m c t (ix2 r i)
    = ∑ r : Fin 512, dhid (HA m c (tok t r)) (WA m c) (TA m c (tok t r)) j * m ((c.tc : Thread nD τ).loc main_arg2) (ix2 (tok t r) i) := by
  refine Finset.sum_congr rfl fun r _ => ?_
  rw [ygB_apply]
  exact congrArg (· * _) (dhidT_apply m c t r j)

theorem dw_hi_first (c : Dev nD) (t : Fin cfg0.N) (h : t.val % 16 = 0) (i j : Fin 1024) :
    (outsAt0 m c t.val t.isLt).2.2.2.2.1 (ix2 ⟨1024 + i.val, by omega⟩ j)
      = ∑ r : Fin 512, dhid (HA m c (tok t r)) (WA m c) (TA m c (tok t r)) j * m ((c.tc : Thread nD τ).loc main_arg2) (ix2 (tok t r) i) := by
  have hN := lt_of_lt_of_eq t.isLt N_0
  rw [outsAt0_A m c t (by omega) (by omega) (by omega) (by omega) (by omega) (by omega)]
  frame_out
  exact (halves_hi _ _ i j).trans ((pay3_apply _ _ i j).trans (part_hi m c t i j))

theorem dw_hi_next (c : Dev nD) (t : Fin cfg0.N) (h : ¬t.val % 16 = 0) (i j : Fin 1024) :
    (outsAt0 m c t.val t.isLt).2.2.2.2.1 (ix2 ⟨1024 + i.val, by omega⟩ j)
      = (outsAt0 m c (t.val - 1) (Nat.lt_of_le_of_lt (Nat.sub_le _ _) t.isLt)).2.2.2.2.1 (ix2 ⟨1024 + i.val, by omega⟩ j)
        + ∑ r : Fin 512, dhid (HA m c (tok t r)) (WA m c) (TA m c (tok t r)) j * m ((c.tc : Thread nD τ).loc main_arg2) (ix2 (tok t r) i) := by
  have hN := lt_of_lt_of_eq t.isLt N_0
  rw [outsAt0_B m c t (by omega) (by omega) (by omega) (by omega) (by omega) (by omega)]
  frame_out
  exact (halves_hi _ _ i j).trans ((pay5_apply _ _ _ i j).trans (congrArg₂ (· + ·) (ld_hi _ i j) (part_hi m c t i j)))

/-- The second half of the gradient at the last point. -/
theorem dw_hi_last (c : Dev nD) (i j : Fin 1024) : (outsAt0 m c t0_15.val t0_15.isLt).2.2.2.2.1 (ix2 ⟨1024 + i.val, by omega⟩ j)
    = ∑ r, dhid (HA m c r) (WA m c) (TA m c r) j * m ((c.tc : Thread nD τ).loc main_arg2) (ix2 r i) := by
  have h := Pipeline.eq_sum_fin_of_reset_step_apply_last (ι := Unit) (M := EReal)
    (fun n h _ => (outsAt0 m c n h).2.2.2.2.1 (ix2 ⟨1024 + i.val, by omega⟩ j)) 16 (fun _ => 0)
    (fun t _ => ∑ r : Fin 512, dhid (HA m c (tok t r)) (WA m c) (TA m c (tok t r)) j * m ((c.tc : Thread nD τ).loc main_arg2) (ix2 (tok t r) i))
    (fun t h _ => (dw_hi_first m c t h i j).trans (zero_add _).symm)
    (fun t h _ => dw_hi_next m c t h i j) (le_of_eq N_0) t0_15 rfl ()
  rw [h, zero_add]
  exact sum_tok fun r => dhid (HA m c r) (WA m c) (TA m c r) j * m ((c.tc : Thread nD τ).loc main_arg2) (ix2 r i)

/-- The gradient of the projection. -/
theorem final10 (c : Dev nD) : (dats m 0 c).arrAt 10 (cfgs 0).N
    = val_main_v56 (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) := by
  refine (dats m 0 c).arrAt_eq_of_after_last 10 t0_15 (by decide +kernel) _ fun j => ?_
  blk_simp
  rw [after0_10]
  idx_vars j
  by_cases h : j0.val < 1024
  · exact (dw_lo_last m c ⟨j0.val, h⟩ j1).trans (v56_lo _ _ _ _ _ _ ⟨j0.val, h⟩ j1).symm
  · obtain ⟨k, hk⟩ : ∃ k : Fin 1024, j0 = ⟨1024 + k.val, by omega⟩ := ⟨⟨j0.val - 1024, by omega⟩, by ext; simp; omega⟩
    rw [hk]
    exact (dw_hi_last m c k j1).trans (v56_hi _ _ _ _ _ _ k j1).symm

end Cert.KernelIdeal.Value
-- ==== Proof.InProj.Rows.lean ====
/-
  One token's arithmetic in the backward pass of the input projection and its RMSNorm: functions of the token's row and
  of the cotangent of the norm's output, over the extended reals.
-/
module

public import proofs.«01_k».proof.Proof.OutProj.Rows

@[expose] public section

set_option maxRecDepth 16384

noncomputable section

open Idealize.ShloMosaic

namespace Cert.InProj

open Cert.OutProj (Row ms rs drs)

/-- The cotangent of the mean of a row's squares, over the number of features. -/
def dmean (h w d : Row) : EReal := Ideal.div ((∑ k, h k * (d k * w k)) * drs h) (Ideal.ofBits .f32 0x44800000#32)

/-- The gradient of the norm with respect to its row. -/
def dnorm (h w d : Row) : Row := fun k => d k * w k * rs h + h k * dmean h w d + dmean h w d * h k

/-- A sum over an axis cut in two. -/
theorem sum_cut {n : ℕ} (a b : ℕ) (h : n = a + b) (f : Fin n → EReal) :
    ∑ k, f k = ∑ k : Fin a, f ⟨k.val, by omega⟩ + ∑ k : Fin b, f ⟨a + k.val, by omega⟩ := by
  subst h
  exact Fin.sum_univ_add f

end Cert.InProj
-- ==== Proof.InProj.Block.lean ====
/-
  What one grid point of the input projection's backward kernel computes from its blocks, read at an index.
-/
module

public import proofs.«01_k».proof.Proof.Gen.BwdXIdeal.Value
public import proofs.«01_k».proof.Proof.InProj.Rows

@[expose] public section

set_option maxRecDepth 16384

noncomputable section

open Idealize.ShloMosaic Idealize.ShloMosaic.TcCoe Idealize.SL.Sem
open Cert.OutProj (Row ms rs drs)
open Cert.InProj

namespace Cert.BwdXIdeal.Value

open Cert.BwdXIdeal Cert.BwdXIdeal.Gen

section Block

variable (dm : FVec Ideal S256x2048 .bf16) (wm : FVec Ideal S1024x2048 .bf16) (dc : FVec Ideal S256x4608 .bf16)
  (wc : FVec Ideal S1024x4608 .bf16) (da db : FVec Ideal S256x128 .f32) (ws : FVec Ideal S1024x128 .bf16)
  (x : FVec Ideal S256x1024 .f32) (nw : FVec Ideal S1x1024 .f32) (dh : FVec Ideal S256x1024 .f32)

/-- Row `r` of the block. -/
def xrow (r : Fin 256) : Row := fun k => x (ix2 r k)
/-- The norm's weights. -/
def nrow : Row := fun k => nw (ix2 0 k)
/-- Row `r` of the block of the normalised rows' cotangents. -/
def urow (r : Fin 256) : Row := fun k => k0_pay4 (F := Ideal) dm wm dc wc da db ws (ix2 r k)

theorem pay4_apply (r : Fin 256) (j : Fin 1024) : k0_pay4 (F := Ideal) dm wm dc wc da db ws (ix2 r j)
    = ∑ k : Fin 2048, dm (ix2 r k) * wm (ix2 j k) + ∑ k : Fin 4608, dc (ix2 r k) * wc (ix2 j k)
      + ∑ k : Fin 128, (da (ix2 r k) + db (ix2 r k)) * ws (ix2 j k) := by
  pointwise [k0_pay4]

theorem pay5_apply (r : Fin 256) : k0_pay5 (F := Ideal) x (ix2 r 0) = ms (xrow x r) := by
  pointwise [k0_pay5, ms, xrow]

theorem pay6_apply (r : Fin 256) : k0_pay6 (F := Ideal) x (ix2 r 0) = rs (xrow x r) := by
  pointwise [k0_pay6, rs, pay5_apply]

theorem pay7_apply (r : Fin 256) : k0_pay7 (F := Ideal) x (ix2 r 0) = drs (xrow x r) := by
  pointwise [k0_pay7, drs, pay5_apply, pay6_apply]

/-- The block of gradients of the token rows. -/
abbrev dxB : FVec Ideal S256x1024 .f32 :=
  k0_pay2 (F := Ideal) (k0_pay4 (F := Ideal) dm wm dc wc da db ws) x nw (k0_pay6 (F := Ideal) x) (k0_pay7 (F := Ideal) x) dh

theorem pay2_apply (r : Fin 256) (j : Fin 1024) : dxB dm wm dc wc da db ws x nw dh (ix2 r j)
    = dnorm (xrow x r) (nrow nw) (urow dm wm dc wc da db ws r) j + dh (ix2 r j) := by
  pointwise [Fin.sum_univ_one, dxB, k0_pay2, pay6_apply, pay7_apply, dnorm, dmean, xrow, nrow, urow]

/-- The block's sum of the normalised rows against their cotangents. -/
theorem pay1_apply (j : Fin 1024) : k0_pay1 (F := Ideal) (k0_pay8 (F := Ideal) dm wm dc wc da db ws x) (ix2 0 j)
    = ∑ r : Fin 256, xrow x r j * rs (xrow x r) * urow dm wm dc wc da db ws r j := by
  pointwise [k0_pay1, k0_pay8, pay6_apply, xrow, urow]

theorem pay3_apply (v : FVec Ideal S256x1024 .f32) (acc : FVec Ideal S1x1024 .f32) (j : Fin 1024) :
    k0_pay3 (F := Ideal) v acc (ix2 0 j) = acc (ix2 0 j) + k0_pay1 (F := Ideal) v (ix2 0 j) := by
  pointwise [k0_pay3]

end Block

end Cert.BwdXIdeal.Value
-- ==== Proof.InProj.RefRows.lean ====
/-
  The reference of the input projection's backward pass, read row by row.
-/
module

public import proofs.«01_k».proof.Proof.Gen.BwdXRefIdeal.Read
public import proofs.«01_k».proof.Proof.InProj.Rows

@[expose] public section

set_option maxRecDepth 16384

noncomputable section

open Idealize.ShloMosaic Idealize.ShloMosaic.TcCoe Idealize.SL.Sem
open Cert.OutProj (Row ms rs drs)
open Cert.InProj

namespace Cert.BwdXRefIdeal.Read

open Cert.BwdXRefIdeal Cert.BwdXRefIdeal.Gen Idealize.ShloMosaic.StableHlo

section Arrays

variable (x : FVec Ideal S8192x1024 .f32) (nw : FVec Ideal S1x1024 .f32) (w : FVec Ideal S1024x6688 .bf16)
  (dm : FVec Ideal S8192x2048 .bf16) (dc : FVec Ideal S8192x4608 .bf16) (da db : FVec Ideal S8192x128 .f32)
  (dh : FVec Ideal S8192x1024 .f32)

/-- Token `r`'s row. -/
def XR (r : Fin 8192) : Row := fun k => x (ix2 r k)
/-- The norm's weights. -/
def NR : Row := fun k => nw (ix2 0 k)

/-- The cotangent of the normalised row: the cotangents of the projection's six parts, in the order z, xBC, dt, gate, qkv
    and the delta rule's two, against the columns of `w` that made them. -/
def DU (r : Fin 8192) : Row := fun j =>
  ∑ k : Fin 1024, dm (ix2 r ⟨k.val, by omega⟩) * w (ix2 j ⟨k.val, by omega⟩)
  + (∑ k : Fin 1536, dc (ix2 r ⟨3072 + k.val, by omega⟩) * w (ix2 j ⟨1024 + k.val, by omega⟩)
  + (∑ k : Fin 16, (da (ix2 r ⟨k.val, by omega⟩) + db (ix2 r ⟨k.val, by omega⟩)) * w (ix2 j ⟨2560 + k.val, by omega⟩)
  + (∑ k : Fin 1024, dm (ix2 r ⟨1024 + k.val, by omega⟩) * w (ix2 j ⟨2576 + k.val, by omega⟩)
  + (∑ k : Fin 3072, dc (ix2 r ⟨k.val, by omega⟩) * w (ix2 j ⟨3600 + k.val, by omega⟩)
  + ∑ k : Fin 16, (da (ix2 r ⟨16 + k.val, by omega⟩) + db (ix2 r ⟨16 + k.val, by omega⟩)) * w (ix2 j ⟨6672 + k.val, by omega⟩)))))

/-- The cotangents of the projection side by side, with the columns in the order of `w`. -/
abbrev ctP : FVec Ideal S8192x6688 .bf16 := val_main_v32 (F := Ideal) dm dc da db

theorem ct_z (r : Fin 8192) (k : Fin 1024) : ctP dm dc da db (ix2 r ⟨k.val, by omega⟩) = dm (ix2 r ⟨k.val, by omega⟩) := by
  pointwise [ctP, val_main_v32, val_main_v0, val_main_v1, val_main_v2, val_main_v3, val_main_v4, val_main_v5, val_main_v6, val_main_v7,
    val_main_v8, val_main_v9]

theorem ct_xbc (r : Fin 8192) (k : Fin 1536) : ctP dm dc da db (ix2 r ⟨1024 + k.val, by omega⟩) = dc (ix2 r ⟨3072 + k.val, by omega⟩) := by
  pointwise [ctP, val_main_v32, val_main_v0, val_main_v1, val_main_v2, val_main_v3, val_main_v4, val_main_v5, val_main_v6, val_main_v7,
    val_main_v8, val_main_v9]

theorem ct_dt (r : Fin 8192) (k : Fin 16) : ctP dm dc da db (ix2 r ⟨2560 + k.val, by omega⟩) = da (ix2 r ⟨k.val, by omega⟩) + db (ix2 r ⟨k.val, by omega⟩) := by
  pointwise [ctP, val_main_v32, val_main_v0, val_main_v1, val_main_v2, val_main_v3, val_main_v4, val_main_v5, val_main_v6, val_main_v7,
    val_main_v8, val_main_v9]
  rw [dif_neg (by omega), dif_neg (by omega), dif_pos (by omega)]
  simp only [show 2560 + k.val - 1024 - 1536 = k.val by omega]

theorem ct_gate (r : Fin 8192) (k : Fin 1024) : ctP dm dc da db (ix2 r ⟨2576 + k.val, by omega⟩) = dm (ix2 r ⟨1024 + k.val, by omega⟩) := by
  pointwise [ctP, val_main_v32, val_main_v0, val_main_v1, val_main_v2, val_main_v3, val_main_v4, val_main_v5, val_main_v6, val_main_v7,
    val_main_v8, val_main_v9]
  rw [dif_neg (by omega), dif_neg (by omega), dif_neg (by omega), dif_pos (by omega)]
  blk_ext <;> omega

theorem ct_qkv (r : Fin 8192) (k : Fin 3072) : ctP dm dc da db (ix2 r ⟨3600 + k.val, by omega⟩) = dc (ix2 r ⟨k.val, by omega⟩) := by
  pointwise [ctP, val_main_v32, val_main_v0, val_main_v1, val_main_v2, val_main_v3, val_main_v4, val_main_v5, val_main_v6, val_main_v7,
    val_main_v8, val_main_v9]
  rw [dif_neg (by omega), dif_neg (by omega), dif_neg (by omega), dif_neg (by omega), dif_pos (by omega)]
  blk_ext <;> omega

theorem ct_ab (r : Fin 8192) (k : Fin 16) : ctP dm dc da db (ix2 r ⟨6672 + k.val, by omega⟩) = da (ix2 r ⟨16 + k.val, by omega⟩) + db (ix2 r ⟨16 + k.val, by omega⟩) := by
  pointwise [ctP, val_main_v32, val_main_v0, val_main_v1, val_main_v2, val_main_v3, val_main_v4, val_main_v5, val_main_v6, val_main_v7,
    val_main_v8, val_main_v9]
  rw [dif_neg (by omega), dif_neg (by omega), dif_neg (by omega), dif_neg (by omega), dif_neg (by omega)]
  simp only [show 6672 + k.val - 1024 - 1536 - 16 - 1024 - 3072 = k.val by omega]

theorem v33_apply (r : Fin 8192) (j : Fin 1024) : val_main_v33 (F := Ideal) w dm dc da db (ix2 r j) = DU w dm dc da db r j := by
  have h : val_main_v33 (F := Ideal) w dm dc da db (ix2 r j) = ∑ k : Fin 6688, ctP dm dc da db (ix2 r k) * w (ix2 j k) := by
    pointwise [val_main_v33, val_main_v0]
  rw [h, sum_cut 1024 5664 rfl, sum_cut 1536 4128 rfl, sum_cut 16 4112 rfl, sum_cut 1024 3088 rfl, sum_cut 3072 16 rfl]
  simp only [← Nat.add_assoc, Nat.reduceAdd, ct_z, ct_xbc, ct_dt, ct_gate, ct_qkv, ct_ab]
  rfl

theorem v16_apply (r : Fin 8192) : val_main_v16 (F := Ideal) x (ix2 r 0) = ms (XR x r) := by
  pointwise [val_main_v16, val_main_v15, val_main_v14, val_main_v13, val_main_v12, val_main_v11, val_main_v10, val_main_cst,
    val_main_cst_0, val_main_cst_1, ms, XR]

theorem v17_apply (r : Fin 8192) : val_main_v17 (F := Ideal) x (ix2 r 0) = rs (XR x r) := by
  pointwise [val_main_v17, v16_apply, rs]

theorem v20_apply (r : Fin 8192) : val_main_v20 (F := Ideal) x (ix2 r 0) = drs (XR x r) := by
  pointwise [val_main_v20, val_main_v19, val_main_v18, val_main_cst_2, v16_apply, v17_apply, drs]

theorem v49_apply (r : Fin 8192) (j : Fin 1024) : val_main_v49 (F := Ideal) x nw w dm dc da db (ix2 r j)
    = dmean (XR x r) (NR nw) (DU w dm dc da db r) := by
  pointwise [Fin.sum_univ_one, val_main_v49, val_main_v48, val_main_v47, val_main_v46, val_main_v45, val_main_v41,
    val_main_v40, val_main_v39, val_main_v38, val_main_v37, val_main_cst_4, val_main_cst_5, val_main_cst_6, v33_apply,
    v20_apply, dmean, XR, NR]

theorem v53_apply (r : Fin 8192) (j : Fin 1024) : val_main_v53 (F := Ideal) x nw w dm dc da db dh (ix2 r j)
    = dnorm (XR x r) (NR nw) (DU w dm dc da db r) j + dh (ix2 r j) := by
  pointwise [val_main_v53, val_main_v52, val_main_v51, val_main_v50, val_main_v44, val_main_v43, val_main_v42,
    val_main_v38, val_main_v37, v49_apply, v33_apply, v17_apply, dnorm, XR, NR]
  ac_rfl

theorem v36_apply (j : Fin 1024) : val_main_v36 (F := Ideal) x w dm dc da db (ix2 0 j)
    = ∑ r : Fin 8192, XR x r j * rs (XR x r) * DU w dm dc da db r j := by
  pointwise [val_main_v36, val_main_v35, val_main_v34, val_main_v22, val_main_v21, val_main_cst_3, v33_apply, v17_apply, XR]

end Arrays
end Cert.BwdXRefIdeal.Read
-- ==== Proof.InProj.Columns.lean ====
/-
  The columns of the input projection as the launch arranges them before the kernel: one array with the parts z, gate,
  qkv and xBC side by side, and one of 128 lanes with dt, the delta rule's two gates and zeros.
-/
module

public import proofs.«01_k».proof.Proof.InProj.Block
public import proofs.«01_k».proof.Proof.InProj.RefRows
public import Idealize.ShloMosaic.Lib.StableHlo.ReadAt

@[expose] public section

set_option maxRecDepth 16384

noncomputable section

open Idealize.ShloMosaic Idealize.ShloMosaic.TcCoe Idealize.SL.Sem

namespace Cert.BwdXIdeal.Value

open Cert.BwdXIdeal Cert.BwdXIdeal.Gen

variable (m : (ℓ : Loc nD τ sig) → Buf (Elt Ideal) ℓ)

/-- The projection as launched. -/
abbrev WI (c : Dev nD) : FVec Ideal S1024x6688 .bf16 := m ((c.tc : Thread nD τ).loc main_arg2)
/-- The four wide parts, side by side. -/
def WMA (c : Dev nD) : FVec Ideal S1024x6656 .bf16 := V m c main_v4
/-- The narrow parts in 128 lanes. -/
def WSM (c : Dev nD) : FVec Ideal S1024x128 .bf16 := V m c main_v8

theorem wma_z (c : Dev nD) (j : Fin 1024) (k : Fin 1024) : WMA m c (ix2 j ⟨k.val, by omega⟩) = WI m c (ix2 j ⟨k.val, by omega⟩) := by
  unfold WMA V
  after_reads_at
  after_reads_at

theorem wma_gate (c : Dev nD) (j : Fin 1024) (k : Fin 1024) : WMA m c (ix2 j ⟨1024 + k.val, by omega⟩) = WI m c (ix2 j ⟨2576 + k.val, by omega⟩) := by
  unfold WMA V
  after_reads_at
  after_reads_at

theorem wma_qkv (c : Dev nD) (j : Fin 1024) (k : Fin 3072) : WMA m c (ix2 j ⟨2048 + k.val, by omega⟩) = WI m c (ix2 j ⟨3600 + k.val, by omega⟩) := by
  unfold WMA V
  after_reads_at
  rw [dif_neg (by omega), dif_neg (by omega), dif_pos (by omega)]
  after_reads_at
  simp only [show 2048 + k.val - 1024 - 1024 = k.val by omega]

theorem wma_xbc (c : Dev nD) (j : Fin 1024) (k : Fin 1536) : WMA m c (ix2 j ⟨5120 + k.val, by omega⟩) = WI m c (ix2 j ⟨1024 + k.val, by omega⟩) := by
  unfold WMA V
  after_reads_at
  rw [dif_neg (by omega), dif_neg (by omega), dif_neg (by omega)]
  after_reads_at
  simp only [show 5120 + k.val - 1024 - 1024 - 3072 = k.val by omega]

theorem wsm_dt (c : Dev nD) (j : Fin 1024) (k : Fin 16) : WSM m c (ix2 j ⟨k.val, by omega⟩) = WI m c (ix2 j ⟨2560 + k.val, by omega⟩) := by
  unfold WSM V
  after_reads_at
  after_reads_at

theorem wsm_ab (c : Dev nD) (j : Fin 1024) (k : Fin 16) : WSM m c (ix2 j ⟨16 + k.val, by omega⟩) = WI m c (ix2 j ⟨6672 + k.val, by omega⟩) := by
  unfold WSM V
  after_reads_at
  after_reads_at

theorem wsm_pad (c : Dev nD) (j : Fin 1024) (k : Fin 96) : WSM m c (ix2 j ⟨32 + k.val, by omega⟩) = 0 := by
  unfold WSM V
  after_reads_at
  rw [dif_neg (by omega), dif_neg (by omega)]
  after_reads_at

end Cert.BwdXIdeal.Value
-- ==== Proof.InProj.Tiles.lean ====
/-
  The blocks of the input projection's backward kernel at a grid point, and the array of gradients of the token rows.
-/
module

public import proofs.«01_k».proof.Proof.InProj.Columns

@[expose] public section

set_option maxRecDepth 16384

noncomputable section

open Idealize.ShloMosaic Idealize.ShloMosaic.TcCoe Idealize.SL.Sem
open Cert.OutProj (Row ms rs drs)
open Cert.InProj
open Cert.BwdXRefIdeal.Read (XR NR DU val_main_v53 v53_apply val_main_v36 v36_apply)

namespace Cert.BwdXIdeal.Value

open Cert.BwdXIdeal Cert.BwdXIdeal.Gen

variable (m : (ℓ : Loc nD τ sig) → Buf (Elt Ideal) ℓ)

/-- Which block of its array each window holds at point `t`. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

/-- The first 2048 columns of the wide parts as the body loads them. -/
abbrev wmB (c : Dev nD) (t : Fin cfg0.N) : FVec Ideal S1024x2048 .bf16 :=
  View.ld (iblk m c 2 t) (Rect.unit ![0, 0] ![1024, 2048] inb_S1024x6656_S1024x2048_0_0)
/-- The other 4608 columns. -/
abbrev wcB (c : Dev nD) (t : Fin cfg0.N) : FVec Ideal S1024x4608 .bf16 :=
  View.ld (iblk m c 2 t) (Rect.unit ![0, 2048] ![1024, 4608] inb_S1024x6656_S1024x4608_0_2048)
/-- The narrow parts. -/
abbrev wsB (c : Dev nD) (t : Fin cfg0.N) : FVec Ideal S1024x128 .bf16 := iblk m c 3 t
/-- The cotangents of z and the gate in point `t`'s block. -/
abbrev dmB (c : Dev nD) (t : Fin cfg0.N) : FVec Ideal S256x2048 .bf16 := iblk m c 4 t
/-- The cotangents of qkv and xBC in point `t`'s block. -/
abbrev dcB (c : Dev nD) (t : Fin cfg0.N) : FVec Ideal S256x4608 .bf16 := iblk m c 5 t
/-- The first array of cotangents of the narrow parts in point `t`'s block. -/
abbrev daB (c : Dev nD) (t : Fin cfg0.N) : FVec Ideal S256x128 .f32 := iblk m c 6 t
/-- The second. -/
abbrev dbB (c : Dev nD) (t : Fin cfg0.N) : FVec Ideal S256x128 .f32 := iblk m c 7 t

theorem lt_rows (t : Fin cfg0.N) (r : Fin 256) : t.val * 256 + r.val < 8192 := by
  have := lt_of_lt_of_eq t.isLt N_0; omega

/-- The token at row `r` of point `t`'s block. -/
abbrev tok (t : Fin cfg0.N) (r : Fin 256) : Fin 8192 := ⟨t.val * 256 + r.val, lt_rows t r⟩

/-- The window of the wide parts holds all of them. -/
theorem wide_apply (c : Dev nD) (t : Fin cfg0.N) (j : Fin 1024) (k : Fin 6656) :
    (iblk m c 2 t : FVec Ideal S1024x6656 .bf16) (ix2 j k) = WMA m c (ix2 j k) := by
  unfold WMA
  blk_point [iblk, idx t]

/-- The first columns of an array, read where the whole is. -/
theorem ld_lo (G : FVec Ideal S1024x6656 .bf16) (j : Fin 1024) (k : Fin 2048) :
    (View.ld (Val := Elt Ideal) (e' := .bf16) G (Rect.unit (s := S1024x6656) ![0, 0] ![1024, 2048] inb_S1024x6656_S1024x2048_0_0) : FVec Ideal S1024x2048 .bf16) (ix2 j k)
      = G (ix2 j ⟨k.val, by omega⟩) := by
  refine congrArg G ?_
  blk_ext
  · exact (Nat.zero_add _).trans (Nat.one_mul _)
  · exact (Nat.zero_add _).trans (Nat.one_mul _)

/-- The other columns. -/
theorem ld_hi (G : FVec Ideal S1024x6656 .bf16) (j : Fin 1024) (k : Fin 4608) :
    (View.ld (Val := Elt Ideal) (e' := .bf16) G (Rect.unit (s := S1024x6656) ![0, 2048] ![1024, 4608] inb_S1024x6656_S1024x4608_0_2048) : FVec Ideal S1024x4608 .bf16) (ix2 j k)
      = G (ix2 j ⟨2048 + k.val, by omega⟩) := by
  refine congrArg G ?_
  blk_ext
  · exact (Nat.zero_add _).trans (Nat.one_mul _)
  · exact congrArg (2048 + ·) (Nat.one_mul _)

theorem wmB_apply (c : Dev nD) (t : Fin cfg0.N) (j : Fin 1024) (k : Fin 2048) :
    wmB m c t (ix2 j k) = WMA m c (ix2 j ⟨k.val, by omega⟩) := (ld_lo _ j k).trans (wide_apply m c t j _)

theorem wcB_apply (c : Dev nD) (t : Fin cfg0.N) (j : Fin 1024) (k : Fin 4608) :
    wcB m c t (ix2 j k) = WMA m c (ix2 j ⟨2048 + k.val, by omega⟩) := (ld_hi _ j k).trans (wide_apply m c t j _)

theorem wsB_apply (c : Dev nD) (t : Fin cfg0.N) (j : Fin 1024) (k : Fin 128) : wsB m c t (ix2 j k) = WSM m c (ix2 j k) := by
  unfold wsB WSM
  blk_point [iblk, idx t]

theorem dmB_apply (c : Dev nD) (t : Fin cfg0.N) (r : Fin 256) (k : Fin 2048) :
    dmB m c t (ix2 r k) = m ((c.tc : Thread nD τ).loc main_arg3) (ix2 (tok t r) k) := by
  unfold dmB
  blk_point [iblk, V, idx t]

theorem dcB_apply (c : Dev nD) (t : Fin cfg0.N) (r : Fin 256) (k : Fin 4608) :
    dcB m c t (ix2 r k) = m ((c.tc : Thread nD τ).loc main_arg4) (ix2 (tok t r) k) := by
  unfold dcB
  blk_point [iblk, V, idx t]

theorem daB_apply (c : Dev nD) (t : Fin cfg0.N) (r : Fin 256) (k : Fin 128) :
    daB m c t (ix2 r k) = m ((c.tc : Thread nD τ).loc main_arg5) (ix2 (tok t r) k) := by
  unfold daB
  blk_point [iblk, V, idx t]

theorem dbB_apply (c : Dev nD) (t : Fin cfg0.N) (r : Fin 256) (k : Fin 128) :
    dbB m c t (ix2 r k) = m ((c.tc : Thread nD τ).loc main_arg6) (ix2 (tok t r) k) := by
  unfold dbB
  blk_point [iblk, V, idx t]

/-- Token `r`'s row, from the launch's arguments. -/
abbrev XA (c : Dev nD) (r : Fin 8192) : Row := XR (m ((c.tc : Thread nD τ).loc main_arg0)) r
/-- The norm's weights, from the launch's arguments. -/
abbrev NA (c : Dev nD) : Row := NR (m ((c.tc : Thread nD τ).loc main_arg1))
/-- The cotangent of token `r`'s normalised row, from the launch's arguments. -/
abbrev DA (c : Dev nD) (r : Fin 8192) : Row := DU (WI m c) (m ((c.tc : Thread nD τ).loc main_arg3))
  (m ((c.tc : Thread nD τ).loc main_arg4)) (m ((c.tc : Thread nD τ).loc main_arg5)) (m ((c.tc : Thread nD τ).loc main_arg6)) r

theorem xrow_eq (c : Dev nD) (t : Fin cfg0.N) (r : Fin 256) : xrow (iblk m c 0 t) r = XA m c (tok t r) := by
  funext j
  simp only [xrow, XA, XR]
  blk_point [iblk, V, idx t]

theorem nrow_eq (c : Dev nD) (t : Fin cfg0.N) : nrow (iblk m c 1 t) = NA m c := by
  funext j
  simp only [nrow, NA, NR]
  blk_point [iblk, V, idx t]

/-- The kernel's three products, cut where the parts of the projection meet, are the reference's six in another order; the
    lanes of zeros add nothing. -/
theorem products_eq (W : FVec Ideal S1024x6688 .bf16) (WM : FVec Ideal S1024x6656 .bf16) (WS : FVec Ideal S1024x128 .bf16)
    (DM : FVec Ideal S8192x2048 .bf16) (DC : FVec Ideal S8192x4608 .bf16) (A B : FVec Ideal S8192x128 .f32) (r : Fin 8192) (j : Fin 1024)
    (hz : ∀ k : Fin 1024, WM (ix2 j ⟨k.val, by omega⟩) = W (ix2 j ⟨k.val, by omega⟩))
    (hg : ∀ k : Fin 1024, WM (ix2 j ⟨1024 + k.val, by omega⟩) = W (ix2 j ⟨2576 + k.val, by omega⟩))
    (hq : ∀ k : Fin 3072, WM (ix2 j ⟨2048 + k.val, by omega⟩) = W (ix2 j ⟨3600 + k.val, by omega⟩))
    (hx : ∀ k : Fin 1536, WM (ix2 j ⟨5120 + k.val, by omega⟩) = W (ix2 j ⟨1024 + k.val, by omega⟩))
    (hd : ∀ k : Fin 16, WS (ix2 j ⟨k.val, by omega⟩) = W (ix2 j ⟨2560 + k.val, by omega⟩))
    (ha : ∀ k : Fin 16, WS (ix2 j ⟨16 + k.val, by omega⟩) = W (ix2 j ⟨6672 + k.val, by omega⟩))
    (hp : ∀ k : Fin 96, WS (ix2 j ⟨32 + k.val, by omega⟩) = 0) :
    ∑ k : Fin 2048, DM (ix2 r k) * WM (ix2 j ⟨k.val, by omega⟩) + ∑ k : Fin 4608, DC (ix2 r k) * WM (ix2 j ⟨2048 + k.val, by omega⟩)
      + ∑ k : Fin 128, (A (ix2 r k) + B (ix2 r k)) * WS (ix2 j k) = DU W DM DC A B r j := by
  rw [sum_cut 1024 1024 rfl, sum_cut 3072 1536 rfl, sum_cut 16 112 rfl, sum_cut (n := 112) 16 96 rfl]
  simp only [← Nat.add_assoc, Nat.reduceAdd, hz, hg, hq, hx, hd, ha, hp, mul_zero, Finset.sum_const_zero, add_zero, DU]
  ac_rfl

theorem urow_eq (c : Dev nD) (t : Fin cfg0.N) (r : Fin 256) :
    urow (dmB m c t) (wmB m c t) (dcB m c t) (wcB m c t) (daB m c t) (dbB m c t) (wsB m c t) r = DA m c (tok t r) := by
  funext j
  refine (pay4_apply ..).trans (Eq.trans ?_ (products_eq (WI m c) (WMA m c) (WSM m c) _ _ _ _ (tok t r) j (wma_z m c j) (wma_gate m c j)
    (wma_qkv m c j) (wma_xbc m c j) (wsm_dt m c j) (wsm_ab m c j) (wsm_pad m c j)))
  refine congrArg₂ (· + ·) (congrArg₂ (· + ·) ?_ ?_) ?_
  · exact Finset.sum_congr rfl fun k _ => congrArg₂ (· * ·) (dmB_apply m c t r k) (wmB_apply m c t j k)
  · exact Finset.sum_congr rfl fun k _ => congrArg₂ (· * ·) (dcB_apply m c t r k) (wcB_apply m c t j k)
  · exact Finset.sum_congr rfl fun k _ => congrArg₂ (· * ·) (congrArg₂ (· + ·) (daB_apply m c t r k) (dbB_apply m c t r k))
      (wsB_apply m c t j k)

end Cert.BwdXIdeal.Value
-- ==== Proof.InProj.Results.lean ====
/-
  The two results of the input projection's backward kernel, the gradients of the token rows and of the norm's weights.
  Each is the reference's array.
-/
module

public import proofs.«01_k».proof.Proof.InProj.Tiles

@[expose] public section

set_option maxRecDepth 16384

noncomputable section

open Idealize.ShloMosaic Idealize.ShloMosaic.TcCoe Idealize.SL.Sem
open Cert.OutProj (Row ms rs drs)
open Cert.InProj
open Cert.BwdXRefIdeal.Read (XR NR DU val_main_v53 v53_apply val_main_v36 v36_apply)

namespace Cert.BwdXIdeal.Value

open Cert.BwdXIdeal Cert.BwdXIdeal.Gen

variable (m : (ℓ : Loc nD τ sig) → Buf (Elt Ideal) ℓ)

/-- The block of gradients of the token rows at point `t`. -/
abbrev dxT (c : Dev nD) (t : Fin cfg0.N) : FVec Ideal S256x1024 .f32 :=
  dxB (dmB m c t) (wmB m c t) (dcB m c t) (wcB m c t) (daB m c t) (dbB m c t) (wsB m c t) (iblk m c 0 t) (iblk m c 1 t) (iblk m c 8 t)

theorem dhB_apply (c : Dev nD) (t : Fin cfg0.N) (r : Fin 256) (k : Fin 1024) :
    (iblk m c 8 t : FVec Ideal S256x1024 .f32) (ix2 r k) = m ((c.tc : Thread nD τ).loc main_arg7) (ix2 (tok t r) k) := by
  blk_point [iblk, V, idx t]

theorem dxT_apply (c : Dev nD) (t : Fin cfg0.N) (r : Fin 256) (j : Fin 1024) : dxT m c t (ix2 r j)
    = dnorm (XA m c (tok t r)) (NA m c) (DA m c (tok t r)) j + m ((c.tc : Thread nD τ).loc main_arg7) (ix2 (tok t r) j) :=
  (pay2_apply ..).trans (by rw [xrow_eq, nrow_eq, urow_eq, dhB_apply])

/-- The array of gradients of the token rows. -/
theorem final9 (c : Dev nD) : (dats m 0 c).arrAt 9 (cfgs 0).N
    = val_main_v53 (F := Ideal) (m ((c.tc : Thread nD τ).loc main_arg0)) (m ((c.tc : Thread nD τ).loc main_arg1)) (WI m c)
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  refine (dats m 0 c).arrAt_eq_of_covers 9 _ (by decide +kernel) fun t hf y => ?_
  blk_simp
  rw [after0_9]
  have hN := lt_of_lt_of_eq t.isLt N_0
  have key : dxT m c t y = val_main_v53 (F := Ideal) (m ((c.tc : Thread nD τ).loc main_arg0)) (m ((c.tc : Thread nD τ).loc main_arg1)) (WI m c)
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7))
      (((View.whole main_v9_0).slice (win0_9.rect t)).emb y) := by
    idx_vars y
    refine (dxT_apply m c t y0 y1).trans ((v53_apply _ _ _ _ _ _ _ _ (tok t y0) y1).symm.trans ?_)
    blk_ext [idx t]
  by_cases ht : t.val = 0
  · rw [outsAt0_A m c t (by omega) (by omega)]
    frame_out
    exact key
  · rw [outsAt0_B m c t (by omega) (by omega)]
    frame_out
    exact key

/-- The points' blocks of tokens make up all the tokens. -/
theorem sum_tok (f : Fin 8192 → EReal) : ∑ p : Fin cfg0.N, ∑ r : Fin 256, f (tok p r) = ∑ r, f r :=
  Fin.sum_mul_add_congr (S := 32) fun s k hl => rfl

theorem block_nw (c : Dev nD) (t : Fin cfg0.N) (j : Fin 1024) : k0_pay1 (F := Ideal)
    (k0_pay8 (F := Ideal) (dmB m c t) (wmB m c t) (dcB m c t) (wcB m c t) (daB m c t) (dbB m c t) (wsB m c t) (iblk m c 0 t)) (ix2 0 j)
    = ∑ r : Fin 256, XA m c (tok t r) j * rs (XA m c (tok t r)) * DA m c (tok t r) j := by
  rw [pay1_apply]; simp only [xrow_eq, urow_eq]

theorem nw_first (c : Dev nD) (t : Fin cfg0.N) (h : t.val % 32 = 0) (j : Fin 1024) :
    (outsAt0 m c t.val t.isLt).2 (ix2 0 j) = ∑ r : Fin 256, XA m c (tok t r) j * rs (XA m c (tok t r)) * DA m c (tok t r) j := by
  have hN := lt_of_lt_of_eq t.isLt N_0
  rw [outsAt0_A m c t (by omega) (by omega)]
  frame_out
  exact block_nw m c t j

theorem nw_next (c : Dev nD) (t : Fin cfg0.N) (h : ¬t.val % 32 = 0) (j : Fin 1024) :
    (outsAt0 m c t.val t.isLt).2 (ix2 0 j)
      = (outsAt0 m c (t.val - 1) (Nat.lt_of_le_of_lt (Nat.sub_le _ _) t.isLt)).2 (ix2 0 j)
        + ∑ r : Fin 256, XA m c (tok t r) j * rs (XA m c (tok t r)) * DA m c (tok t r) j := by
  have hN := lt_of_lt_of_eq t.isLt N_0
  rw [outsAt0_B m c t (by omega) (by omega)]
  frame_out
  exact (pay3_apply ..).trans (congrArg (_ + ·) (block_nw m c t j))

/-- The last grid point. -/
abbrev lastT : Fin cfg0.N := ⟨31, lt_of_lt_of_eq (by omega) N_0.symm⟩

/-- The gradient of the norm's weights at the last point. -/
theorem nw_last (c : Dev nD) (j : Fin 1024) : (outsAt0 m c lastT.val lastT.isLt).2 (ix2 0 j)
    = ∑ r, XA m c r j * rs (XA m c r) * DA m c r j := by
  have h := Pipeline.eq_sum_fin_of_reset_step_apply_last (ι := Unit) (M := EReal)
    (fun n h _ => (outsAt0 m c n h).2 (ix2 0 j)) 32 (fun _ => 0)
    (fun t _ => ∑ r : Fin 256, XA m c (tok t r) j * rs (XA m c (tok t r)) * DA m c (tok t r) j)
    (fun t h _ => (nw_first m c t h j).trans (zero_add _).symm)
    (fun t h _ => nw_next m c t h j) (le_of_eq N_0) lastT rfl ()
  rw [h, zero_add]
  exact sum_tok fun r => XA m c r j * rs (XA m c r) * DA m c r j

/-- The gradient of the norm's weights. -/
theorem final10 (c : Dev nD) : (dats m 0 c).arrAt 10 (cfgs 0).N
    = val_main_v36 (F := Ideal) (m ((c.tc : Thread nD τ).loc main_arg0)) (WI m c) (m ((c.tc : Thread nD τ).loc main_arg3))
      (m ((c.tc : Thread nD τ).loc main_arg4)) (m ((c.tc : Thread nD τ).loc main_arg5)) (m ((c.tc : Thread nD τ).loc main_arg6)) := by
  refine (dats m 0 c).arrAt_eq_of_after_last 10 lastT (by decide +kernel) _ fun j => ?_
  blk_simp
  rw [after0_10]
  idx_vars j
  obtain rfl : j0 = 0 := Subsingleton.elim _ _
  exact (nw_last m c j1).trans (v36_apply _ _ _ _ _ _ j1).symm

end Cert.BwdXIdeal.Value
-- ==== Proof.Conv.Rows.lean ====
/-
  One column's arithmetic in the backward pass of a causal convolution of four taps: functions of the column's 8192 rows,
  over the extended reals.
-/
module

public import proofs.«01_k».proof.Proof.InProj.Rows

@[expose] public section

set_option maxRecDepth 16384

noncomputable section

open Idealize.ShloMosaic
open Cert.InProj (sum_cut)

namespace Cert.Conv

/-- A column of 8192 rows. -/
abbrev Col := Fin 8192 → EReal

/-- Row `i` of a column, and zero past its end. -/
def look (d : Col) (i : ℕ) : EReal := if h : i < 8192 then d ⟨i, h⟩ else 0

/-- A column moved down by `s` rows; zeros come first. -/
def down (x : Col) (s : ℕ) : Col := fun r => if r.val < s then 0 else x ⟨r.val - s, by omega⟩

theorem look_of_lt (d : Col) {i : ℕ} (h : i < 8192) : look d i = d ⟨i, h⟩ := dif_pos h

theorem look_of_le (d : Col) {i : ℕ} (h : 8192 ≤ i) : look d i = 0 := dif_neg (by omega)

/-- The gradient of the convolution with respect to its input: each row's cotangents up to three rows later, against the
    taps. -/
def dconv (d : Col) (w : Fin 4 → EReal) (r : ℕ) : EReal :=
  look d r * w 3 + look d (r + 1) * w 2 + look d (r + 2) * w 1 + look d (r + 3) * w 0

/-- Rows moved down against the cotangents are the rows against the cotangents moved up. -/
theorem sum_down (x d : Col) {s : ℕ} (hs : s ≤ 8192) : ∑ r, down x s r * d r = ∑ r : Fin 8192, look d (r.val + s) * x r := by
  rw [sum_cut s (8192 - s) (by omega) fun r => down x s r * d r, sum_cut (8192 - s) s (by omega) fun r : Fin 8192 => look d (r.val + s) * x r]
  have h1 : ∑ k : Fin s, down x s ⟨k.val, by omega⟩ * d ⟨k.val, by omega⟩ = 0 := Finset.sum_eq_zero fun k _ => by
    rw [show down x s ⟨k.val, by omega⟩ = 0 from if_pos k.isLt, zero_mul]
  have h2 : ∑ k : Fin s, look d (8192 - s + k.val + s) * x ⟨8192 - s + k.val, by omega⟩ = 0 := Finset.sum_eq_zero fun k _ => by
    rw [look_of_le d (by omega), zero_mul]
  rw [h1, zero_add]
  refine (Finset.sum_congr rfl fun k _ => ?_).trans ((add_zero _).symm.trans (congrArg (_ + ·) h2.symm))
  have h3 : down x s ⟨s + k.val, by omega⟩ = x ⟨k.val, by omega⟩ := by simp [down]
  rw [h3, look_of_lt d (show k.val + s < 8192 by omega), mul_comm]
  exact congrArg (fun i => d i * _) (Fin.ext (Nat.add_comm _ _))

/-- The gradients of the four taps (rows 0 to 3) and of the bias (row 4); the last three rows are zero. -/
def taps (x d : Col) (s : Fin 8) : EReal :=
  if s.val = 4 then ∑ r, d r else if s.val ≤ 3 then ∑ r : Fin 8192, look d (r.val + (3 - s.val)) * x r else 0

/-- The derivative of `p` times its logistic, as the launch computes it. -/
def dsilu (p : EReal) : EReal := Ideal.logistic p * (1 + p * (1 - Ideal.logistic p))

theorem logistic_nonneg (p : EReal) : 0 ≤ Ideal.logistic p := by
  induction p with
  | bot => simp
  | top => simp
  | coe r => rw [Ideal.logistic_coe]; exact_mod_cast by positivity

theorem logistic_ne_top (p : EReal) : Ideal.logistic p ≠ ⊤ := by
  induction p with
  | bot => simp
  | top => rw [Ideal.logistic_top]; exact EReal.coe_ne_top 1
  | coe r => rw [Ideal.logistic_coe]; exact EReal.coe_ne_top _

/-- The same derivative with the factor multiplied out. -/
theorem dsilu_eq (p : EReal) : dsilu p = 1 * Ideal.logistic p + p * 1 * (Ideal.logistic p * (1 - Ideal.logistic p)) := by
  rw [dsilu, EReal.left_distrib_of_nonneg_of_ne_top (logistic_nonneg p) (logistic_ne_top p), mul_one, mul_one, one_mul]
  exact congrArg (_ + ·) (mul_left_comm _ _ _)

end Cert.Conv
-- ==== Proof.Conv.Block.lean ====
/-
  What one grid point of the convolution's backward kernel computes for a third of its columns, read at an index.
-/
module

public import proofs.«01_k».proof.Proof.Gen.ConvBwdIdeal.Value
public import proofs.«01_k».proof.Proof.Conv.Rows

@[expose] public section

set_option maxRecDepth 16384

noncomputable section

open Idealize.ShloMosaic Idealize.ShloMosaic.TcCoe Idealize.SL.Sem
open Cert.Conv

namespace Cert.ConvBwdIdeal.Value

open Cert.ConvBwdIdeal Cert.ConvBwdIdeal.Gen

section Block

variable (i : grid0.Coords) (u : FVec Ideal S1024x1024 .bf16) (x dd ds : FVec Ideal S1024x512 .bf16)
  (ddn dsn : FVec Ideal S16x512 .bf16) (w0 w1 w2 w3 : FVec Ideal S1x512 .f32)

/-- Column `k` of a block of cotangents with its eight following rows below it. -/
def ext (d : FVec Ideal S1024x512 .f32) (n : FVec Ideal S8x512 .f32) (k : Fin 512) (r : ℕ) : EReal :=
  if h : r < 1024 then d (ix2 ⟨r, h⟩ k) else if h' : r - 1024 < 8 then n (ix2 ⟨r - 1024, h'⟩ k) else 0

/-- The block's cotangents. -/
abbrev dB : FVec Ideal S1024x512 .f32 := k0_pay4 (F := Ideal) dd ds
/-- The eight rows after the block. -/
abbrev nB : FVec Ideal S8x512 .f32 := k0_pay5 (F := Ideal) i ddn dsn
/-- The cotangents one row later. -/
abbrev u1 : FVec Ideal S1024x512 .f32 := k0_pay6 (F := Ideal) i dd ds ddn dsn
/-- Two rows later. -/
abbrev u2 : FVec Ideal S1024x512 .f32 := k0_pay9 (F := Ideal) (nB i ddn dsn) (k0_pay7 (F := Ideal) dd ds)
  (iota .tc S8x512 32 [0] iota_S8x512_d0_w32) k0_pay8
/-- Three rows later. -/
abbrev u3 : FVec Ideal S1024x512 .f32 := k0_pay10 (F := Ideal) (dB dd ds) (nB i ddn dsn)

theorem dB_apply (r : Fin 1024) (k : Fin 512) : dB dd ds (ix2 r k) = dd (ix2 r k) * ds (ix2 r k) := by
  pointwise [dB, k0_pay4]

theorem ofNat_eq7 : ∀ a : Fin 8, Scalar.cmpi CmpIPredicate.eq (BitVec.ofNat 32 a.val) 7#32 = if a.val = 7 then 1#1 else 0#1 := by
  decide +kernel

theorem nB_apply (r : Fin 8) (k : Fin 512) : nB i ddn dsn (ix2 r k)
    = if (i 1).val = 7 then 0 else ddn (ix2 ⟨r.val, by omega⟩ k) * dsn (ix2 ⟨r.val, by omega⟩ k) := by
  pointwise [nB, k0_pay5]
  rw [ofNat_eq7 (i 1)]
  split_ifs <;> rfl

theorem ofNat_sge : ∀ (a c : Fin 8), IntOp.cmpi CmpIPredicate.sge (BitVec.ofNat 32 a.val) (BitVec.ofNat 32 c.val)
    = if c.val ≤ a.val then 1#1 else 0#1 := by decide +kernel

/-- A block rotated up by `s` rows with its last rows taken from the following rows, rotated likewise, is the block with the
    following rows below it, read `s` rows later. -/
theorem ext_rot (d : FVec Ideal S1024x512 .f32) (n : FVec Ideal S8x512 .f32) (k : Fin 512) (r : Fin 1024) (s : ℕ) (h1 : 1 ≤ s) (h8 : s ≤ 8) :
    (if h : r.val < 1016 then d (ix2 ⟨(r.val + 1024 - (1024 - s)) % 1024, by omega⟩ k)
      else Scalar.select (IntOp.cmpi CmpIPredicate.sge (BitVec.ofNat 32 (r.val - 1016)) (BitVec.ofNat 32 (8 - s)))
        (n (ix2 ⟨(r.val - 1016 + 8 - (8 - s)) % 8, by omega⟩ k))
        (d (ix2 ⟨(1016 + (r.val - 1016) + 1024 - (1024 - s)) % 1024, by omega⟩ k)))
      = ext d n k (r.val + s) := by
  have hr := r.isLt
  unfold ext
  by_cases h : r.val < 1016
  · rw [dif_pos h, dif_pos (show r.val + s < 1024 by omega)]
    exact congrArg (fun q => d (ix2 q k)) (Fin.ext (by show _ % 1024 = r.val + s; omega))
  · rw [dif_neg h]
    rw [ofNat_sge ⟨r.val - 1016, by omega⟩ ⟨8 - s, by omega⟩]
    show Scalar.select (if 8 - s ≤ r.val - 1016 then 1#1 else 0#1) _ _ = _
    by_cases h2 : 8 - s ≤ r.val - 1016
    · rw [if_pos h2, dif_neg (show ¬r.val + s < 1024 by omega), dif_pos (show r.val + s - 1024 < 8 by omega)]
      exact congrArg (fun q => n (ix2 q k)) (Fin.ext (by show _ % 8 = r.val + s - 1024; omega))
    · rw [if_neg h2, dif_pos (show r.val + s < 1024 by omega)]
      exact congrArg (fun q => d (ix2 q k)) (Fin.ext (by show _ % 1024 = r.val + s; omega))

theorem u1_apply (r : Fin 1024) (k : Fin 512) : u1 i dd ds ddn dsn (ix2 r k) = ext (dB dd ds) (nB i ddn dsn) k (r.val + 1) := by
  pointwise [u1, k0_pay6]
  exact ext_rot _ _ k r 1 (by omega) (by omega)

theorem u2_apply (r : Fin 1024) (k : Fin 512) : u2 i dd ds ddn dsn (ix2 r k) = ext (dB dd ds) (nB i ddn dsn) k (r.val + 2) := by
  pointwise [u2, k0_pay9, k0_pay7, k0_pay8]
  exact ext_rot _ _ k r 2 (by omega) (by omega)

theorem u3_apply (r : Fin 1024) (k : Fin 512) : u3 i dd ds ddn dsn (ix2 r k) = ext (dB dd ds) (nB i ddn dsn) k (r.val + 3) := by
  pointwise [u3, k0_pay10]
  exact ext_rot _ _ k r 3 (by omega) (by omega)

/-- The block of gradients of the convolution's input. -/
abbrev dxB : FVec Ideal S1024x512 .bf16 := k0_pay16 (F := Ideal) (u2 i dd ds ddn dsn) (u3 i dd ds ddn dsn)
  (k0_pay12 (F := Ideal) (dB dd ds) (u1 i dd ds ddn dsn) w3 w2) w1 w0

/-- Column `k` of the block's cotangents and of the rows after it. -/
abbrev eB (k : Fin 512) (r : ℕ) : EReal := ext (dB dd ds) (nB i ddn dsn) k r

theorem ext_of_lt (d : FVec Ideal S1024x512 .f32) (n : FVec Ideal S8x512 .f32) (k : Fin 512) (r : Fin 1024) :
    ext d n k r.val = d (ix2 r k) := dif_pos r.isLt

theorem dxB_apply (r : Fin 1024) (k : Fin 512) : dxB i dd ds ddn dsn w0 w1 w2 w3 (ix2 r k)
    = eB i dd ds ddn dsn k r.val * w3 (ix2 0 k) + eB i dd ds ddn dsn k (r.val + 1) * w2 (ix2 0 k)
      + eB i dd ds ddn dsn k (r.val + 2) * w1 (ix2 0 k) + eB i dd ds ddn dsn k (r.val + 3) * w0 (ix2 0 k) := by
  pointwise [dxB, k0_pay16, k0_pay12, u1_apply, u2_apply, u3_apply, eB, ext_of_lt]

/-- What the block adds to the gradient of the projection. -/
theorem dwB_apply (acc : FVec Ideal S1024x512 .f32) (a : Fin 1024) (k : Fin 512) :
    k0_pay17 (F := Ideal) u (u2 i dd ds ddn dsn) (u3 i dd ds ddn dsn) (k0_pay12 (F := Ideal) (dB dd ds) (u1 i dd ds ddn dsn) w3 w2) w1 w0 acc (ix2 a k)
      = acc (ix2 a k) + ∑ r : Fin 1024, u (ix2 r a) * dxB i dd ds ddn dsn w0 w1 w2 w3 (ix2 r k) := by
  pointwise [k0_pay17]

/-- What the block adds to the gradients of the taps and the bias. -/
abbrev tB : FVec Ideal S8x512 .f32 := k0_pay15 (F := Ideal) (iota .tc S8x512 32 [0] iota_S8x512_d0_w32) (k0_pay3 (F := Ideal) x)
  (u2 i dd ds ddn dsn) (u3 i dd ds ddn dsn)
  (k0_pay11 (F := Ideal) (iota .tc S8x512 32 [0] iota_S8x512_d0_w32) (k0_pay3 (F := Ideal) x) (dB dd ds))
  (k0_pay13 (iota .tc S8x512 32 [0] iota_S8x512_d0_w32)) (k0_pay14 (F := Ideal) (k0_pay3 (F := Ideal) x) (u1 i dd ds ddn dsn))

/-- A row of the block against row `c`. -/
theorem select_row (s : Fin 8) (c : ℕ) (hc : c < 8) (z : EReal) : Scalar.select (IntOp.cmpi CmpIPredicate.eq (BitVec.ofNat 32 s.val) (BitVec.ofNat 32 c)) z 0
    = if s.val = c then z else 0 := by
  have h : ∀ s c : Fin 8, IntOp.cmpi CmpIPredicate.eq (BitVec.ofNat 32 s.val) (BitVec.ofNat 32 c.val)
      = if s.val = c.val then 1#1 else 0#1 := by decide +kernel
  rw [h s ⟨c, hc⟩]
  split_ifs <;> rfl

theorem tB_apply (s : Fin 8) (k : Fin 512) : tB i x dd ds ddn dsn (ix2 s k)
    = if s.val = 4 then ∑ r : Fin 1024, eB i dd ds ddn dsn k r.val
      else if s.val ≤ 3 then ∑ r : Fin 1024, eB i dd ds ddn dsn k (r.val + (3 - s.val)) * x (ix2 r k) else 0 := by
  pointwise [tB, k0_pay15, k0_pay11, k0_pay13, k0_pay14, k0_pay3, u1_apply, u2_apply, u3_apply, eB, ext_of_lt]
  rw [select_row s 4 (by omega), select_row s 3 (by omega), select_row s 2 (by omega), select_row s 1 (by omega), select_row s 0 (by omega)]
  fin_cases s <;> simp [ext_of_lt]

theorem dwbB_apply (v acc : FVec Ideal S8x512 .f32) (s : Fin 8) (k : Fin 512) : k0_pay18 (F := Ideal) v acc (ix2 s k) = acc (ix2 s k) + v (ix2 s k) := by
  pointwise [k0_pay18]

end Block

end Cert.ConvBwdIdeal.Value
-- ==== Proof.Conv.Host.lean ====
/-
  The array of derivatives that the launch computes before the kernel.
-/
module

public import proofs.«01_k».proof.Proof.Conv.Block
public import Idealize.ShloMosaic.Lib.StableHlo.ReadAt

@[expose] public section

set_option maxRecDepth 16384

noncomputable section

open Idealize.ShloMosaic Idealize.ShloMosaic.TcCoe Idealize.SL.Sem
open Cert.Conv

namespace Cert.ConvBwdIdeal.Value

open Cert.ConvBwdIdeal Cert.ConvBwdIdeal.Gen

variable (m : (ℓ : Loc nD τ sig) → Buf (Elt Ideal) ℓ)

/-- The saved convolution. -/
abbrev PA (c : Dev nD) : FVec Ideal S8192x4608 .f32 := m ((c.tc : Thread nD τ).loc main_arg3)
/-- The derivatives of its silu. -/
def SA (c : Dev nD) : FVec Ideal S8192x4608 .bf16 := V m c main_v12

theorem SA_apply (c : Dev nD) (r : Fin 8192) (j : Fin 4608) : SA m c (ix2 r j) = dsilu (PA m c (ix2 r j)) := by
  unfold SA V dsilu Ideal.logistic
  after_reads_at

end Cert.ConvBwdIdeal.Value
-- ==== Proof.Conv.RefRows.lean ====
/-
  The reference of the convolution's backward pass, read column by column.
-/
module

public import proofs.«01_k».proof.Proof.Gen.ConvBwdRefIdeal.Read
public import proofs.«01_k».proof.Proof.Conv.Rows

@[expose] public section

set_option maxRecDepth 16384

noncomputable section

open Idealize.ShloMosaic Idealize.ShloMosaic.TcCoe Idealize.SL.Sem
open Cert.Conv

namespace Cert.ConvBwdRefIdeal.Read

open Cert.ConvBwdRefIdeal Cert.ConvBwdRefIdeal.Gen Idealize.ShloMosaic.StableHlo

section Arrays

variable (u : FVec Ideal S8192x1024 .bf16) (x : FVec Ideal S8192x4608 .bf16) (w : FVec Ideal S4x4608 .f32)
  (pre : FVec Ideal S8192x4608 .f32) (dout : FVec Ideal S8192x4608 .bf16)

/-- Column `j` of the convolution's input. -/
def XC (j : Fin 4608) : Col := fun r => x (ix2 r j)
/-- Column `j` of the taps. -/
def WC (j : Fin 4608) : Fin 4 → EReal := fun s => w (ix2 s j)
/-- Column `j` of the convolution's cotangent. -/
def DC (j : Fin 4608) : Col := fun r => dout (ix2 r j) * dsilu (pre (ix2 r j))

theorem v4_apply (r : Fin 8192) (j : Fin 4608) : val_main_v4 (F := Ideal) x (ix2 r j) = down (XC x j) 3 r := by
  pointwise [val_main_v4, val_main_v3, val_main_v2, val_main_cst_0, val_main_v0, down, XC]
  rfl

theorem v11_apply (r : Fin 8192) (j : Fin 4608) : val_main_v11 (F := Ideal) x (ix2 r j) = down (XC x j) 2 r := by
  pointwise [val_main_v11, val_main_v10, val_main_v9, val_main_cst_2, val_main_v0, down, XC]
  rfl

theorem v19_apply (r : Fin 8192) (j : Fin 4608) : val_main_v19 (F := Ideal) x (ix2 r j) = down (XC x j) 1 r := by
  pointwise [val_main_v19, val_main_v18, val_main_v17, val_main_cst_4, val_main_v0, down, XC]
  rfl

theorem v34_apply (r : Fin 8192) (j : Fin 4608) : val_main_v34 (F := Ideal) pre (ix2 r j) = dsilu (pre (ix2 r j)) := by
  rw [dsilu_eq]
  pointwise [val_main_v34, val_main_v33, val_main_cst_6, val_main_v31_1, val_main_v31_2, val_main_call0_v0, val_main_call0_v1, val_main_call0_v2, val_main_call0_v3,
    val_main_call0_v4, val_main_call0_v6, val_main_call0_v7, val_main_call0_cst, val_main_call0_cst_0, val_main_call0_cst_1, val_main_call1_v0, val_main_call1_v1, val_main_call1_v2, Ideal.logistic]

theorem v35_apply (r : Fin 8192) (j : Fin 4608) : val_main_v35 (F := Ideal) pre dout (ix2 r j) = DC pre dout j r := by
  pointwise [val_main_v35, val_main_v32, v34_apply, DC]

theorem look_mul (d : Col) (y : EReal) (r s n : ℕ) (hn : n + s = 8192) :
    (if h : r < n then d ⟨s + r, by omega⟩ * y else 0) = look d (r + s) * y := by
  by_cases h : r < n
  · rw [dif_pos h, look_of_lt d (show r + s < 8192 by omega)]
    exact congrArg (fun i => d i * y) (Fin.ext (Nat.add_comm _ _))
  · rw [dif_neg h, look_of_le d (by omega), zero_mul]

theorem v76_apply (r : Fin 8192) (j : Fin 4608) : val_main_v76 (F := Ideal) w pre dout (ix2 r j) = dconv (DC pre dout j) (WC w j) r.val := by
  pointwise [val_main_v76, val_main_v75, val_main_v74, val_main_v70, val_main_v69, val_main_v6,
    val_main_v65, val_main_v64, val_main_v63, val_main_v59, val_main_v58, val_main_v13,
    val_main_v54, val_main_v53, val_main_v52, val_main_v48, val_main_v47, val_main_v21, val_main_v42, val_main_v41, val_main_v25, val_main_cst_12,
    val_main_cst_15, val_main_cst_18, v35_apply, dconv, WC]
  refine congrArg₂ (· + ·) (congrArg₂ (· + ·) (congrArg₂ (· + ·) ?_ ?_) ?_) ?_
  · rw [look_of_lt _ r.isLt]
  · exact look_mul _ _ _ _ _ rfl
  · exact look_mul _ _ _ _ _ rfl
  · exact look_mul _ _ _ _ _ rfl

theorem v80_apply (r : Fin 8192) (j : Fin 4608) : val_main_v80 (F := Ideal) w pre dout (ix2 r j) = dconv (DC pre dout j) (WC w j) r.val := by
  pointwise [val_main_v80, v76_apply]

theorem v82_apply (a : Fin 1024) (j : Fin 4608) : val_main_v82 (F := Ideal) u w pre dout (ix2 a j)
    = ∑ r : Fin 8192, u (ix2 r a) * dconv (DC pre dout j) (WC w j) r.val := by
  pointwise [val_main_v82, val_main_v81, val_main_v78, v76_apply]
  exact Finset.sum_congr rfl fun r _ => mul_comm _ _

/-- The sums that make the last result's rows, each against the convolution's cotangent. -/
theorem v37_apply (j : Fin 4608) : val_main_v37 (F := Ideal) pre dout (ix2 0 j) = ∑ r, DC pre dout j r := by
  pointwise [val_main_v37, val_main_v36, val_main_cst_7, v35_apply]

theorem v40_apply (j : Fin 4608) : val_main_v40 (F := Ideal) x pre dout (ix2 0 j) = ∑ r, XC x j r * DC pre dout j r := by
  pointwise [val_main_v40, val_main_v39, val_main_v38, val_main_v0, val_main_cst_8, v35_apply, XC]

theorem v46_apply (j : Fin 4608) : val_main_v46 (F := Ideal) x pre dout (ix2 0 j) = ∑ r, down (XC x j) 1 r * DC pre dout j r := by
  pointwise [val_main_v46, val_main_v45, val_main_v44, val_main_cst_10, v19_apply, v35_apply]

theorem v57_apply (j : Fin 4608) : val_main_v57 (F := Ideal) x pre dout (ix2 0 j) = ∑ r, down (XC x j) 2 r * DC pre dout j r := by
  pointwise [val_main_v57, val_main_v56, val_main_v55, val_main_cst_13, v11_apply, v35_apply]

theorem v68_apply (j : Fin 4608) : val_main_v68 (F := Ideal) x pre dout (ix2 0 j) = ∑ r, down (XC x j) 3 r * DC pre dout j r := by
  pointwise [val_main_v68, val_main_v67, val_main_v66, val_main_cst_16, v4_apply, v35_apply]

theorem v84_apply (s : Fin 8) (j : Fin 4608) : val_main_v84 (F := Ideal) x pre dout (ix2 s j) = taps (XC x j) (DC pre dout j) s := by
  unfold taps
  fin_cases s <;> pointwise [val_main_v84, val_main_v72, val_main_v71, val_main_v61, val_main_v60, val_main_v50, val_main_v49, val_main_v43,
    val_main_v83, val_main_cst_9, val_main_cst_11, val_main_cst_14, val_main_cst_17, val_main_cst_20,
    v37_apply, v40_apply, v46_apply, v57_apply, v68_apply]
  · exact sum_down _ _ (by omega)
  · exact sum_down _ _ (by omega)
  · exact sum_down _ _ (by omega)
  · exact Finset.sum_congr rfl fun r _ => by rw [look_of_lt _ r.isLt, mul_comm]

end Arrays
end Cert.ConvBwdRefIdeal.Read
-- ==== Proof.Conv.Tiles.lean ====
/-
  The blocks of the convolution's backward kernel at a grid point, read at an index, as pieces of the columns of the launch's
  arguments.
-/
module

public import proofs.«01_k».proof.Proof.Conv.Host
public import proofs.«01_k».proof.Proof.Conv.RefRows

@[expose] public section

set_option maxRecDepth 16384

noncomputable section

open Idealize.ShloMosaic Idealize.ShloMosaic.TcCoe Idealize.SL.Sem
open Cert.Conv
open Cert.ConvBwdRefIdeal.Read (XC WC DC)

namespace Cert.ConvBwdIdeal.Value

open Cert.ConvBwdIdeal Cert.ConvBwdIdeal.Gen

variable (m : (ℓ : Loc nD τ sig) → Buf (Elt Ideal) ℓ)

/-- Which block of its array each window holds at point `t`. -/
theorem idx : ∀ t : Fin cfg0.N, win0_0.index t = ![t.val % 8, 0] ∧ win0_1.index t = ![t.val % 8, t.val / 8] ∧ win0_2.index t = ![t.val % 8, t.val / 8]
    ∧ win0_3.index t = ![min ((t.val % 8 + 1) * 64) 511, t.val / 8] ∧ win0_4.index t = ![0, t.val / 8] ∧ win0_5.index t = ![t.val % 8, t.val / 8]
    ∧ win0_6.index t = ![min ((t.val % 8 + 1) * 64) 511, t.val / 8]
    ∧ win0_7.index t = ![t.val % 8, t.val / 8] ∧ win0_8.index t = ![0, t.val / 8] ∧ win0_9.index t = ![0, t.val / 8] :=
  (by decide +kernel : ∀ t : Fin grid0.N, _)

/-- The grid's second coordinate counts the blocks of rows. -/
theorem coord1 : ∀ t : Fin cfg0.N, (grid0.coords t 1).val = t.val % 8 := (by decide +kernel : ∀ t : Fin grid0.N, _)

theorem lt_third (t : Fin cfg0.N) : t.val / 8 < 3 := by
  have := lt_of_lt_of_eq t.isLt N_0; omega

/-- The row of the arrays at row `r` of point `t`'s block. -/
abbrev row (t : Fin cfg0.N) (r : Fin 1024) : Fin 8192 := ⟨t.val % 8 * 1024 + r.val, by omega⟩
/-- The column of the arrays at column `k` of point `t`'s block. -/
abbrev col (t : Fin cfg0.N) (k : Fin 1536) : Fin 4608 := ⟨t.val / 8 * 1536 + k.val, by have := lt_third t; omega⟩
/-- The row of the arrays at row `r` of the block that follows point `t`'s; the last row block is followed by the arrays' end. -/
abbrev nrow (t : Fin cfg0.N) (r : Fin 16) : Fin 8192 := ⟨min ((t.val % 8 + 1) * 64) 511 * 16 + r.val, by omega⟩

theorem u_apply (c : Dev nD) (t : Fin cfg0.N) (r : Fin 1024) (a : Fin 1024) :
    (iblk m c 0 t : FVec Ideal S1024x1024 .bf16) (ix2 r a) = m ((c.tc : Thread nD τ).loc main_arg0) (ix2 (row t r) a) := by
  blk_point [iblk, V, idx t]

theorem x_apply (c : Dev nD) (t : Fin cfg0.N) (r : Fin 1024) (k : Fin 1536) :
    (iblk m c 1 t : FVec Ideal S1024x1536 .bf16) (ix2 r k) = m ((c.tc : Thread nD τ).loc main_arg1) (ix2 (row t r) (col t k)) := by
  blk_point [iblk, V, idx t]

theorem ds_apply (c : Dev nD) (t : Fin cfg0.N) (r : Fin 1024) (k : Fin 1536) :
    (iblk m c 2 t : FVec Ideal S1024x1536 .bf16) (ix2 r k) = SA m c (ix2 (row t r) (col t k)) := by
  unfold SA
  blk_point [iblk, idx t]

theorem dsn_apply (c : Dev nD) (t : Fin cfg0.N) (r : Fin 16) (k : Fin 1536) :
    (iblk m c 3 t : FVec Ideal S16x1536 .bf16) (ix2 r k) = SA m c (ix2 (nrow t r) (col t k)) := by
  unfold SA
  blk_point [iblk, idx t]

theorem w_apply (c : Dev nD) (t : Fin cfg0.N) (s : Fin 4) (k : Fin 1536) :
    (iblk m c 4 t : FVec Ideal S4x1536 .f32) (ix2 s k) = m ((c.tc : Thread nD τ).loc main_arg2) (ix2 s (col t k)) := by
  blk_point [iblk, V, idx t]

theorem dd_apply (c : Dev nD) (t : Fin cfg0.N) (r : Fin 1024) (k : Fin 1536) :
    (iblk m c 5 t : FVec Ideal S1024x1536 .bf16) (ix2 r k) = m ((c.tc : Thread nD τ).loc main_arg4) (ix2 (row t r) (col t k)) := by
  blk_point [iblk, V, idx t]

theorem ddn_apply (c : Dev nD) (t : Fin cfg0.N) (r : Fin 16) (k : Fin 1536) :
    (iblk m c 6 t : FVec Ideal S16x1536 .bf16) (ix2 r k) = m ((c.tc : Thread nD τ).loc main_arg4) (ix2 (nrow t r) (col t k)) := by
  blk_point [iblk, V, idx t]

/-- A third of a block's columns, read where the whole is. -/
theorem ld_cols {R : ℕ} {e : EltTy} (G : (⟨2, ![R, 1536]⟩ : Shape).Idx → Elt Ideal e) (a o A : ℕ)
    (inb : ∀ q, (![a, o] : Fin 2 → ℕ) q + (![A, 512] : Fin 2 → ℕ) q ≤ (⟨2, ![R, 1536]⟩ : Shape).size q) (r : Fin A) (k : Fin 512)
    (hr : a + r.val < R) (hk : o + k.val < 1536) :
    (View.ld (Val := Elt Ideal) (e' := e) G (Rect.unit (s := ⟨2, ![R, 1536]⟩) ![a, o] ![A, 512] inb) : (⟨2, ![A, 512]⟩ : Shape).Idx → Elt Ideal e) (ix2 r k)
      = G (ix2 ⟨a + r.val, hr⟩ ⟨o + k.val, hk⟩) := by
  refine congrArg G ?_
  blk_ext
  · exact congrArg (a + ·) (Nat.one_mul _)
  · exact congrArg (o + ·) (Nat.one_mul _)

theorem inbR (o : ℕ) (h : o + 512 ≤ 1536) : ∀ q, (![0, o] : Fin 2 → ℕ) q + (![1024, 512] : Fin 2 → ℕ) q ≤ S1024x1536.size q := by
  intro q; fin_cases q
  · exact Nat.le_refl 1024
  · exact h

theorem inbN (o : ℕ) (h : o + 512 ≤ 1536) : ∀ q, (![0, o] : Fin 2 → ℕ) q + (![16, 512] : Fin 2 → ℕ) q ≤ S16x1536.size q := by
  intro q; fin_cases q
  · exact Nat.le_refl 16
  · exact h

theorem inbW (s o : ℕ) (hs : s + 1 ≤ 4) (h : o + 512 ≤ 1536) : ∀ q, (![s, o] : Fin 2 → ℕ) q + (![1, 512] : Fin 2 → ℕ) q ≤ S4x1536.size q := by
  intro q; fin_cases q
  · exact hs
  · exact h

/-- Columns `o` to `o + 511` of a block of rows. -/
abbrev rowsP (G : FVec Ideal S1024x1536 .bf16) (o : ℕ) (h : o + 512 ≤ 1536) : FVec Ideal S1024x512 .bf16 :=
  View.ld (Val := Elt Ideal) (e' := .bf16) G (Rect.unit (s := S1024x1536) ![0, o] ![1024, 512] (inbR o h))
/-- The same columns of the rows after it. -/
abbrev nextP (G : FVec Ideal S16x1536 .bf16) (o : ℕ) (h : o + 512 ≤ 1536) : FVec Ideal S16x512 .bf16 :=
  View.ld (Val := Elt Ideal) (e' := .bf16) G (Rect.unit (s := S16x1536) ![0, o] ![16, 512] (inbN o h))
/-- The same columns of tap `s`. -/
abbrev tapP (G : FVec Ideal S4x1536 .f32) (s : ℕ) (hs : s + 1 ≤ 4) (o : ℕ) (h : o + 512 ≤ 1536) : FVec Ideal S1x512 .f32 :=
  View.ld (Val := Elt Ideal) (e' := .f32) G (Rect.unit (s := S4x1536) ![s, o] ![1, 512] (inbW s o hs h))

theorem rowsP_apply (G : FVec Ideal S1024x1536 .bf16) (o : ℕ) (h : o + 512 ≤ 1536) (r : Fin 1024) (k : Fin 512) :
    rowsP G o h (ix2 r k) = G (ix2 r ⟨o + k.val, by omega⟩) :=
  (ld_cols (e := .bf16) G 0 o 1024 (inbR o h) r k (by omega) (by omega)).trans (congrArg (fun q => G (ix2 q _)) (Fin.ext (Nat.zero_add _)))

theorem nextP_apply (G : FVec Ideal S16x1536 .bf16) (o : ℕ) (h : o + 512 ≤ 1536) (r : Fin 16) (k : Fin 512) :
    nextP G o h (ix2 r k) = G (ix2 r ⟨o + k.val, by omega⟩) :=
  (ld_cols (e := .bf16) G 0 o 16 (inbN o h) r k (by omega) (by omega)).trans (congrArg (fun q => G (ix2 q _)) (Fin.ext (Nat.zero_add _)))

theorem tapP_apply (G : FVec Ideal S4x1536 .f32) (s : ℕ) (hs : s + 1 ≤ 4) (o : ℕ) (h : o + 512 ≤ 1536) (k : Fin 512) :
    tapP G s hs o h (ix2 0 k) = G (ix2 ⟨s, by omega⟩ ⟨o + k.val, by omega⟩) :=
  ld_cols (e := .f32) G s o 1 (inbW s o hs h) 0 k (by show s + 0 < 4; omega) (by omega)

/-- Column `j` of the convolution's cotangent, from the launch's arguments. -/
abbrev DA (c : Dev nD) (j : Fin 4608) : Col := DC (PA m c) (m ((c.tc : Thread nD τ).loc main_arg4)) j
/-- Column `j` of the taps. -/
abbrev WA (c : Dev nD) (j : Fin 4608) : Fin 4 → EReal := WC (m ((c.tc : Thread nD τ).loc main_arg2)) j
/-- Column `j` of the convolution's input. -/
abbrev XA (c : Dev nD) (j : Fin 4608) : Col := XC (m ((c.tc : Thread nD τ).loc main_arg1)) j

/-- The token rows. -/
abbrev UA (c : Dev nD) : FVec Ideal S8192x1024 .bf16 := m ((c.tc : Thread nD τ).loc main_arg0)

section Piece

variable (c : Dev nD) (t : Fin cfg0.N) (o : ℕ) (h : o + 512 ≤ 1536)

/-- Column `k` of the cotangents that point `t` sees in its columns from `o` on. -/
abbrev eP (k : Fin 512) (r : ℕ) : EReal :=
  eB (grid0.coords t) (rowsP (iblk m c 5 t) o h) (rowsP (iblk m c 2 t) o h) (nextP (iblk m c 6 t) o h) (nextP (iblk m c 3 t) o h) k r

theorem dP_eq (k : Fin 512) (r : Fin 1024) : dB (rowsP (iblk m c 5 t) o h) (rowsP (iblk m c 2 t) o h) (ix2 r k)
    = DA m c (col t ⟨o + k.val, by omega⟩) (row t r) := by
  rw [dB_apply, rowsP_apply, rowsP_apply, dd_apply, ds_apply, SA_apply]
  rfl

theorem nP_eq (k : Fin 512) (r : Fin 8) (hl : ¬t.val % 8 = 7) :
    nextP (iblk m c 6 t) o h (ix2 ⟨r.val, by omega⟩ k) * nextP (iblk m c 3 t) o h (ix2 ⟨r.val, by omega⟩ k)
    = DA m c (col t ⟨o + k.val, by omega⟩) ⟨t.val % 8 * 1024 + 1024 + r.val, by omega⟩ := by
  rw [nextP_apply, nextP_apply, ddn_apply, dsn_apply, SA_apply]
  have hr : nrow t ⟨r.val, by omega⟩ = ⟨t.val % 8 * 1024 + 1024 + r.val, by omega⟩ := Fin.ext (by
    show min ((t.val % 8 + 1) * 64) 511 * 16 + r.val = t.val % 8 * 1024 + 1024 + r.val; omega)
  rw [hr]
  rfl

/-- Those cotangents are the column's, from the block's first row on. -/
theorem eP_eq (k : Fin 512) (r : ℕ) (hr : r < 1032) : eP m c t o h k r = look (DA m c (col t ⟨o + k.val, by omega⟩)) (t.val % 8 * 1024 + r) := by
  show ext _ _ k r = _
  unfold ext
  by_cases h1 : r < 1024
  · rw [dif_pos h1, look_of_lt _ (show t.val % 8 * 1024 + r < 8192 by omega)]
    exact dP_eq m c t o h k ⟨r, h1⟩
  · rw [dif_neg h1, dif_pos (show r - 1024 < 8 by omega), nB_apply, coord1]
    by_cases h2 : t.val % 8 = 7
    · rw [if_pos h2, look_of_le _ (by omega)]
    · rw [if_neg h2, look_of_lt _ (show t.val % 8 * 1024 + r < 8192 by omega)]
      refine (nP_eq m c t o h k ⟨r - 1024, by omega⟩ h2).trans (congrArg _ (Fin.ext ?_))
      show t.val % 8 * 1024 + 1024 + (r - 1024) = t.val % 8 * 1024 + r
      omega

/-- The gradients of the convolution's input in the point's columns from `o` on. -/
abbrev dxP : FVec Ideal S1024x512 .bf16 :=
  dxB (grid0.coords t) (rowsP (iblk m c 5 t) o h) (rowsP (iblk m c 2 t) o h) (nextP (iblk m c 6 t) o h) (nextP (iblk m c 3 t) o h)
    (tapP (iblk m c 4 t) 0 (by omega) o h) (tapP (iblk m c 4 t) 1 (by omega) o h) (tapP (iblk m c 4 t) 2 (by omega) o h)
    (tapP (iblk m c 4 t) 3 (by omega) o h)

theorem dxP_eq (r : Fin 1024) (k : Fin 512) : dxP m c t o h (ix2 r k)
    = dconv (DA m c (col t ⟨o + k.val, by omega⟩)) (WA m c (col t ⟨o + k.val, by omega⟩)) (row t r).val := by
  refine (dxB_apply ..).trans ?_
  have e := eP_eq m c t o h k
  unfold eP at e
  rw [e _ (by omega), e _ (by omega), e _ (by omega), e _ (by omega)]
  rw [tapP_apply, tapP_apply, tapP_apply, tapP_apply, w_apply, w_apply, w_apply, w_apply]
  rfl

end Piece

/-- What point `t` adds to the gradient of the projection. -/
def dwT (c : Dev nD) (t : Fin cfg0.N) (a : Fin 1024) (k : Fin 1536) : EReal :=
  ∑ r : Fin 1024, UA m c (ix2 (row t r) a) * dconv (DA m c (col t k)) (WA m c (col t k)) (row t r).val

/-- What point `t` adds to the gradients of the taps and the bias. -/
def tapT (c : Dev nD) (t : Fin cfg0.N) (s : Fin 8) (k : Fin 1536) : EReal :=
  if s.val = 4 then ∑ r : Fin 1024, look (DA m c (col t k)) (row t r).val
  else if s.val ≤ 3 then ∑ r : Fin 1024, look (DA m c (col t k)) ((row t r).val + (3 - s.val)) * XA m c (col t k) (row t r) else 0

section Piece

variable (c : Dev nD) (t : Fin cfg0.N) (o : ℕ) (h : o + 512 ≤ 1536)

theorem dwP_eq (acc : FVec Ideal S1024x512 .f32) (a : Fin 1024) (k : Fin 512) :
    k0_pay17 (F := Ideal) (iblk m c 0 t)
      (u2 (grid0.coords t) (rowsP (iblk m c 5 t) o h) (rowsP (iblk m c 2 t) o h) (nextP (iblk m c 6 t) o h) (nextP (iblk m c 3 t) o h))
      (u3 (grid0.coords t) (rowsP (iblk m c 5 t) o h) (rowsP (iblk m c 2 t) o h) (nextP (iblk m c 6 t) o h) (nextP (iblk m c 3 t) o h))
      (k0_pay12 (F := Ideal) (dB (rowsP (iblk m c 5 t) o h) (rowsP (iblk m c 2 t) o h))
        (u1 (grid0.coords t) (rowsP (iblk m c 5 t) o h) (rowsP (iblk m c 2 t) o h) (nextP (iblk m c 6 t) o h) (nextP (iblk m c 3 t) o h))
        (tapP (iblk m c 4 t) 3 (by omega) o h) (tapP (iblk m c 4 t) 2 (by omega) o h))
      (tapP (iblk m c 4 t) 1 (by omega) o h) (tapP (iblk m c 4 t) 0 (by omega) o h) acc (ix2 a k)
      = acc (ix2 a k) + dwT m c t a ⟨o + k.val, by omega⟩ := by
  refine (dwB_apply ..).trans (congrArg (_ + ·) (Finset.sum_congr rfl fun r _ => ?_))
  exact congrArg₂ (· * ·) (u_apply m c t r a) (dxP_eq m c t o h r k)

/-- What the point adds to the gradients of the taps and the bias in its columns from `o` on. -/
abbrev tP : FVec Ideal S8x512 .f32 :=
  tB (grid0.coords t) (rowsP (iblk m c 1 t) o h) (rowsP (iblk m c 5 t) o h) (rowsP (iblk m c 2 t) o h) (nextP (iblk m c 6 t) o h)
    (nextP (iblk m c 3 t) o h)

theorem tP_eq (s : Fin 8) (k : Fin 512) : tP m c t o h (ix2 s k) = tapT m c t s ⟨o + k.val, by omega⟩ := by
  refine (tB_apply ..).trans ?_
  unfold tapT
  have e := eP_eq m c t o h k
  unfold eP at e
  split_ifs with h1 h2
  · exact Finset.sum_congr rfl fun r _ => e _ (by omega)
  · refine Finset.sum_congr rfl fun r _ => congrArg₂ (· * ·) ((e _ (by omega)).trans (congrArg _ (Nat.add_assoc _ _ _).symm)) ?_
    rw [rowsP_apply, x_apply]
    rfl
  · rfl

end Piece

end Cert.ConvBwdIdeal.Value
-- ==== Proof.Conv.Thirds.lean ====
/-
  The three thirds of its columns that the convolution's backward kernel stores one after another, and what each point leaves in its
  blocks of results.
-/
module

public import proofs.«01_k».proof.Proof.Conv.Tiles

@[expose] public section

set_option maxRecDepth 16384

noncomputable section

open Idealize.ShloMosaic Idealize.ShloMosaic.TcCoe Idealize.SL.Sem
open Cert.Conv
open Cert.ConvBwdRefIdeal.Read (XC WC DC)

namespace Cert.ConvBwdIdeal.Value

open Cert.ConvBwdIdeal Cert.ConvBwdIdeal.Gen

section Thirds

variable {R : ℕ} {e : EltTy} (o : ℕ)
  (inb : ∀ q, (![0, o] : Fin 2 → ℕ) q + (![R, 512] : Fin 2 → ℕ) q ≤ (⟨2, ![R, 1536]⟩ : Shape).size q)
  (w : (⟨2, ![R, 512]⟩ : Shape).Idx → Elt Ideal e) (L : List (View.Piece (Elt Ideal) ⟨2, ![R, 1536]⟩ e))

/-- A stored third, read in its own columns. -/
theorem canon_hit (a : Fin R) (k : Fin 512) (hk : o + k.val < 1536) :
    View.canon (Val := Elt Ideal) (s := ⟨2, ![R, 1536]⟩) (e := e) (⟨Rect.unit ![0, o] ![R, 512] inb, w⟩ :: L) (ix2 a ⟨o + k.val, hk⟩) = w (ix2 a k) := by
  refine Eq.trans (congrArg _ ?_) (View.canon_cons_emb (Rect.unit (s := ⟨2, ![R, 1536]⟩) ![0, o] ![R, 512] inb) w L (ix2 a k))
  blk_ext

/-- A stored third, read outside its columns. -/
theorem canon_miss (a : Fin R) (j : Fin 1536) (hj : j.val < o ∨ o + 512 ≤ j.val) :
    View.canon (Val := Elt Ideal) (s := ⟨2, ![R, 1536]⟩) (e := e) (⟨Rect.unit ![0, o] ![R, 512] inb, w⟩ :: L) (ix2 a j)
      = View.canon (Val := Elt Ideal) (s := ⟨2, ![R, 1536]⟩) (e := e) L (ix2 a j) := by
  refine View.canon_cons_of_not_mem _ _ fun hm => ?_
  have h1 := (Rect.mem_set_unit (inb := inb).mp hm) 1
  have e1 : o ≤ j.val ∧ j.val < o + 512 := h1
  omega

/-- What was stored before, read a third at a time. -/
theorem readCov_cols {κ : Kind} {sp : Space} (v : View sig κ sp ⟨2, ![R, 1536]⟩ e) (a : Fin R) (k : Fin 512) (hk : o + k.val < 1536) :
    (v.readCov L (Rect.unit (s := ⟨2, ![R, 1536]⟩) ![0, o] ![R, 512] inb).toLoadRect : (⟨2, ![R, 512]⟩ : Shape).Idx → Elt Ideal e) (ix2 a k)
      = View.canon (Val := Elt Ideal) (s := ⟨2, ![R, 1536]⟩) (e := e) L (ix2 a ⟨o + k.val, hk⟩) := by
  rw [View.readCov_eq_canon']
  refine congrArg (View.canon L) ?_
  blk_ext
  · exact (Nat.zero_add _).trans (Nat.one_mul _)
  · exact congrArg (o + ·) (Nat.one_mul _)

end Thirds

/-- A column of a block is in one of its thirds. -/
theorem third_cases (j : Fin 1536) : (∃ k : Fin 512, j = ⟨0 + k.val, by omega⟩) ∨ (∃ k : Fin 512, j = ⟨512 + k.val, by omega⟩)
    ∨ (∃ k : Fin 512, j = ⟨1024 + k.val, by omega⟩) := by
  by_cases h1 : j.val < 512
  · exact Or.inl ⟨⟨j.val, h1⟩, Fin.ext (Nat.zero_add _).symm⟩
  · by_cases h2 : j.val < 1024
    · exact Or.inr (Or.inl ⟨⟨j.val - 512, by omega⟩, Fin.ext (by show j.val = 512 + (j.val - 512); omega)⟩)
    · exact Or.inr (Or.inr ⟨⟨j.val - 1024, by omega⟩, Fin.ext (by show j.val = 1024 + (j.val - 1024); omega)⟩)

/-- A third of what the point before left, read where the whole is. -/
theorem third_ld {R : ℕ} (G : (⟨2, ![R, 1536]⟩ : Shape).Idx → Elt Ideal .f32) (o : ℕ) (h : o + 512 ≤ 1536) {i0} (a : Fin R) (k : Fin 512) :
    (View.ld (Val := Elt Ideal) (e' := .f32) G (Rect.unit (s := ⟨2, ![R, 1536]⟩) ![0, o] ![R, 512] i0) : (⟨2, ![R, 512]⟩ : Shape).Idx → Elt Ideal .f32) (ix2 a k)
      = G (ix2 a ⟨o + k.val, by omega⟩) :=
  (ld_cols (e := .f32) G 0 o R i0 a k (by omega) (by omega)).trans (congrArg (fun q => G (ix2 q _)) (Fin.ext (Nat.zero_add _)))

/-- Three stored thirds are the block they are the columns of. -/
theorem thirds {R : ℕ} {e : EltTy} {i0 i1 i2} (A B C : (⟨2, ![R, 512]⟩ : Shape).Idx → Elt Ideal e)
    (L : List (View.Piece (Elt Ideal) ⟨2, ![R, 1536]⟩ e)) (a : Fin R) (F : Fin 1536 → Elt Ideal e)
    (hA : ∀ k : Fin 512, A (ix2 a k) = F ⟨0 + k.val, by omega⟩) (hB : ∀ k : Fin 512, B (ix2 a k) = F ⟨512 + k.val, by omega⟩)
    (hC : ∀ k : Fin 512, C (ix2 a k) = F ⟨1024 + k.val, by omega⟩) (j : Fin 1536) :
    View.canon (Val := Elt Ideal) (s := ⟨2, ![R, 1536]⟩) (e := e) (⟨Rect.unit ![0, 1024] ![R, 512] i2, C⟩ :: ⟨Rect.unit ![0, 512] ![R, 512] i1, B⟩
      :: ⟨Rect.unit ![0, 0] ![R, 512] i0, A⟩ :: L) (ix2 a j) = F j := by
  obtain ⟨k, rfl⟩ | ⟨k, rfl⟩ | ⟨k, rfl⟩ := third_cases j
  · refine (canon_miss _ _ _ _ a _ (Or.inl (by show 0 + k.val < 1024; omega))).trans ?_
    refine (canon_miss _ _ _ _ a _ (Or.inl (by show 0 + k.val < 512; omega))).trans ?_
    exact (canon_hit 0 _ _ _ a k _).trans (hA k)
  · refine (canon_miss _ _ _ _ a _ (Or.inl (by show 512 + k.val < 1024; omega))).trans ?_
    exact (canon_hit 512 _ _ _ a k _).trans (hB k)
  · exact (canon_hit 1024 _ _ _ a k _).trans (hC k)

/-- What the three thirds find where nothing but `z` was stored before them. -/
theorem before0 {R : ℕ} {e : EltTy} {κ : Kind} {sp : Space} (v : View sig κ sp ⟨2, ![R, 1536]⟩ e) {i0 i}
    (z : (⟨2, ![R, 1536]⟩ : Shape).Idx → Elt Ideal e) (a : Fin R) (k : Fin 512) :
    (v.readCov [⟨Rect.unit ![0, 0] ![R, 1536] i, z⟩] (Rect.unit (s := ⟨2, ![R, 1536]⟩) ![0, 0] ![R, 512] i0).toLoadRect : (⟨2, ![R, 512]⟩ : Shape).Idx → Elt Ideal e) (ix2 a k)
      = z (ix2 a ⟨0 + k.val, by omega⟩) := by
  refine (readCov_cols 0 i0 _ v a k (by omega)).trans ?_
  exact congrFun (View.canon_cons_unit_lit (S := ⟨2, ![R, 1536]⟩) i z [] (by intro q; fin_cases q <;> rfl)) _

theorem before1 {R : ℕ} {e : EltTy} {κ : Kind} {sp : Space} (v : View sig κ sp ⟨2, ![R, 1536]⟩ e) {i0 i1 i}
    (z : (⟨2, ![R, 1536]⟩ : Shape).Idx → Elt Ideal e) (A : (⟨2, ![R, 512]⟩ : Shape).Idx → Elt Ideal e) (a : Fin R) (k : Fin 512) :
    (v.readCov [⟨Rect.unit ![0, 0] ![R, 512] i0, A⟩, ⟨Rect.unit ![0, 0] ![R, 1536] i, z⟩]
      (Rect.unit (s := ⟨2, ![R, 1536]⟩) ![0, 512] ![R, 512] i1).toLoadRect : (⟨2, ![R, 512]⟩ : Shape).Idx → Elt Ideal e) (ix2 a k)
      = z (ix2 a ⟨512 + k.val, by omega⟩) := by
  refine (readCov_cols 512 i1 _ v a k (by omega)).trans ?_
  refine (canon_miss 0 i0 A _ a _ (Or.inr (by show 0 + 512 ≤ 512 + k.val; omega))).trans ?_
  exact congrFun (View.canon_cons_unit_lit (S := ⟨2, ![R, 1536]⟩) i z [] (by intro q; fin_cases q <;> rfl)) _

theorem before2 {R : ℕ} {e : EltTy} {κ : Kind} {sp : Space} (v : View sig κ sp ⟨2, ![R, 1536]⟩ e) {i0 i1 i2 i}
    (z : (⟨2, ![R, 1536]⟩ : Shape).Idx → Elt Ideal e) (A B : (⟨2, ![R, 512]⟩ : Shape).Idx → Elt Ideal e) (a : Fin R) (k : Fin 512) :
    (v.readCov [⟨Rect.unit ![0, 512] ![R, 512] i1, B⟩, ⟨Rect.unit ![0, 0] ![R, 512] i0, A⟩, ⟨Rect.unit ![0, 0] ![R, 1536] i, z⟩]
      (Rect.unit (s := ⟨2, ![R, 1536]⟩) ![0, 1024] ![R, 512] i2).toLoadRect : (⟨2, ![R, 512]⟩ : Shape).Idx → Elt Ideal e) (ix2 a k)
      = z (ix2 a ⟨1024 + k.val, by omega⟩) := by
  refine (readCov_cols 1024 i2 _ v a k (by omega)).trans ?_
  refine (canon_miss 512 i1 B _ a _ (Or.inr (by show 512 + 512 ≤ 1024 + k.val; omega))).trans ?_
  refine (canon_miss 0 i0 A _ a _ (Or.inr (by show 0 + 512 ≤ 1024 + k.val; omega))).trans ?_
  exact congrFun (View.canon_cons_unit_lit (S := ⟨2, ![R, 1536]⟩) i z [] (by intro q; fin_cases q <;> rfl)) _

variable (m : (ℓ : Loc nD τ sig) → Buf (Elt Ideal) ℓ)

theorem zero1 (y : S1024x1536.Idx) (z : EReal) : k0_pay1 (F := Ideal) y + z = z := by
  have h : k0_pay1 (F := Ideal) y = 0 := by pointwise [k0_pay1]
  rw [h, zero_add]

theorem zero2 (y : S8x1536.Idx) (z : EReal) : k0_pay2 (F := Ideal) y + z = z := by
  have h : k0_pay2 (F := Ideal) y = 0 := by pointwise [k0_pay2]
  rw [h, zero_add]

/-- The point's block of gradients of the convolution's input. -/
theorem dx_point (c : Dev nD) (t : Fin cfg0.N) (r : Fin 1024) (j : Fin 1536) :
    (outsAt0 m c t.val t.isLt).1 (ix2 r j) = dconv (DA m c (col t j)) (WA m c (col t j)) (row t r).val := by
  by_cases h : t.val % 8 = 0
  · rw [outsAt0_A m c t h]
    frame_out
    refine thirds (e := .bf16) _ _ _ [] r (fun j => dconv (DA m c (col t j)) (WA m c (col t j)) (row t r).val) ?_ ?_ ?_ j
    · exact dxP_eq m c t 0 (by omega) r
    · exact dxP_eq m c t 512 (by omega) r
    · exact dxP_eq m c t 1024 (by omega) r
  · rw [outsAt0_B m c t h]
    frame_out
    refine thirds (e := .bf16) _ _ _ [] r (fun j => dconv (DA m c (col t j)) (WA m c (col t j)) (row t r).val) ?_ ?_ ?_ j
    · exact dxP_eq m c t 0 (by omega) r
    · exact dxP_eq m c t 512 (by omega) r
    · exact dxP_eq m c t 1024 (by omega) r

/-- The first point of a block of columns leaves its own part of the projection's gradient. -/
theorem dw_first (c : Dev nD) (t : Fin cfg0.N) (h : t.val % 8 = 0) (a : Fin 1024) (j : Fin 1536) :
    (outsAt0 m c t.val t.isLt).2.1 (ix2 a j) = dwT m c t a j := by
  rw [outsAt0_A m c t h]
  frame_out
  refine thirds (e := .f32) _ _ _ _ a (dwT m c t a) ?_ ?_ ?_ j
  · exact fun k => (dwP_eq m c t 0 (by omega) _ a k).trans ((congrArg (· + _) (before0 _ _ a k)).trans (zero1 _ _))
  · exact fun k => (dwP_eq m c t 512 (by omega) _ a k).trans ((congrArg (· + _) (before1 _ _ _ a k)).trans (zero1 _ _))
  · exact fun k => (dwP_eq m c t 1024 (by omega) _ a k).trans ((congrArg (· + _) (before2 _ _ _ _ a k)).trans (zero1 _ _))

/-- Each later point adds its part. -/
theorem dw_next (c : Dev nD) (t : Fin cfg0.N) (h : ¬t.val % 8 = 0) (a : Fin 1024) (j : Fin 1536) :
    (outsAt0 m c t.val t.isLt).2.1 (ix2 a j)
      = (outsAt0 m c (t.val - 1) (Nat.lt_of_le_of_lt (Nat.sub_le _ _) t.isLt)).2.1 (ix2 a j) + dwT m c t a j := by
  rw [outsAt0_B m c t h]
  frame_out
  refine thirds (e := .f32) _ _ _ [] a (fun j => (outsAt0 m c (t.val - 1) (Nat.lt_of_le_of_lt (Nat.sub_le _ _) t.isLt)).2.1 (ix2 a j) + dwT m c t a j) ?_ ?_ ?_ j
  · exact fun k => (dwP_eq m c t 0 (by omega) _ a k).trans (congrArg (· + _) (third_ld _ 0 (by omega) a k))
  · exact fun k => (dwP_eq m c t 512 (by omega) _ a k).trans (congrArg (· + _) (third_ld _ 512 (by omega) a k))
  · exact fun k => (dwP_eq m c t 1024 (by omega) _ a k).trans (congrArg (· + _) (third_ld _ 1024 (by omega) a k))

/-- The first point of a block of columns leaves its own part of the gradients of the taps and the bias. -/
theorem tap_first (c : Dev nD) (t : Fin cfg0.N) (h : t.val % 8 = 0) (s : Fin 8) (j : Fin 1536) :
    (outsAt0 m c t.val t.isLt).2.2 (ix2 s j) = tapT m c t s j := by
  rw [outsAt0_A m c t h]
  frame_out
  refine thirds (e := .f32) _ _ _ _ s (tapT m c t s) ?_ ?_ ?_ j
  · exact fun k => (dwbB_apply _ _ s k).trans ((congrArg₂ (· + ·) (before0 _ _ s k) (tP_eq m c t 0 (by omega) s k)).trans (zero2 _ _))
  · exact fun k => (dwbB_apply _ _ s k).trans ((congrArg₂ (· + ·) (before1 _ _ _ s k) (tP_eq m c t 512 (by omega) s k)).trans (zero2 _ _))
  · exact fun k => (dwbB_apply _ _ s k).trans ((congrArg₂ (· + ·) (before2 _ _ _ _ s k) (tP_eq m c t 1024 (by omega) s k)).trans (zero2 _ _))

/-- Each later point adds its part. -/
theorem tap_next (c : Dev nD) (t : Fin cfg0.N) (h : ¬t.val % 8 = 0) (s : Fin 8) (j : Fin 1536) :
    (outsAt0 m c t.val t.isLt).2.2 (ix2 s j)
      = (outsAt0 m c (t.val - 1) (Nat.lt_of_le_of_lt (Nat.sub_le _ _) t.isLt)).2.2 (ix2 s j) + tapT m c t s j := by
  rw [outsAt0_B m c t h]
  frame_out
  refine thirds (e := .f32) _ _ _ [] s (fun j => (outsAt0 m c (t.val - 1) (Nat.lt_of_le_of_lt (Nat.sub_le _ _) t.isLt)).2.2 (ix2 s j) + tapT m c t s j) ?_ ?_ ?_ j
  · exact fun k => (dwbB_apply _ _ s k).trans (congrArg₂ (· + ·) (third_ld _ 0 (by omega) s k) (tP_eq m c t 0 (by omega) s k))
  · exact fun k => (dwbB_apply _ _ s k).trans (congrArg₂ (· + ·) (third_ld _ 512 (by omega) s k) (tP_eq m c t 512 (by omega) s k))
  · exact fun k => (dwbB_apply _ _ s k).trans (congrArg₂ (· + ·) (third_ld _ 1024 (by omega) s k) (tP_eq m c t 1024 (by omega) s k))

end Cert.ConvBwdIdeal.Value
-- ==== Proof.Conv.Results.lean ====
/-
  The three results of the convolution's backward kernel, the gradients of its input, of the projection and of the taps and the bias.
  Each is the reference's array.
-/
module

public import proofs.«01_k».proof.Proof.Conv.Thirds

@[expose] public section

set_option maxRecDepth 16384

noncomputable section

open Idealize.ShloMosaic Idealize.ShloMosaic.TcCoe Idealize.SL.Sem
open Cert.Conv
open Cert.ConvBwdRefIdeal.Read (XC WC DC val_main_v80 v80_apply val_main_v82 v82_apply val_main_v84 v84_apply)

namespace Cert.ConvBwdIdeal.Value

open Cert.ConvBwdIdeal Cert.ConvBwdIdeal.Gen

variable (m : (ℓ : Loc nD τ sig) → Buf (Elt Ideal) ℓ)

/-- The array of gradients of the convolution's input. -/
theorem final7 (c : Dev nD) : (dats m 0 c).arrAt 7 (cfgs 0).N
    = val_main_v80 (F := Ideal) (m ((c.tc : Thread nD τ).loc main_arg2)) (PA m c) (m ((c.tc : Thread nD τ).loc main_arg4)) := by
  refine (dats m 0 c).arrAt_eq_of_covers 7 _ (by decide +kernel) fun t hf y => ?_
  blk_simp
  rw [after0_7]
  idx_vars y
  refine (dx_point m c t y0 y1).trans ((v80_apply _ _ _ (row t y0) (col t y1)).symm.trans ?_)
  blk_ext [idx t]

/-- The points of a block of columns. -/
abbrev pt (t : Fin cfg0.N) (s : Fin 8) : Fin cfg0.N := ⟨8 * (t.val / 8) + s.val, by
  have := lt_third t; exact lt_of_lt_of_eq (by omega : 8 * (t.val / 8) + s.val < 24) N_0.symm⟩

/-- Their blocks of rows make up all the rows. -/
theorem sum_rows (t : Fin cfg0.N) (f : Fin 8192 → EReal) : ∑ s : Fin 8, ∑ r : Fin 1024, f (row (pt t s) r) = ∑ r, f r :=
  Fin.sum_mul_add_congr (S := 8) fun s k hl => congrArg f (Fin.ext (by
    show (8 * (t.val / 8) + s.val) % 8 * 1024 + k.val = s.val * 1024 + k.val
    omega))

theorem col_pt (t : Fin cfg0.N) (s : Fin 8) (k : Fin 1536) : col (pt t s) k = col t k :=
  Fin.ext (by
    show (8 * (t.val / 8) + s.val) / 8 * 1536 + k.val = t.val / 8 * 1536 + k.val
    omega)

/-- The projection's gradient at the last point of a block of columns. -/
theorem dw_last (c : Dev nD) (t : Fin cfg0.N) (h : t.val % 8 = 7) (a : Fin 1024) (k : Fin 1536) :
    (outsAt0 m c t.val t.isLt).2.1 (ix2 a k)
      = ∑ r : Fin 8192, UA m c (ix2 r a) * dconv (DA m c (col t k)) (WA m c (col t k)) r.val := by
  have e := Pipeline.eq_sum_fin_of_reset_step_apply_of_flush (ι := Unit) (M := EReal)
    (fun n h _ => (outsAt0 m c n h).2.1 (ix2 a k)) 8 (fun _ => 0) (fun t _ => dwT m c t a k)
    (fun t h _ => (dw_first m c t h a k).trans (zero_add _).symm)
    (fun t h _ => dw_next m c t h a k) t h ()
  rw [e, zero_add]
  refine Eq.trans (Finset.sum_congr rfl fun s _ => ?_)
    (sum_rows t fun r => UA m c (ix2 r a) * dconv (DA m c (col t k)) (WA m c (col t k)) r.val)
  show dwT m c (pt t s) a k = _
  unfold dwT
  rw [col_pt]

/-- The array of the projection's gradient. -/
theorem final8 (c : Dev nD) : (dats m 0 c).arrAt 8 (cfgs 0).N
    = val_main_v82 (F := Ideal) (UA m c) (m ((c.tc : Thread nD τ).loc main_arg2)) (PA m c) (m ((c.tc : Thread nD τ).loc main_arg4)) := by
  refine (dats m 0 c).arrAt_eq_of_covers 8 _ (by decide +kernel) fun t hf y => ?_
  have ht := (flush0_8 t).mp hf
  blk_simp
  rw [after0_8]
  idx_vars y
  refine (dw_last m c t ht y0 y1).trans ((v82_apply _ _ _ _ y0 (col t y1)).symm.trans ?_)
  blk_ext [idx t]

/-- The gradients of the taps and the bias at the last point of a block of columns. -/
theorem tap_last (c : Dev nD) (t : Fin cfg0.N) (h : t.val % 8 = 7) (s : Fin 8) (k : Fin 1536) :
    (outsAt0 m c t.val t.isLt).2.2 (ix2 s k) = taps (XA m c (col t k)) (DA m c (col t k)) s := by
  have e := Pipeline.eq_sum_fin_of_reset_step_apply_of_flush (ι := Unit) (M := EReal)
    (fun n h _ => (outsAt0 m c n h).2.2 (ix2 s k)) 8 (fun _ => 0) (fun t _ => tapT m c t s k)
    (fun t h _ => (tap_first m c t h s k).trans (zero_add _).symm)
    (fun t h _ => tap_next m c t h s k) t h ()
  rw [e, zero_add]
  show ∑ q : Fin 8, tapT m c (pt t q) s k = _
  unfold tapT taps
  simp only [col_pt]
  by_cases h4 : s.val = 4
  · have h4' : s = 4 := Fin.ext h4
    simp only [if_pos h4, if_pos h4']
    refine (sum_rows t fun r => look (DA m c (col t k)) r.val).trans (Finset.sum_congr rfl fun r _ => look_of_lt _ r.isLt)
  · have h4' : ¬s = 4 := fun q => h4 (congrArg Fin.val q)
    by_cases h3 : s.val ≤ 3
    · have h3' : s ≤ 3 := h3
      simp only [if_neg h4, if_pos h3, if_neg h4', if_pos h3']
      exact sum_rows t fun r => look (DA m c (col t k)) (r.val + (3 - s.val)) * XA m c (col t k) r
    · have h3' : ¬s ≤ 3 := h3
      simp only [if_neg h4, if_neg h3, if_neg h4', if_neg h3']
      exact Finset.sum_const_zero

/-- The array of gradients of the taps and the bias. -/
theorem final9 (c : Dev nD) : (dats m 0 c).arrAt 9 (cfgs 0).N
    = val_main_v84 (F := Ideal) (m ((c.tc : Thread nD τ).loc main_arg1)) (PA m c) (m ((c.tc : Thread nD τ).loc main_arg4)) := by
  refine (dats m 0 c).arrAt_eq_of_covers 9 _ (by decide +kernel) fun t hf y => ?_
  have ht := (flush0_9 t).mp hf
  blk_simp
  rw [after0_9]
  idx_vars y
  refine (tap_last m c t ht y0 y1).trans ((v84_apply _ _ _ y0 (col t y1)).symm.trans ?_)
  blk_ext [idx t]

end Cert.ConvBwdIdeal.Value
-- ==== Proof.Adam.In.lean ====
/-
  The optimiser's step on one device's shard of the input projection's weights.  The kernel walks the 1024 rows in eight blocks of
  128 and the reference works on the whole array; at every index both are the same expression of the weight, its gradient and
  its two moments.
-/
module

public import proofs.«01_k».proof.Proof.Gen.AdamInIdeal.Value
public import proofs.«01_k».proof.Proof.Gen.AdamInRefIdeal.Read
public import Idealize.ShloMosaic.PureOps.Ideal

@[expose] public section

set_option maxRecDepth 16384

noncomputable section

open Idealize.ShloMosaic Idealize.ShloMosaic.TcCoe Idealize.SL.Sem
open Cert.AdamInRefIdeal.Read

namespace Cert.AdamInIdeal.Value

open Cert.AdamInIdeal Cert.AdamInIdeal.Gen

/-- A shard of the weights, of their gradient or of a moment. -/
abbrev Shard := S1x1024x1672.Idx → Elt Ideal .f32

/-- The change of the weights is the reference's. -/
theorem delta_eq (w g m v : Shard) : G4 (F := Ideal) g m v w = val_main_v23 (F := Ideal) w g m v := rfl

/-- The new first moment is the reference's. -/
theorem first_eq (g m : Shard) : G5 (F := Ideal) g m = val_main_v4 (F := Ideal) g m := rfl

/-- The new second moment is the reference's. -/
theorem second_eq (g v : Shard) : G6 (F := Ideal) g v = val_main_v10 (F := Ideal) g v := rfl

end Cert.AdamInIdeal.Value

end
-- ==== Proof.Adam.Out.lean ====
/-
  The optimiser's step on one device's shard of the output projection's weights.  The kernel walks the 512 rows in four blocks of
  128 and the reference works on the whole array; at every index both are the same expression of the weight, its gradient and
  its two moments.
-/
module

public import proofs.«01_k».proof.Proof.Gen.AdamOutIdeal.Value
public import proofs.«01_k».proof.Proof.Gen.AdamOutRefIdeal.Read
public import Idealize.ShloMosaic.PureOps.Ideal

@[expose] public section

set_option maxRecDepth 16384

noncomputable section

open Idealize.ShloMosaic Idealize.ShloMosaic.TcCoe Idealize.SL.Sem
open Cert.AdamOutRefIdeal.Read

namespace Cert.AdamOutIdeal.Value

open Cert.AdamOutIdeal Cert.AdamOutIdeal.Gen

/-- A shard of the weights, of their gradient or of a moment. -/
abbrev Shard := S1x512x1024.Idx → Elt Ideal .f32

/-- The change of the weights is the reference's. -/
theorem delta_eq (w g m v : Shard) : G4 (F := Ideal) g m v w = val_main_v23 (F := Ideal) w g m v := rfl

/-- The new first moment is the reference's. -/
theorem first_eq (g m : Shard) : G5 (F := Ideal) g m = val_main_v4 (F := Ideal) g m := rfl

/-- The new second moment is the reference's. -/
theorem second_eq (g v : Shard) : G6 (F := Ideal) g v = val_main_v10 (F := Ideal) g v := rfl

end Cert.AdamOutIdeal.Value

end
-- ==== Proof.Adam.Shards.lean ====
/-
  The claims about the optimiser's step on a device's shards of the two large matrices, the input and the output projection.
-/
module

public import proofs.«01_k».proof.Defs
public import proofs.«01_k».proof.Proof.Gen.AdamIn.Frame
public import proofs.«01_k».proof.Proof.Gen.AdamOut.Frame
public import proofs.«01_k».proof.Proof.Adam.In
public import proofs.«01_k».proof.Proof.Adam.Out
public import Idealize.ShloMosaic.Lib.Claim

@[expose] public section

set_option maxRecDepth 16384

noncomputable section

open Idealize.ShloMosaic Idealize.ShloMosaic.TcCoe Idealize.SL.Sem

namespace Cert.Proof

theorem frame_win : Cert.quiescent_AdamIn := fun m ρ _ => Cert.AdamIn.Gen.frame m ρ

theorem frame_win_ideal : Cert.quiescent_AdamInIdeal := fun m ρ _ => Cert.AdamInIdeal.Gen.frame m ρ

theorem frame_win_reference : Cert.quiescent_AdamInRefIdeal := fun m ρ _ =>
  (θ_run Cert.AdamInRefIdeal.defs _ _).mono (fun r h => ⟨fun c => (h c).2.2.2, sem_eq_zero_of_no_sems (by decide) r.2⟩)
    (Cert.AdamInRefIdeal.Value.run (F := Ideal) m ρ)

/-- The step on the input projection's shard leaves the reference's change and moments. -/
theorem algebraic_win : Cert.algebraic_AdamInIdeal_AdamInRefIdeal := by
  pair_intro
  · run_from Cert.AdamInIdeal.Value.run (F := Ideal) m g
  · refine (θ_run Cert.AdamInRefIdeal.defs _ _).mono (fun r h c => ?_) (Cert.AdamInRefIdeal.Value.run (F := Ideal) m' g')
    obtain ⟨h0, h1, h2, ha⟩ := h c
    obtain ⟨a0, a1, a2, a3⟩ := hagree c
    refine ⟨h0.trans ?_, h1.trans ?_, h2.trans ?_, ha⟩
    · rw [Cert.AdamInRefIdeal.Read.val_main_v23_eq, a0, a1, a2, a3]
      exact (Cert.AdamInIdeal.Value.delta_eq _ _ _ _).symm
    · rw [Cert.AdamInRefIdeal.Read.val_main_v4_eq, a1, a2]
      exact (Cert.AdamInIdeal.Value.first_eq _ _).symm
    · rw [Cert.AdamInRefIdeal.Read.val_main_v10_eq, a1, a3]
      exact (Cert.AdamInIdeal.Value.second_eq _ _).symm

theorem frame_wout : Cert.quiescent_AdamOut := fun m ρ _ => Cert.AdamOut.Gen.frame m ρ

theorem frame_wout_ideal : Cert.quiescent_AdamOutIdeal := fun m ρ _ => Cert.AdamOutIdeal.Gen.frame m ρ

theorem frame_wout_reference : Cert.quiescent_AdamOutRefIdeal := fun m ρ _ =>
  (θ_run Cert.AdamOutRefIdeal.defs _ _).mono (fun r h => ⟨fun c => (h c).2.2.2, sem_eq_zero_of_no_sems (by decide) r.2⟩)
    (Cert.AdamOutRefIdeal.Value.run (F := Ideal) m ρ)

/-- The step on the output projection's shard leaves the reference's change and moments. -/
theorem algebraic_wout : Cert.algebraic_AdamOutIdeal_AdamOutRefIdeal := by
  pair_intro
  · run_from Cert.AdamOutIdeal.Value.run (F := Ideal) m g
  · refine (θ_run Cert.AdamOutRefIdeal.defs _ _).mono (fun r h c => ?_) (Cert.AdamOutRefIdeal.Value.run (F := Ideal) m' g')
    obtain ⟨h0, h1, h2, ha⟩ := h c
    obtain ⟨a0, a1, a2, a3⟩ := hagree c
    refine ⟨h0.trans ?_, h1.trans ?_, h2.trans ?_, ha⟩
    · rw [Cert.AdamOutRefIdeal.Read.val_main_v23_eq, a0, a1, a2, a3]
      exact (Cert.AdamOutIdeal.Value.delta_eq _ _ _ _).symm
    · rw [Cert.AdamOutRefIdeal.Read.val_main_v4_eq, a1, a2]
      exact (Cert.AdamOutIdeal.Value.first_eq _ _).symm
    · rw [Cert.AdamOutRefIdeal.Read.val_main_v10_eq, a1, a3]
      exact (Cert.AdamOutIdeal.Value.second_eq _ _).symm

end Cert.Proof

end
-- ==== Proof.Adam.Step.lean ====
/-
  The optimiser's step of an array of any shape, entry by entry: what becomes of a weight w with gradient g and moments m and v.
-/
module

public import Idealize.ShloMosaic.PureOps.Ideal
public import Idealize.ShloMosaic.Lib.Claim

@[expose] public section

noncomputable section

open Idealize.ShloMosaic

namespace Cert.Adam

/-- An array of shape `s`. -/
abbrev Arr (s : Shape) := s.Idx → Elt Ideal .f32

/-- A number of the program, by its bits. -/
abbrev num (b : BitVec 32) : Ideal .f32 := Scalar.ofBits .f32 b

variable {s : Shape}

/-- The new first moment, 0.9 m + 0.1 g. -/
def first (g m : Arr s) : Arr s := fun i =>
  FloatOps.addf (FloatOps.mulf (num 0x3F666666#32) (m i)) (FloatOps.mulf (num 0x3DCCCCCD#32) (g i))

/-- The new second moment, 0.999 v + 0.001 g². -/
def second (g v : Arr s) : Arr s := fun i =>
  FloatOps.addf (FloatOps.mulf (num 0x3F7FBE77#32) (v i)) (FloatOps.mulf (num 0x3A83126F#32) (FloatOps.mulf (g i) (g i)))

/-- The change of the weight: the corrected first moment over the root of the corrected second, with the decay of the weight. -/
def delta (w g m v : Arr s) : Arr s := fun i =>
  FloatOps.mulf (num 0xBA83126F#32) (FloatOps.addf
    (FloatOps.divf (FloatOps.divf (first g m i) (num 0x3F26BD02#32))
      (FloatOps.addf (FloatOps.sqrt (FloatOps.divf (second g v i) (num 0x3C231ACC#32))) (num 0x322BCC77#32)))
    (FloatOps.mulf (num 0x3C23D70A#32) (w i)))

/-- What holds the step of some arrays, d its change, f its first and q its second moment, holds the step of equal arrays. -/
theorem step_of {w g m v w' g' m' v' d f q : Arr s} (hw : w' = w) (hg : g' = g) (hm : m' = m) (hv : v' = v)
    (hd : d = delta w' g' m' v') (hf : f = first g' m') (hq : q = second g' v') :
    d = delta w g m v ∧ f = first g m ∧ q = second g v := by
  subst hw hg hm hv
  exact ⟨hd, hf, hq⟩

end Cert.Adam

end
-- ==== Proof.Adam.Small.lean ====
/-
  The claims about the optimiser's step on the twelve small arrays, in three calls of four arrays each.  Of every array the change,
  the first moment and the second moment are results, in this order four by four, and `step_of` gives the three of one array.
  Of each call's last array the kernel's statement still reads the whole first moment through a load.
-/
module

public import proofs.«01_k».proof.Defs
public import proofs.«01_k».proof.Proof.Gen.AdamA.Frame
public import proofs.«01_k».proof.Proof.Gen.AdamAIdeal.Value
public import proofs.«01_k».proof.Proof.Gen.AdamARefIdeal.Read
public import proofs.«01_k».proof.Proof.Gen.AdamB.Frame
public import proofs.«01_k».proof.Proof.Gen.AdamBIdeal.Value
public import proofs.«01_k».proof.Proof.Gen.AdamBRefIdeal.Read
public import proofs.«01_k».proof.Proof.Gen.AdamC.Frame
public import proofs.«01_k».proof.Proof.Gen.AdamCIdeal.Value
public import proofs.«01_k».proof.Proof.Gen.AdamCRefIdeal.Read
public import proofs.«01_k».proof.Proof.Adam.Step
public import Idealize.ShloMosaic.Lib.Claim

@[expose] public section

set_option maxRecDepth 16384

noncomputable section

open Idealize.ShloMosaic Idealize.ShloMosaic.TcCoe Idealize.SL.Sem
open Cert.Adam

namespace Cert.Proof

theorem frame_a : Cert.quiescent_AdamA := fun m ρ _ => Cert.AdamA.Gen.frame m ρ

theorem frame_a_ideal : Cert.quiescent_AdamAIdeal := fun m ρ _ => Cert.AdamAIdeal.Gen.frame m ρ

theorem frame_a_reference : Cert.quiescent_AdamARefIdeal := fun m ρ _ =>
  (θ_run Cert.AdamARefIdeal.defs _ _).mono (fun r h => ⟨fun c => (h c).2.2.2.2.2.2.2.2.2.2.2.2,
    sem_eq_zero_of_no_sems (by decide) r.2⟩) (Cert.AdamARefIdeal.Value.run (F := Ideal) m ρ)

theorem frame_b : Cert.quiescent_AdamB := fun m ρ _ => Cert.AdamB.Gen.frame m ρ

theorem frame_b_ideal : Cert.quiescent_AdamBIdeal := fun m ρ _ => Cert.AdamBIdeal.Gen.frame m ρ

theorem frame_b_reference : Cert.quiescent_AdamBRefIdeal := fun m ρ _ =>
  (θ_run Cert.AdamBRefIdeal.defs _ _).mono (fun r h => ⟨fun c => (h c).2.2.2.2.2.2.2.2.2.2.2.2,
    sem_eq_zero_of_no_sems (by decide) r.2⟩) (Cert.AdamBRefIdeal.Value.run (F := Ideal) m ρ)

theorem frame_c : Cert.quiescent_AdamC := fun m ρ _ => Cert.AdamC.Gen.frame m ρ

theorem frame_c_ideal : Cert.quiescent_AdamCIdeal := fun m ρ _ => Cert.AdamCIdeal.Gen.frame m ρ

theorem frame_c_reference : Cert.quiescent_AdamCRefIdeal := fun m ρ _ =>
  (θ_run Cert.AdamCRefIdeal.defs _ _).mono (fun r h => ⟨fun c => (h c).2.2.2.2.2.2.2.2.2.2.2.2,
    sem_eq_zero_of_no_sems (by decide) r.2⟩) (Cert.AdamCRefIdeal.Value.run (F := Ideal) m ρ)

section

open Cert.AdamAIdeal Cert.AdamAIdeal.Gen

/-- A load of the whole of ssd_dt_bias's first moment gives it. -/
theorem whole_a (v : Arr S1x16) : View.ld (Val := Elt Ideal) (e' := .f32) v r0_3 = v :=
  View.ld_unit_zero (S := S1x16) Cert.AdamAIdeal.Value.hz11 _ v

/-- The step of norm_w, ssd_conv_w, ssd_conv_b and ssd_dt_bias. -/
theorem algebraic_a : Cert.algebraic_AdamAIdeal_AdamARefIdeal := by
  pair_intro
  · run_from Cert.AdamAIdeal.Value.run (F := Ideal) m g
  · refine (θ_run Cert.AdamARefIdeal.defs _ _).mono (fun r h c => ?_) (Cert.AdamARefIdeal.Value.run (F := Ideal) m' g')
    obtain ⟨h0, h1, h2, h3, h4, h5, h6, h7, h8, h9, h10, h11, ha⟩ := h c
    obtain ⟨a0, a1, a2, a3, a4, a5, a6, a7, a8, a9, a10, a11, a12, a13, a14, a15⟩ := hagree c
    obtain ⟨d0, f0, q0⟩ := step_of (s := S1x1024) a0 a4 a8 a12 h0 h4 h8
    obtain ⟨d1, f1, q1⟩ := step_of (s := S4x384) a1 a5 a9 a13 h1 h5 h9
    obtain ⟨d2, f2, q2⟩ := step_of (s := S1x1536) a2 a6 a10 a14 h2 h6 h10
    obtain ⟨d3, f3, q3⟩ := step_of (s := S1x16) a3 a7 (a11.trans (whole_a _).symm) a15 h3 h7 h11
    exact ⟨d0, d1, d2, d3, f0, f1, f2, f3, q0, q1, q2, q3, ha⟩

end

section

open Cert.AdamBIdeal Cert.AdamBIdeal.Gen

/-- A load of the whole of gdn_conv_w's first moment gives it. -/
theorem whole_b (v : Arr S4x768) : View.ld (Val := Elt Ideal) (e' := .f32) v r0_2 = v :=
  View.ld_unit_zero (S := S4x768) Cert.AdamBIdeal.Value.hz11 _ v

/-- The step of ssd_a_log, ssd_d, ssd_norm_w and gdn_conv_w. -/
theorem algebraic_b : Cert.algebraic_AdamBIdeal_AdamBRefIdeal := by
  pair_intro
  · run_from Cert.AdamBIdeal.Value.run (F := Ideal) m g
  · refine (θ_run Cert.AdamBRefIdeal.defs _ _).mono (fun r h c => ?_) (Cert.AdamBRefIdeal.Value.run (F := Ideal) m' g')
    obtain ⟨h0, h1, h2, h3, h4, h5, h6, h7, h8, h9, h10, h11, ha⟩ := h c
    obtain ⟨a0, a1, a2, a3, a4, a5, a6, a7, a8, a9, a10, a11, a12, a13, a14, a15⟩ := hagree c
    obtain ⟨d0, f0, q0⟩ := step_of (s := S1x16) a0 a4 a8 a12 h0 h4 h8
    obtain ⟨d1, f1, q1⟩ := step_of (s := S1x16) a1 a5 a9 a13 h1 h5 h9
    obtain ⟨d2, f2, q2⟩ := step_of (s := S1x1024) a2 a6 a10 a14 h2 h6 h10
    obtain ⟨d3, f3, q3⟩ := step_of (s := S4x768) a3 a7 (a11.trans (whole_b _).symm) a15 h3 h7 h11
    exact ⟨d0, d1, d2, d3, f0, f1, f2, f3, q0, q1, q2, q3, ha⟩

end

section

open Cert.AdamCIdeal Cert.AdamCIdeal.Gen

/-- A load of the whole of final_norm_w's first moment gives it. -/
theorem whole_c (v : Arr S1x1024) : View.ld (Val := Elt Ideal) (e' := .f32) v r0_2 = v :=
  View.ld_unit_zero (S := S1x1024) Cert.AdamCIdeal.Value.hz11 _ v

/-- The step of gdn_dt_bias, gdn_a_log, gdn_norm_w and final_norm_w. -/
theorem algebraic_c : Cert.algebraic_AdamCIdeal_AdamCRefIdeal := by
  pair_intro
  · run_from Cert.AdamCIdeal.Value.run (F := Ideal) m g
  · refine (θ_run Cert.AdamCRefIdeal.defs _ _).mono (fun r h c => ?_) (Cert.AdamCRefIdeal.Value.run (F := Ideal) m' g')
    obtain ⟨h0, h1, h2, h3, h4, h5, h6, h7, h8, h9, h10, h11, ha⟩ := h c
    obtain ⟨a0, a1, a2, a3, a4, a5, a6, a7, a8, a9, a10, a11, a12, a13, a14, a15⟩ := hagree c
    obtain ⟨d0, f0, q0⟩ := step_of (s := S1x8) a0 a4 a8 a12 h0 h4 h8
    obtain ⟨d1, f1, q1⟩ := step_of (s := S1x8) a1 a5 a9 a13 h1 h5 h9
    obtain ⟨d2, f2, q2⟩ := step_of (s := S1x128) a2 a6 a10 a14 h2 h6 h10
    obtain ⟨d3, f3, q3⟩ := step_of (s := S1x1024) a3 a7 (a11.trans (whole_c _).symm) a15 h3 h7 h11
    exact ⟨d0, d1, d2, d3, f0, f1, f2, f3, q0, q1, q2, q3, ha⟩

end

end Cert.Proof

end
-- ==== Proof.Adam.Sum.lean ====
/-
  The sum over the eight devices of the small gradients and the loss, and the cuts that make the results of it.  The kernel adds
  the slabs one after another and the reference sums the array over its first axis; both then cut the sum alike.
-/
module

public import proofs.«01_k».proof.Defs
public import proofs.«01_k».proof.Proof.Gen.SumSmall.Frame
public import proofs.«01_k».proof.Proof.Gen.SumSmallIdeal.Frame
public import proofs.«01_k».proof.Proof.Gen.SumSmallRefIdeal.Read
public import Idealize.ShloMosaic.Lib.Pointwise
public import Idealize.ShloMosaic.Lib.Claim

@[expose] public section

set_option maxRecDepth 16384

noncomputable section

open Idealize.ShloMosaic Idealize.ShloMosaic.TcCoe Idealize.SL.Sem
open Cert.SumSmallRefIdeal.Read

namespace Cert.SumSmallIdeal.Value

open Cert.SumSmallIdeal Cert.SumSmallIdeal.Gen

/-- The entry of slab k that is summed into entry (r, c). -/
theorem slab (r : Fin 8) (c : Fin 8320) (k : Fin 8) : idx_main_v0 (ix2 r c) k = ix3 k r c := by
  funext a
  fin_cases a <;> rfl

/-- What the kernel stores: its eight slabs added one after another. -/
abbrev added (a : Vec Ideal S8x8x8320 .f32) : Vec Ideal S8x8320 .f32 :=
  k0_pay1 (View.ld a r0_0) (View.ld a r0_1) (View.ld a r0_2) (View.ld a r0_3) (View.ld a r0_4) (View.ld a r0_5) (View.ld a r0_6)
    (View.ld a r0_7)

/-- The eight slabs added one after another are their sum. -/
theorem sum_eq (a : Vec Ideal S8x8x8320 .f32) : added a = val_main_v0 (F := Ideal) a := by
  funext i
  rw [val_main_v0_apply, Fin.sum_univ_eight]
  idx_vars i
  pointwise [k0_pay1, val_main_cst_apply, slab]

variable (m : (ℓ : Loc nD τ sig) → Buf (Elt Ideal) ℓ) (ρ : Dev nD → PrngReg)

/-- The only block of the slabs starts at 0. -/
theorem start_in : ∀ (t : Fin cfg0.N) (a : Fin 3), win0_0.index t a = 0 :=
  (by decide +kernel : ∀ (t : Fin grid0.N) (a : Fin 3), win0_0.index t a = 0)

/-- The only block of the sum starts at 0. -/
theorem start_out : ∀ (t : Fin cfg0.N) (a : Fin 2), win0_1.index t a = 0 :=
  (by decide +kernel : ∀ (t : Fin grid0.N) (a : Fin 2), win0_1.index t a = 0)

/-- So an entry of the slabs' block is the same entry of the slabs. -/
theorem same_in (t : Fin cfg0.N) (j : S8x8x8320.Idx) : ((cfg0.win 0).blk t).view.emb j = j := by
  have h := start_in t
  funext a
  apply Fin.ext
  fin_cases a
  · show win0_0.index t 0 * 8 + 1 * (j 0).val = (j 0).val
    rw [h]; omega
  · show win0_0.index t 1 * 8 + 1 * (j 1).val = (j 1).val
    rw [h]; omega
  · show win0_0.index t 2 * 8320 + 1 * (j 2).val = (j 2).val
    rw [h]; omega

/-- And an entry of the sum's block is the same entry of the sum. -/
theorem same_out (t : Fin cfg0.N) (j : S8x8320.Idx) : ((cfg0.win 1).blk t).view.emb j = j := by
  have h := start_out t
  funext a
  apply Fin.ext
  fin_cases a
  · show win0_1.index t 0 * 8 + 1 * (j 0).val = (j 0).val
    rw [h]; omega
  · show win0_1.index t 1 * 8320 + 1 * (j 1).val = (j 1).val
    rw [h]; omega

/-- The kernel reads all the slabs. -/
theorem slabs (c : Dev nD) (t : Fin cfg0.N) : iblk m c 0 t = m ((c : Thread nD τ).loc main_arg0) := by
  funext j
  show V m c main_arg0 (((cfg0.win 0).blk t).view.emb j) = V m c main_arg0 j
  rw [same_in]

theorem zero : (![0, 0] : Fin 2 → Nat) = fun _ => 0 := by
  funext a
  fin_cases a <;> rfl

/-- What is written back is the sum. -/
theorem written (c : Dev nD) (t : Fin cfg0.N) : (dats m 0 c).flushed 1 t =
    ((cfg0.win 1).blk t).view.read (Elt Ideal) (val_main_v0 (F := Ideal) (m ((c : Thread nD τ).loc main_arg0))) := by
  show (cfg0.win 1).cut (grid0.coords t) ((dats m 0 c).after 1 t) = _
  rw [after0_1, slabs]
  unfold out0_1
  rw [View.canon_unit_zero zero]
  funext j
  show added (m ((c : Thread nD τ).loc main_arg0)) j = val_main_v0 (F := Ideal) _ (((cfg0.win 1).blk t).view.emb j)
  rw [same_out, sum_eq]

/-- After the call its result is the sum. -/
theorem total (c : Dev nD) :
    (dats m 0 c).arrAt 1 cfg0.N = val_main_v0 (F := Ideal) (m ((c : Thread nD τ).loc main_arg0)) :=
  (dats m 0 c).arrAt_eq_of_cover 1 (val_main_v0 (F := Ideal) (m ((c : Thread nD τ).loc main_arg0))) (fun t _ => written m c t)
    fun i => ⟨⟨0, by decide⟩, flush0_1 _, by
      have h := ((cfg0.win 1).blk (⟨0, by decide⟩ : Fin cfg0.N)).view.emb_mem_set i
      rwa [same_out] at h⟩

/-- Where the call's result is the sum of `x`, the cuts after it are the reference's cuts. -/
theorem cuts (W : Valuation τ sig (Elt Ideal)) (x : Vec Ideal S8x8x8320 .f32)
    (h : W (Proc.devRef .tc main_v0) = val_main_v0 (F := Ideal) x) :
    StableHlo.after hostOps1 W (Proc.devRef .tc main_v2) = val_main_v2 (F := Ideal) x ∧
    StableHlo.after hostOps1 W (Proc.devRef .tc main_v3) = val_main_v3 (F := Ideal) x ∧
    StableHlo.after hostOps1 W (Proc.devRef .tc main_v4) = val_main_v4 (F := Ideal) x ∧
    StableHlo.after hostOps1 W (Proc.devRef .tc main_v5) = val_main_v5 (F := Ideal) x ∧
    StableHlo.after hostOps1 W (Proc.devRef .tc main_v6) = val_main_v6 (F := Ideal) x ∧
    StableHlo.after hostOps1 W (Proc.devRef .tc main_v7) = val_main_v7 (F := Ideal) x ∧
    StableHlo.after hostOps1 W (Proc.devRef .tc main_v8) = val_main_v8 (F := Ideal) x ∧
    StableHlo.after hostOps1 W (Proc.devRef .tc main_v9) = val_main_v9 (F := Ideal) x ∧
    StableHlo.after hostOps1 W (Proc.devRef .tc main_v10) = val_main_v10 (F := Ideal) x ∧
    StableHlo.after hostOps1 W (Proc.devRef .tc main_v11) = val_main_v11 (F := Ideal) x ∧
    StableHlo.after hostOps1 W (Proc.devRef .tc main_v12) = val_main_v12 (F := Ideal) x ∧
    StableHlo.after hostOps1 W (Proc.devRef .tc main_v13) = val_main_v13 (F := Ideal) x ∧
    StableHlo.after hostOps1 W (Proc.devRef .tc main_v14) = val_main_v14 (F := Ideal) x := by
  refine ⟨?_, ?_, ?_, ?_, ?_, ?_, ?_, ?_, ?_, ?_, ?_, ?_, ?_⟩ <;> after_results <;> rw [h] <;> rfl

/-- The kernel's run: the thirteen cuts are the reference's. -/
theorem run : θ_run defs (onTc (τ := τ) (main (F := Ideal))) ⟨m, fun _ => 0, ρ⟩ fun r => ∀ c : Dev nD,
    r.2.mem ((c : Thread nD τ).loc main_v2) = val_main_v2 (F := Ideal) (m ((c : Thread nD τ).loc main_arg0)) ∧
    r.2.mem ((c : Thread nD τ).loc main_v3) = val_main_v3 (F := Ideal) (m ((c : Thread nD τ).loc main_arg0)) ∧
    r.2.mem ((c : Thread nD τ).loc main_v4) = val_main_v4 (F := Ideal) (m ((c : Thread nD τ).loc main_arg0)) ∧
    r.2.mem ((c : Thread nD τ).loc main_v5) = val_main_v5 (F := Ideal) (m ((c : Thread nD τ).loc main_arg0)) ∧
    r.2.mem ((c : Thread nD τ).loc main_v6) = val_main_v6 (F := Ideal) (m ((c : Thread nD τ).loc main_arg0)) ∧
    r.2.mem ((c : Thread nD τ).loc main_v7) = val_main_v7 (F := Ideal) (m ((c : Thread nD τ).loc main_arg0)) ∧
    r.2.mem ((c : Thread nD τ).loc main_v8) = val_main_v8 (F := Ideal) (m ((c : Thread nD τ).loc main_arg0)) ∧
    r.2.mem ((c : Thread nD τ).loc main_v9) = val_main_v9 (F := Ideal) (m ((c : Thread nD τ).loc main_arg0)) ∧
    r.2.mem ((c : Thread nD τ).loc main_v10) = val_main_v10 (F := Ideal) (m ((c : Thread nD τ).loc main_arg0)) ∧
    r.2.mem ((c : Thread nD τ).loc main_v11) = val_main_v11 (F := Ideal) (m ((c : Thread nD τ).loc main_arg0)) ∧
    r.2.mem ((c : Thread nD τ).loc main_v12) = val_main_v12 (F := Ideal) (m ((c : Thread nD τ).loc main_arg0)) ∧
    r.2.mem ((c : Thread nD τ).loc main_v13) = val_main_v13 (F := Ideal) (m ((c : Thread nD τ).loc main_arg0)) ∧
    r.2.mem ((c : Thread nD τ).loc main_v14) = val_main_v14 (F := Ideal) (m ((c : Thread nD τ).loc main_arg0)) ∧
    r.2.mem ((c : Thread nD τ).loc main_arg0) = m ((c : Thread nD τ).loc main_arg0) := by
  refine (θ_run defs _ _).mono (fun r h c => ?_) (θ_run_and (run_main m ρ) (unchanged m ρ))
  have keep (b : Ref sig .tc) (hs : b.isScoped = false) (ha : ∀ w, (spec0 w).arr.view.ref ≠ b) :
      r.2.mem ((c : Thread nD τ).loc b) = StableHlo.after hostOps1
        (Pipeline.withArrays spec0 c (V0 m c) fun w => (dats m 0 c).arrAt w cfg0.N) (Proc.devRef .tc b) :=
    (h.1 c).2 b (Pipeline.mem_restRefs_of b hs ha)
  obtain ⟨e2, e3, e4, e5, e6, e7, e8, e9, e10, e11, e12, e13, e14⟩ := cuts _ _
    ((Pipeline.withArrays_arr spec0 launch0.win.arr_inj c (V0 m c) (fun w => (dats m 0 c).arrAt w cfg0.N) 1).trans (total m c))
  refine ⟨(keep main_v2 ?_ ?_).trans e2, (keep main_v3 ?_ ?_).trans e3, (keep main_v4 ?_ ?_).trans e4,
    (keep main_v5 ?_ ?_).trans e5, (keep main_v6 ?_ ?_).trans e6, (keep main_v7 ?_ ?_).trans e7,
    (keep main_v8 ?_ ?_).trans e8, (keep main_v9 ?_ ?_).trans e9, (keep main_v10 ?_ ?_).trans e10,
    (keep main_v11 ?_ ?_).trans e11, (keep main_v12 ?_ ?_).trans e12, (keep main_v13 ?_ ?_).trans e13,
    (keep main_v14 ?_ ?_).trans e14, h.2 c⟩ <;> decide

end Cert.SumSmallIdeal.Value

namespace Cert.Proof

theorem frame_sum : Cert.quiescent_SumSmall := fun m ρ _ => Cert.SumSmall.Gen.frame m ρ

theorem frame_sum_ideal : Cert.quiescent_SumSmallIdeal := fun m ρ _ => Cert.SumSmallIdeal.Gen.frame m ρ

theorem frame_sum_reference : Cert.quiescent_SumSmallRefIdeal := fun m ρ _ =>
  (θ_run Cert.SumSmallRefIdeal.defs _ _).mono (fun r h => ⟨fun c => (h c).2.2.2.2.2.2.2.2.2.2.2.2.2, sem_eq_zero_of_no_sems (by decide) r.2⟩)
    (Cert.SumSmallRefIdeal.Value.run (F := Ideal) m ρ)

/-- The kernel leaves the cuts of the reference's sum over the devices: the loss and the gradients of the small arrays. -/
theorem algebraic_sum : Cert.algebraic_SumSmallIdeal_SumSmallRefIdeal := by
  pair_intro
  · run_from Cert.SumSmallIdeal.Value.run m g
  · refine (θ_run Cert.SumSmallRefIdeal.defs _ _).mono (fun r h c => ?_) (Cert.SumSmallRefIdeal.Value.run (F := Ideal) m' g')
    have hc := h c
    rw [hagree c] at hc ⊢
    exact hc

end Cert.Proof

end
-- ==== Proof.lean ====
/-
  The proof of this directory's certificate: the output projection's kernel (loss and backward pass), the input projection's
  backward kernel, the convolution's backward kernel, the optimiser's kernels and the sum over the devices run and leave their
  arguments alone, and over the extended reals their results are the references'.
-/
module

public import proofs.«01_k».proof.Defs
public import proofs.«01_k».proof.Proof.Gen.Kernel.Frame
public import proofs.«01_k».proof.Proof.Gen.BwdXIdeal.Value
public import proofs.«01_k».proof.Proof.Gen.BwdX.Frame
public import proofs.«01_k».proof.Proof.Gen.ConvBwd.Frame
public import proofs.«01_k».proof.Proof.Gen.ConvBwdIdeal.Value
public import proofs.«01_k».proof.Proof.Gen.ConvBwdRefIdeal.Read
public import proofs.«01_k».proof.Proof.Gen.BwdXRefIdeal.Read
public import proofs.«01_k».proof.Proof.Gen.KernelIdeal.Value
public import proofs.«01_k».proof.Proof.Gen.ReferenceIdeal.Read
public import proofs.«01_k».proof.Proof.OutProj.Weights
public import proofs.«01_k».proof.Proof.InProj.Results
public import proofs.«01_k».proof.Proof.Conv.Results
public import proofs.«01_k».proof.Proof.Gen.AdamIn.Frame
public import proofs.«01_k».proof.Proof.Gen.AdamInIdeal.Value
public import proofs.«01_k».proof.Proof.Gen.AdamInRefIdeal.Read
public import proofs.«01_k».proof.Proof.Gen.AdamOut.Frame
public import proofs.«01_k».proof.Proof.Gen.AdamOutIdeal.Value
public import proofs.«01_k».proof.Proof.Gen.AdamOutRefIdeal.Read
public import proofs.«01_k».proof.Proof.Gen.AdamA.Frame
public import proofs.«01_k».proof.Proof.Gen.AdamAIdeal.Value
public import proofs.«01_k».proof.Proof.Gen.AdamARefIdeal.Read
public import proofs.«01_k».proof.Proof.Gen.AdamB.Frame
public import proofs.«01_k».proof.Proof.Gen.AdamBIdeal.Value
public import proofs.«01_k».proof.Proof.Gen.AdamBRefIdeal.Read
public import proofs.«01_k».proof.Proof.Gen.AdamC.Frame
public import proofs.«01_k».proof.Proof.Gen.AdamCIdeal.Value
public import proofs.«01_k».proof.Proof.Gen.AdamCRefIdeal.Read
public import proofs.«01_k».proof.Proof.Gen.SumSmall.Frame
public import proofs.«01_k».proof.Proof.Gen.SumSmallIdeal.Frame
public import proofs.«01_k».proof.Proof.Gen.SumSmallRefIdeal.Read
public import proofs.«01_k».proof.Proof.Adam.Shards
public import proofs.«01_k».proof.Proof.Adam.Small
public import proofs.«01_k».proof.Proof.Adam.Sum
public import Idealize.ShloMosaic.Lib.Claim

@[expose] public section

set_option maxRecDepth 16384

noncomputable section

open Idealize.ShloMosaic Idealize.ShloMosaic.TcCoe Idealize.SL.Sem

namespace Cert.Proof

theorem frame_kernel : Cert.quiescent_Kernel := fun m ρ _ => Cert.Kernel.Gen.frame m ρ

theorem frame_kernel_ideal : Cert.quiescent_KernelIdeal := fun m ρ _ => Cert.KernelIdeal.Gen.frame m ρ

/-- The reference is a straight-line host program without semaphores. -/
theorem frame_reference : Cert.quiescent_ReferenceIdeal := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)

/-- Every result of the output-projection kernel is the reference's array. -/
theorem algebraic : Cert.algebraic_KernelIdeal_ReferenceIdeal := by
  pair_intro
  · run_from Cert.KernelIdeal.Value.run_blocks m g
  · refine (θ_run Cert.ReferenceIdeal.defs _ _).mono (fun r h c => ?_) (Cert.ReferenceIdeal.Value.run (F := Ideal) m' g')
    obtain ⟨h0, h1, h2, h3, h4, h5, ha⟩ := h c
    obtain ⟨a0, a1, a2, a3, a4, a5⟩ := hagree c
    refine ⟨h0.trans ?_, h1.trans ?_, h2.trans ?_, h3.trans ?_, h4.trans ?_, h5.trans ?_, ha⟩
    · rw [Cert.ReferenceIdeal.Read.val_main_v60_eq, a0, a1, a2, a3, a4, a5]
      exact (Cert.KernelIdeal.Value.final6 m c).symm
    · rw [Cert.ReferenceIdeal.Read.val_main_v54_eq, a0, a1, a2, a3, a4, a5]
      exact (Cert.KernelIdeal.Value.final7 m c).symm
    · rw [Cert.ReferenceIdeal.Read.val_main_v58_eq, a0, a1, a2, a3, a4, a5]
      exact (Cert.KernelIdeal.Value.final8 m c).symm
    · rw [Cert.ReferenceIdeal.Read.val_main_v59_eq, a0, a1, a2, a3, a4, a5]
      exact (Cert.KernelIdeal.Value.final9 m c).symm
    · rw [Cert.ReferenceIdeal.Read.val_main_v56_eq, a0, a1, a2, a3, a4, a5]
      exact (Cert.KernelIdeal.Value.final10 m c).symm
    · rw [Cert.ReferenceIdeal.Read.val_main_v38_eq, a0, a1, a2, a3, a4, a5]
      exact (Cert.KernelIdeal.Value.final11 m c).symm

theorem frame_inproj : Cert.quiescent_BwdX := fun m ρ _ => Cert.BwdX.Gen.frame m ρ

theorem frame_inproj_ideal : Cert.quiescent_BwdXIdeal := fun m ρ _ => Cert.BwdXIdeal.Gen.frame m ρ

theorem frame_inproj_reference : Cert.quiescent_BwdXRefIdeal := fun m ρ _ =>
  (θ_run Cert.BwdXRefIdeal.defs _ _).mono (fun r h => ⟨fun c => (h c).2.2, sem_eq_zero_of_no_sems (by decide) r.2⟩)
    (Cert.BwdXRefIdeal.Value.run (F := Ideal) m ρ)

/-- Both results of the input projection's backward kernel are the reference's arrays. -/
theorem algebraic_inproj : Cert.algebraic_BwdXIdeal_BwdXRefIdeal := by
  pair_intro
  · run_from Cert.BwdXIdeal.Value.run_blocks m g
  · refine (θ_run Cert.BwdXRefIdeal.defs _ _).mono (fun r h c => ?_) (Cert.BwdXRefIdeal.Value.run (F := Ideal) m' g')
    obtain ⟨h0, h1, ha⟩ := h c
    obtain ⟨a0, a1, a2, a3, a4, a5, a6, a7⟩ := hagree c
    refine ⟨h0.trans ?_, h1.trans ?_, ha⟩
    · rw [Cert.BwdXRefIdeal.Read.val_main_v53_eq, a0, a1, a2, a3, a4, a5, a6, a7]
      exact (Cert.BwdXIdeal.Value.final9 m c).symm
    · rw [Cert.BwdXRefIdeal.Read.val_main_v36_eq, a0, a2, a3, a4, a5, a6]
      exact (Cert.BwdXIdeal.Value.final10 m c).symm

theorem frame_conv : Cert.quiescent_ConvBwd := fun m ρ _ => Cert.ConvBwd.Gen.frame m ρ

theorem frame_conv_ideal : Cert.quiescent_ConvBwdIdeal := fun m ρ _ => Cert.ConvBwdIdeal.Gen.frame m ρ

theorem frame_conv_reference : Cert.quiescent_ConvBwdRefIdeal := fun m ρ _ =>
  (θ_run Cert.ConvBwdRefIdeal.defs _ _).mono (fun r h => ⟨fun c => (h c).2.2.2, sem_eq_zero_of_no_sems (by decide) r.2⟩)
    (Cert.ConvBwdRefIdeal.Value.run (F := Ideal) m ρ)

/-- The three results of the convolution's backward kernel are the reference's arrays. -/
theorem algebraic_conv : Cert.algebraic_ConvBwdIdeal_ConvBwdRefIdeal := by
  pair_intro
  · run_from Cert.ConvBwdIdeal.Value.run_blocks m g
  · refine (θ_run Cert.ConvBwdRefIdeal.defs _ _).mono (fun r h c => ?_) (Cert.ConvBwdRefIdeal.Value.run (F := Ideal) m' g')
    obtain ⟨h0, h1, h2, ha⟩ := h c
    obtain ⟨a0, a1, a2, a3, a4⟩ := hagree c
    refine ⟨h0.trans ?_, h1.trans ?_, h2.trans ?_, ha⟩
    · rw [Cert.ConvBwdRefIdeal.Read.val_main_v80_eq, a2, a3, a4]
      exact (Cert.ConvBwdIdeal.Value.final7 m c).symm
    · rw [Cert.ConvBwdRefIdeal.Read.val_main_v82_eq, a0, a2, a3, a4]
      exact (Cert.ConvBwdIdeal.Value.final8 m c).symm
    · rw [Cert.ConvBwdRefIdeal.Read.val_main_v84_eq, a1, a3, a4]
      exact (Cert.ConvBwdIdeal.Value.final9 m c).symm

theorem claim : Cert.Claim := ⟨Cert.Kernel.Gen.facts, Cert.KernelIdeal.Gen.facts, Cert.ReferenceIdeal.Gen.facts,
  Cert.BwdX.Gen.facts, Cert.BwdXIdeal.Gen.facts, Cert.BwdXRefIdeal.Gen.facts,
  Cert.ConvBwd.Gen.facts, Cert.ConvBwdIdeal.Gen.facts, Cert.ConvBwdRefIdeal.Gen.facts,
  Cert.AdamIn.Gen.facts, Cert.AdamInIdeal.Gen.facts, Cert.AdamInRefIdeal.Gen.facts,
  Cert.AdamOut.Gen.facts, Cert.AdamOutIdeal.Gen.facts, Cert.AdamOutRefIdeal.Gen.facts,
  Cert.AdamA.Gen.facts, Cert.AdamAIdeal.Gen.facts, Cert.AdamARefIdeal.Gen.facts,
  Cert.AdamB.Gen.facts, Cert.AdamBIdeal.Gen.facts, Cert.AdamBRefIdeal.Gen.facts,
  Cert.AdamC.Gen.facts, Cert.AdamCIdeal.Gen.facts, Cert.AdamCRefIdeal.Gen.facts,
  Cert.SumSmall.Gen.facts, Cert.SumSmallIdeal.Gen.facts, Cert.SumSmallRefIdeal.Gen.facts,
  frame_kernel, frame_kernel_ideal,
  frame_reference, frame_inproj, frame_inproj_ideal, frame_inproj_reference, frame_conv, frame_conv_ideal, frame_conv_reference,
  frame_win, frame_win_ideal, frame_win_reference, frame_wout, frame_wout_ideal, frame_wout_reference,
  frame_a, frame_a_ideal, frame_a_reference, frame_b, frame_b_ideal, frame_b_reference,
  frame_c, frame_c_ideal, frame_c_reference, frame_sum, frame_sum_ideal, frame_sum_reference,
  trivial, algebraic, trivial, algebraic_inproj, trivial, algebraic_conv, trivial, algebraic_win, trivial, algebraic_wout,
  trivial, algebraic_a, trivial, algebraic_b, trivial, algebraic_c, trivial, algebraic_sum⟩

end Cert.Proof

end
